-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = Layout.block ⟨3, ![1, 256, 1024]⟩ ⟨3, ![1, 1024, 1024]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 1024]⟩ ⟨2, ![1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v35) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S1x256x1024 : Shape := ⟨3, ![1, 256, 1024]⟩
abbrev S1024x1024 : Shape := ⟨2, ![1024, 1024]⟩
abbrev S1x4096x32x128 : Shape := ⟨4, ![1, 4096, 32, 128]⟩
abbrev S_ : Shape := ⟨0, ![]⟩

class Facts : Prop where
  bcast_S_S1x256x1024 : S_.BroadcastsInDim S1x256x1024 (![] : Fin 0 → Fin S1x256x1024.rank)
  reducesTo_S1x256x1024_S_d0_1_2 : S1x256x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x4096x32x128 : S_.BroadcastsInDim S1x4096x32x128 (![] : Fin 0 → Fin S1x4096x32x128.rank)
  reducesTo_S1x4096x32x128_S_d0_1_2_3 : S1x4096x32x128.ReducesTo [0, 1, 2, 3] S_

variable [Facts]

def fn {F : FTy → Type} [FloatOps F] (main_arg0 : FVec F S1x256x1024 .f32) (main_arg1 : FVec F S1024x1024 .f32) (main_arg2 : FVec F S1x4096x32x128 .f32) (main_arg3 : FVec F S1x4096x32x128 .f32) (main_arg4 : FVec F S1024x1024 .f32) : IVec S_ 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_c : IVec S_ 1 := constantI S_ 1 1#1
  let main_v3 : IVec S_ 1 := (fun x v => Host.reduce IntOp.andi x v reducesTo_S1x256x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x4096x32x128 .f32 := Host.absf main_arg2
  let main_cst_2 : FVec F S_ .f32 := constant S_ .f32 0x7F800000#32
  let main_v10 : FVec F S1x4096x32x128 .f32 := broadcastInDim S1x4096x32x128 ![] bcast_S_S1x4096x32x128 main_cst_2
  let main_v11 : IVec S1x4096x32x128 1 := cmpf .olt main_v9 main_v10
  let main_c_3 : IVec S_ 1 := constantI S_ 1 1#1
  let main_v12 : IVec S_ 1 := (fun x v => Host.reduce IntOp.andi x v reducesTo_S1x4096x32x128_S_d0_1_2_3 h_S_) main_v11 main_c_3
  let main_v13 : IVec S_ 1 := andi main_v8 main_v12
  main_v13
-- ==== Pre_finite_scores_ReferenceIdeal.lean ====
abbrev S1x1024x1024 : Shape := ⟨3, ![1, 1024, 1024]⟩
abbrev S1024x4096 : Shape := ⟨2, ![1024, 4096]⟩
abbrev S1x4096x32x128 : Shape := ⟨4, ![1, 4096, 32, 128]⟩
abbrev S4096x1024 : Shape := ⟨2, ![4096, 1024]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S1x4096x32x128 : S_.BroadcastsInDim S1x4096x32x128 (![] : Fin 0 → Fin S1x4096x32x128.rank)
  reducesTo_S1x4096x32x128_S_d0_1_2_3 : S1x4096x32x128.ReducesTo [0, 1, 2, 3] S_

variable [Facts]

def fn {F : FTy → Type} [FloatOps F] (main_arg0 : FVec F S1x1024x1024 .f32) (main_arg1 : FVec F S1024x4096 .f32) (main_arg2 : FVec F S1x4096x32x128 .f32) (main_arg3 : FVec F S1x4096x32x128 .f32) (main_arg4 : FVec F S4096x1024 .f32) : IVec S_ 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_c : IVec S_ 1 := constantI S_ 1 1#1
  let main_v3 : IVec S_ 1 := (fun x v => Host.reduce IntOp.andi x v reducesTo_S1x1024x1024_S_d0_1_2 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S1x4096x32x128 .f32 := Host.absf main_arg2
  let main_cst_2 : FVec F S_ .f32 := constant S_ .f32 0x7F800000#32
  let main_v10 : FVec F S1x4096x32x128 .f32 := broadcastInDim S1x4096x32x128 ![] bcast_S_S1x4096x32x128 main_cst_2
  let main_v11 : IVec S1x4096x32x128 1 := cmpf .olt main_v9 main_v10
  let main_c_3 : IVec S_ 1 := constantI S_ 1 1#1
  let main_v12 : IVec S_ 1 := (fun x v => Host.reduce IntOp.andi x v reducesTo_S1x4096x32x128_S_d0_1_2_3 h_S_) main_v11 main_c_3
  let main_v13 : IVec S_ 1 := andi main_v8 main_v12
  main_v13
-- ==== Kernel.lean ====
abbrev S1x256x1024 : Shape := ⟨3, ![1, 256, 1024]⟩
abbrev S1024x1024 : Shape := ⟨2, ![1024, 1024]⟩
abbrev S1x4096x32x128 : Shape := ⟨4, ![1, 4096, 32, 128]⟩
abbrev S256x1024 : Shape := ⟨2, ![256, 1024]⟩
abbrev S4x256x1024 : Shape := ⟨3, ![4, 256, 1024]⟩
abbrev S3x256x1024 : Shape := ⟨3, ![3, 256, 1024]⟩
abbrev S8x1024x128 : Shape := ⟨3, ![8, 1024, 128]⟩
abbrev S3 : Shape := ⟨1, ![3]⟩
abbrev S2x8 : Shape := ⟨2, ![2, 8]⟩
abbrev S2 : Shape := ⟨1, ![2]⟩
abbrev S1 : Shape := ⟨1, ![1]⟩
abbrev S_ : Shape := ⟨0, ![]⟩
abbrev S1x1 : Shape := ⟨2, ![1, 1]⟩
abbrev S1x1024x128 : Shape := ⟨3, ![1, 1024, 128]⟩
abbrev S1024x128 : Shape := ⟨2, ![1024, 128]⟩
abbrev S1x1024x1x128 : Shape := ⟨4, ![1, 1024, 1, 128]⟩
abbrev S256x128 : Shape := ⟨2, ![256, 128]⟩
abbrev S256 : Shape := ⟨1, ![256]⟩
abbrev S256x1 : Shape := ⟨2, ![256, 1]⟩

abbrev nBuf : Space → Nat
  | .hbm => 6
  | .vmem => 16
  | .smem => 0
  | _ => 0

abbrev bufTy : (tb : Table) → Fin (tcTables nBuf tb) → BufTy
  | .hbm, ⟨0, _⟩ => ⟨S1x256x1024, .f32⟩
  | .hbm, ⟨1, _⟩ => ⟨S1024x1024, .f32⟩
  | .hbm, ⟨2, _⟩ => ⟨S1x4096x32x128, .f32⟩
  | .hbm, ⟨3, _⟩ => ⟨S1x4096x32x128, .f32⟩
  | .hbm, ⟨4, _⟩ => ⟨S1024x1024, .f32⟩
  | .hbm, ⟨5, _⟩ => ⟨S256x1024, .bf16⟩
  | .local _ .vmem, ⟨0, _⟩ => ⟨S1x256x1024, .f32⟩
  | .local _ .vmem, ⟨1, _⟩ => ⟨S256x1024, .bf16⟩
  | .local _ .vmem, ⟨2, _⟩ => ⟨S4x256x1024, .bf16⟩
  | .local _ .vmem, ⟨3, _⟩ => ⟨S256x1024, .f32⟩
  | .local _ .vmem, ⟨4, _⟩ => ⟨S3x256x1024, .bf16⟩
  | .local _ .vmem, ⟨5, _⟩ => ⟨S3x256x1024, .bf16⟩
  | .local _ .vmem, ⟨6, _⟩ => ⟨S256x1024, .bf16⟩
  | .local _ .vmem, ⟨7, _⟩ => ⟨S8x1024x128, .f32⟩
  | .local _ .vmem, ⟨8, _⟩ => ⟨S8x1024x128, .f32⟩
  | .local _ .vmem, ⟨9, _⟩ => ⟨S8x1024x128, .bf16⟩
  | .local _ .vmem, ⟨10, _⟩ => ⟨S8x1024x128, .bf16⟩
  | .local _ .vmem, ⟨11, _⟩ => ⟨S1024x1024, .f32⟩
  | .local _ .vmem, ⟨12, _⟩ => ⟨S1024x1024, .f32⟩
  | .local _ .vmem, ⟨13, _⟩ => ⟨S1024x1024, .bf16⟩
  | .local _ .vmem, ⟨14, _⟩ => ⟨S1024x1024, .bf16⟩
  | .local _ .vmem, ⟨15, _⟩ => ⟨S4x256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 1 → Bool
  | ⟨0, _⟩ => false
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  (ofTc nBuf bufTy 1 32 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_scratch8 : Ref sig .tc := ⟨.vmem, 10, rfl⟩
abbrev cc0_scratch9 : Ref sig .tc := ⟨.vmem, 11, rfl⟩
abbrev cc0_scratch10 : Ref sig .tc := ⟨.vmem, 12, rfl⟩
abbrev cc0_scratch11 : Ref sig .tc := ⟨.vmem, 13, rfl⟩
abbrev cc0_scratch12 : Ref sig .tc := ⟨.vmem, 14, rfl⟩
abbrev cc0_scratch13 : Ref sig .tc := ⟨.vmem, 15, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_off1 (d0 : Dev nD) (c0_i32_20 : BitVec 32) : Fin 4 → Nat :=
  let c0_i32_34 : BitVec 32 := 0#32
  let c0_i32_40 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v37 : BitVec 32 := Scalar.muli v2 c8_i32
  let v38 : BitVec 32 := Scalar.addi v37 c0_i32_20
  let c0_i32_41 : BitVec 32 := 0#32
  ![0, 0, v38.toNat, 0]
def k0_dev1 (d0 : Dev nD) : Nat :=
  let c0_i32_164 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_163 : BitVec 32 := 1#32
  let v155 : BitVec 32 := Scalar.muli v14 c1_i32_163
  let v156 : BitVec 32 := Scalar.addi c0_i32_164 v155
  v156.toNat
def k0_dev2 (d0 : Dev nD) : Nat :=
  let c0_i32_167 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_166 : BitVec 32 := 1#32
  let v157 : BitVec 32 := Scalar.muli v25 c1_i32_166
  let v158 : BitVec 32 := Scalar.addi c0_i32_167 v157
  v158.toNat
def k0_dev3 (d0 : Dev nD) : Nat :=
  let c0_i32_170 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v26 : BitVec 32 := Scalar.addi v2 c2_i32
  let c4_i32_14 : BitVec 32 := 4#32
  let c0_i32_15 : BitVec 32 := 0#32
  let v27 : BitVec 1 := Scalar.cmpi .eq c4_i32_14 c0_i32_15
  let c1_i32_16 : BitVec 32 := 1#32
  let v28 : BitVec 32 := Scalar.select v27 c1_i32_16 c4_i32_14
  let v29 : BitVec 32 := Scalar.remsi v26 v28
  let c0_i32_18 : BitVec 32 := 0#32
  let v31 : BitVec 1 := Scalar.cmpi .slt v29 c0_i32_18
  let c0_i32_19 : BitVec 32 := 0#32
  let v32 : BitVec 1 := Scalar.cmpi .slt v28 c0_i32_19
  let v33 : BitVec 1 := Scalar.xori v31 v32
  let c0_i32_17 : BitVec 32 := 0#32
  let v30 : BitVec 1 := Scalar.cmpi .ne v29 c0_i32_17
  let v34 : BitVec 1 := Scalar.andi v33 v30
  let v35 : BitVec 32 := Scalar.addi v29 v28
  let v36 : BitVec 32 := Scalar.select v34 v35 v29
  let c1_i32_169 : BitVec 32 := 1#32
  let v159 : BitVec 32 := Scalar.muli v36 c1_i32_169
  let v160 : BitVec 32 := Scalar.addi c0_i32_170 v159
  v160.toNat
def k0_dev4 (d0 : Dev nD) : Nat :=
  let c0_i32_182 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_181 : BitVec 32 := 1#32
  let v167 : BitVec 32 := Scalar.muli v25 c1_i32_181
  let v168 : BitVec 32 := Scalar.addi c0_i32_182 v167
  v168.toNat
def k0_dev5 (d0 : Dev nD) : Nat :=
  let c0_i32_192 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_191 : BitVec 32 := 1#32
  let v177 : BitVec 32 := Scalar.muli v14 c1_i32_191
  let v178 : BitVec 32 := Scalar.addi c0_i32_192 v177
  v178.toNat
def k0_dev6 (d0 : Dev nD) : Nat :=
  let c0_i32_494 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v26 : BitVec 32 := Scalar.addi v2 c2_i32
  let c4_i32_14 : BitVec 32 := 4#32
  let c0_i32_15 : BitVec 32 := 0#32
  let v27 : BitVec 1 := Scalar.cmpi .eq c4_i32_14 c0_i32_15
  let c1_i32_16 : BitVec 32 := 1#32
  let v28 : BitVec 32 := Scalar.select v27 c1_i32_16 c4_i32_14
  let v29 : BitVec 32 := Scalar.remsi v26 v28
  let c0_i32_18 : BitVec 32 := 0#32
  let v31 : BitVec 1 := Scalar.cmpi .slt v29 c0_i32_18
  let c0_i32_19 : BitVec 32 := 0#32
  let v32 : BitVec 1 := Scalar.cmpi .slt v28 c0_i32_19
  let v33 : BitVec 1 := Scalar.xori v31 v32
  let c0_i32_17 : BitVec 32 := 0#32
  let v30 : BitVec 1 := Scalar.cmpi .ne v29 c0_i32_17
  let v34 : BitVec 1 := Scalar.andi v33 v30
  let v35 : BitVec 32 := Scalar.addi v29 v28
  let v36 : BitVec 32 := Scalar.select v34 v35 v29
  let c1_i32_493 : BitVec 32 := 1#32
  let v529 : BitVec 32 := Scalar.muli v36 c1_i32_493
  let v530 : BitVec 32 := Scalar.addi c0_i32_494 v529
  v530.toNat
def k0_dev7 (d0 : Dev nD) : Nat :=
  let c0_i32_622 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_621 : BitVec 32 := 1#32
  let v730 : BitVec 32 := Scalar.muli v14 c1_i32_621
  let v731 : BitVec 32 := Scalar.addi c0_i32_622 v730
  v731.toNat
def k0_dev8 (d0 : Dev nD) : Nat :=
  let c0_i32_757 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_756 : BitVec 32 := 1#32
  let v931 : BitVec 32 := Scalar.muli v25 c1_i32_756
  let v932 : BitVec 32 := Scalar.addi c0_i32_757 v931
  v932.toNat
def k0_dev9 (d0 : Dev nD) : Nat :=
  let c0_i32_892 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v26 : BitVec 32 := Scalar.addi v2 c2_i32
  let c4_i32_14 : BitVec 32 := 4#32
  let c0_i32_15 : BitVec 32 := 0#32
  let v27 : BitVec 1 := Scalar.cmpi .eq c4_i32_14 c0_i32_15
  let c1_i32_16 : BitVec 32 := 1#32
  let v28 : BitVec 32 := Scalar.select v27 c1_i32_16 c4_i32_14
  let v29 : BitVec 32 := Scalar.remsi v26 v28
  let c0_i32_18 : BitVec 32 := 0#32
  let v31 : BitVec 1 := Scalar.cmpi .slt v29 c0_i32_18
  let c0_i32_19 : BitVec 32 := 0#32
  let v32 : BitVec 1 := Scalar.cmpi .slt v28 c0_i32_19
  let v33 : BitVec 1 := Scalar.xori v31 v32
  let c0_i32_17 : BitVec 32 := 0#32
  let v30 : BitVec 1 := Scalar.cmpi .ne v29 c0_i32_17
  let v34 : BitVec 1 := Scalar.andi v33 v30
  let v35 : BitVec 32 := Scalar.addi v29 v28
  let v36 : BitVec 32 := Scalar.select v34 v35 v29
  let c1_i32_891 : BitVec 32 := 1#32
  let v1132 : BitVec 32 := Scalar.muli v36 c1_i32_891
  let v1133 : BitVec 32 := Scalar.addi c0_i32_892 v1132
  v1133.toNat
abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1x1024x1024 : Shape := ⟨3, ![1, 1024, 1024]⟩
abbrev S1024x4096 : Shape := ⟨2, ![1024, 4096]⟩
abbrev S1x4096x32x128 : Shape := ⟨4, ![1, 4096, 32, 128]⟩
abbrev S4096x1024 : Shape := ⟨2, ![4096, 1024]⟩
abbrev S1x1024x4096 : Shape := ⟨3, ![1, 1024, 4096]⟩
abbrev S1x1024x32x128 : Shape := ⟨4, ![1, 1024, 32, 128]⟩
abbrev S1024 : Shape := ⟨1, ![1024]⟩
abbrev S_ : Shape := ⟨0, ![]⟩
abbrev S1024x1 : Shape := ⟨2, ![1024, 1]⟩
abbrev S4096 : Shape := ⟨1, ![4096]⟩
abbrev S1x4096 : Shape := ⟨2, ![1, 4096]⟩
abbrev S1x32x1024x4096 : Shape := ⟨4, ![1, 32, 1024, 4096]⟩
abbrev S1x1x1024x4096 : Shape := ⟨4, ![1, 1, 1024, 4096]⟩
abbrev S1x32x1024 : Shape := ⟨3, ![1, 32, 1024]⟩
abbrev S1x32x1024x1 : Shape := ⟨4, ![1, 32, 1024, 1]⟩
abbrev S1x1x1024x1 : Shape := ⟨4, ![1, 1, 1024, 1]⟩
abbrev S1x32x128x1024 : Shape := ⟨4, ![1, 32, 128, 1024]⟩
abbrev S1024x1024 : Shape := ⟨2, ![1024, 1024]⟩

abbrev nBuf : Space → Nat
  | .hbm => 91
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S1024x4096, .f32⟩
  | .hbm, ⟨2, _⟩ => ⟨S1x4096x32x128, .f32⟩
  | .hbm, ⟨3, _⟩ => ⟨S1x4096x32x128, .f32⟩
  | .hbm, ⟨4, _⟩ => ⟨S4096x1024, .f32⟩
  | .hbm, ⟨5, _⟩ => ⟨S1x1024x4096, .f32⟩
  | .hbm, ⟨6, _⟩ => ⟨S1x1024x32x128, .f32⟩
  | .hbm, ⟨7, _⟩ => ⟨S1024, .i32⟩
  | .hbm, ⟨8, _⟩ => ⟨S_, .i32⟩
  | .hbm, ⟨9, _⟩ => ⟨S_, .i32⟩
  | .hbm, ⟨10, _⟩ => ⟨S1024, .i32⟩
  | .hbm, ⟨11, _⟩ => ⟨S1024, .i32⟩
  | .hbm, ⟨12, _⟩ => ⟨S1024, .i32⟩
  | .hbm, ⟨13, _⟩ => ⟨S_, .i32⟩
  | .hbm, ⟨14, _⟩ => ⟨S1024, .i32⟩
  | .hbm, ⟨15, _⟩ => ⟨S1024, .i1⟩
  | .hbm, ⟨16, _⟩ => ⟨S1024, .i32⟩
  | .hbm, ⟨17, _⟩ => ⟨S1024, .i32⟩
  | .hbm, ⟨18, _⟩ => ⟨S_, .i32⟩
  | .hbm, ⟨19, _⟩ => ⟨S1024, .i32⟩
  | .hbm, ⟨20, _⟩ => ⟨S1024, .i1⟩
  | .hbm, ⟨21, _⟩ => ⟨S1024, .i1⟩
  | .hbm, ⟨22, _⟩ => ⟨S_, .i32⟩
  | .hbm, ⟨23, _⟩ => ⟨S1024, .i32⟩
  | .hbm, ⟨24, _⟩ => ⟨S1024, .i32⟩
  | .hbm, ⟨25, _⟩ => ⟨S1024, .i32⟩
  | .hbm, ⟨26, _⟩ => ⟨S1024x1, .i32⟩
  | .hbm, ⟨27, _⟩ => ⟨S4096, .i32⟩
  | .hbm, ⟨28, _⟩ => ⟨S_, .i32⟩
  | .hbm, ⟨29, _⟩ => ⟨S_, .i32⟩
  | .hbm, ⟨30, _⟩ => ⟨S4096, .i32⟩
  | .hbm, ⟨31, _⟩ => ⟨S4096, .i32⟩
  | .hbm, ⟨32, _⟩ => ⟨S4096, .i32⟩
  | .hbm, ⟨33, _⟩ => ⟨S_, .i32⟩
  | .hbm, ⟨34, _⟩ => ⟨S4096, .i32⟩
  | .hbm, ⟨35, _⟩ => ⟨S4096, .i1⟩
  | .hbm, ⟨36, _⟩ => ⟨S4096, .i32⟩
  | .hbm, ⟨37, _⟩ => ⟨S4096, .i32⟩
  | .hbm, ⟨38, _⟩ => ⟨S_, .i32⟩
  | .hbm, ⟨39, _⟩ => ⟨S4096, .i32⟩
  | .hbm, ⟨40, _⟩ => ⟨S4096, .i1⟩
  | .hbm, ⟨41, _⟩ => ⟨S4096, .i1⟩
  | .hbm, ⟨42, _⟩ => ⟨S_, .i32⟩
  | .hbm, ⟨43, _⟩ => ⟨S4096, .i32⟩
  | .hbm, ⟨44, _⟩ => ⟨S4096, .i32⟩
  | .hbm, ⟨45, _⟩ => ⟨S4096, .i32⟩
  | .hbm, ⟨46, _⟩ => ⟨S1x4096, .i32⟩
  | .hbm, ⟨47, _⟩ => ⟨S1024x4096, .i32⟩
  | .hbm, ⟨48, _⟩ => ⟨S1024x4096, .i32⟩
  | .hbm, ⟨49, _⟩ => ⟨S1024x4096, .i1⟩
  | .hbm, ⟨50, _⟩ => ⟨S1x32x1024x4096, .f32⟩
  | .hbm, ⟨51, _⟩ => ⟨S_, .f32⟩
  | .hbm, ⟨52, _⟩ => ⟨S1x32x1024x4096, .f32⟩
  | .hbm, ⟨53, _⟩ => ⟨S1x32x1024x4096, .f32⟩
  | .hbm, ⟨54, _⟩ => ⟨S1x1x1024x4096, .i1⟩
  | .hbm, ⟨55, _⟩ => ⟨S_, .f32⟩
  | .hbm, ⟨56, _⟩ => ⟨S_, .f32⟩
  | .hbm, ⟨57, _⟩ => ⟨S1x32x1024x4096, .i1⟩
  | .hbm, ⟨58, _⟩ => ⟨S1x32x1024x4096, .f32⟩
  | .hbm, ⟨59, _⟩ => ⟨S1x32x1024x4096, .f32⟩
  | .hbm, ⟨60, _⟩ => ⟨S_, .f32⟩
  | .hbm, ⟨61, _⟩ => ⟨S1x32x1024, .f32⟩
  | .hbm, ⟨62, _⟩ => ⟨S1x32x1024x1, .f32⟩
  | .hbm, ⟨63, _⟩ => ⟨S1x32x1024x4096, .f32⟩
  | .hbm, ⟨64, _⟩ => ⟨S1x32x1024x4096, .f32⟩
  | .hbm, ⟨65, _⟩ => ⟨S1x32x1024x4096, .f32⟩
  | .hbm, ⟨66, _⟩ => ⟨S_, .i1⟩
  | .hbm, ⟨67, _⟩ => ⟨S1024, .i1⟩
  | .hbm, ⟨68, _⟩ => ⟨S1x1x1024x1, .i1⟩
  | .hbm, ⟨69, _⟩ => ⟨S_, .f32⟩
  | .hbm, ⟨70, _⟩ => ⟨S1x32x1024, .f32⟩
  | .hbm, ⟨71, _⟩ => ⟨S1x32x1024x1, .f32⟩
  | .hbm, ⟨72, _⟩ => ⟨S_, .f32⟩
  | .hbm, ⟨73, _⟩ => ⟨S_, .f32⟩
  | .hbm, ⟨74, _⟩ => ⟨S1x32x1024x1, .i1⟩
  | .hbm, ⟨75, _⟩ => ⟨S1x32x1024x1, .f32⟩
  | .hbm, ⟨76, _⟩ => ⟨S1x32x1024x1, .f32⟩
  | .hbm, ⟨77, _⟩ => ⟨S1x32x1024x4096, .f32⟩
  | .hbm, ⟨78, _⟩ => ⟨S1x32x1024x4096, .f32⟩
  | .hbm, ⟨79, _⟩ => ⟨S1x1x1024x1, .i1⟩
  | .hbm, ⟨80, _⟩ => ⟨S_, .f32⟩
  | .hbm, ⟨81, _⟩ => ⟨S_, .f32⟩
  | .hbm, ⟨82, _⟩ => ⟨S1x32x1024x4096, .i1⟩
  | .hbm, ⟨83, _⟩ => ⟨S1x32x1024x4096, .f32⟩
  | .hbm, ⟨84, _⟩ => ⟨S1x32x1024x4096, .f32⟩
  | .hbm, ⟨85, _⟩ => ⟨S1x32x128x1024, .f32⟩
  | .hbm, ⟨86, _⟩ => ⟨S1x1024x32x128, .f32⟩
  | .hbm, ⟨87, _⟩ => ⟨S1x1024x4096, .f32⟩
  | .hbm, ⟨88, _⟩ => ⟨S1x1024x1024, .f32⟩
  | .hbm, ⟨89, _⟩ => ⟨S1024x1024, .f32⟩
  | .hbm, ⟨90, _⟩ => ⟨S1024x1024, .bf16⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_cst : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_cst_1 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v15 : Ref sig .tc := ⟨.hbm, 59, rfl⟩
abbrev main_cst_2 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_c_3 : Ref sig .tc := ⟨.hbm, 66, rfl⟩
abbrev main_v21 : Ref sig .tc := ⟨.hbm, 67, rfl⟩
abbrev main_v22 : Ref sig .tc := ⟨.hbm, 68, rfl⟩
abbrev main_cst_4 : Ref sig .tc := ⟨.hbm, 69, rfl⟩
abbrev main_v23 : Ref sig .tc := ⟨.hbm, 70, rfl⟩
abbrev main_v24 : Ref sig .tc := ⟨.hbm, 71, rfl⟩
abbrev main_cst_5 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_6 : Ref sig .tc := ⟨.hbm, 80, rfl⟩
abbrev main_call4_v0 : Ref sig .tc := ⟨.hbm, 81, rfl⟩
abbrev main_call4_v1 : Ref sig .tc := ⟨.hbm, 82, rfl⟩
abbrev main_call4_v2 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩

abbrev nD : Nat := 1
abbrev τ : Topo := Topo.v7x

variable {F : FTy → Type} [FloatOps F]
-- ==== Proof.Flat.lean ====
module

public import proofs.«01_k».proof.Proof.Gen.KernelIdeal.Skeleton
public import Idealize.ShloMosaic.Lib.Tactic.OpenCalls
public import Idealize.ShloMosaic.Lib.Tactic.Stretches

/-!
The kernel's body as one chain of calls, cut into stretches: the local copies' starts, the barrier, the sends, the
casts of the weights and of the heads, the biases, and the four chunks' computations.
-/

@[expose] public section

noncomputable section

namespace Cert.KernelIdeal.Run

open Idealize.ShloMosaic Idealize.SL
open Cert.KernelIdeal Cert.KernelIdeal.Gen

set_option maxRecDepth 65536 in
set_option maxHeartbeats 4000000 in
set_option open_calls.check false in
open_calls flat := cc0__body [k0_part1, k0_part2, k0_part3, k0_part4, k0_part5, k0_part6, k0_part7, k0_part8, k0_part9, k0_part10,
  k0_part11, k0_part12, k0_part13, k0_part14, k0_part15, k0_part16, k0_part17, k0_part18, k0_part19, k0_part20, k0_part21,
  k0_part22, k0_part23, k0_part24, k0_part25, k0_part26, k0_part27, k0_part28, k0_part29, k0_part30, k0_part31, k0_part32,
  k0_part33, k0_part34, k0_part35, k0_part36, k0_part37, k0_part38, k0_part39, k0_part40, k0_part41, k0_part42, k0_part43,
  k0_part44]

set_option maxRecDepth 65536 in
set_option maxHeartbeats 8000000 in
cut_chain st := flat at 20, 24, 27, 29, 33, 65, 97, 101, 109, 110, 111, 150, 152, 191, 193, 232, 233, 272, 275, 281

end Cert.KernelIdeal.Run

end

end
-- ==== Proof.Spec.lean ====
module

public import proofs.«01_k».proof.Proof.Gen.KernelIdeal.Skeleton
public import Idealize.ShloMosaic.Lib.Writes

/-!
What the kernel computes, as plain functions of what it reads: one head's attention, the heads side by side, the partial
sum that they give, and the sum of the four partial sums.
-/

@[expose] public section

noncomputable section

namespace Cert.KernelIdeal.Run

open Cert.KernelIdeal Cert.KernelIdeal.Gen
open Idealize.ShloMosaic

variable {F : FTy → Type} [FloatOps F] [Named F]

/-- The columns of head `h` lie in the queries' block. -/
theorem headSlices (h : Fin 8) : S256x1024.Slices ![0, 128 * h.val] S256x128 := by
  revert h; decide

/-- One head's attention: exponentials of the scores with the bias added, times the values, over the exponentials' row sums. -/
def headVal (q b : FVec F S256x1024 .f32) (h : Fin 8) (kb vb : Vec F S1x1024x128 .bf16) : FVec F S256x128 .bf16 :=
  have w : FVec F S256x1024 .f32 :=
    exp (addf
      (matmul dot_S256x128_S1024x128_S256x1024_1_1_0_0_n_n none
        (truncf .bf16 (extractStridedSlice S256x128 ![0, 128 * h.val] q (headSlices h)) bitsLt_bf16_f32 : FVec F S256x128 .bf16)
        (shapeCast S1024x128 kb shapeCasts_S1x1024x128_S1024x128 : FVec F S1024x128 .bf16)
        (constant S256x1024 .f32 0x00000000#32)) b)
  have r : FVec F S256x1 .f32 :=
    divf (broadcast S256x1 (Scalar.ofBits .f32 0x3F800000#32))
      (shapeCast S256x1
        (multiReduction .add [1] S256 w 0x00000000#32 reduces_S256x1024_S256 (.inl rfl) rfl) shapeCasts_S256_S256x1)
  shapeCast S256x128
    (truncf .bf16
      (mulf
        (matmul dot_S256x1024_S1024x128_S256x128_1_0_0_1_n_n none (truncf .bf16 w bitsLt_bf16_f32 : FVec F S256x1024 .bf16)
          (shapeCast S1024x128 vb shapeCasts_S1x1024x128_S1024x128 : FVec F S1024x128 .bf16) (constant S256x128 .f32 0x00000000#32))
        (broadcastTo S256x128 r broadcasts_S256x1_S256x128)) bitsLt_bf16_f32 : FVec F S256x128 .bf16)
    shapeCasts_S256x128_S256x128

/-- The head that a column belongs to. -/
def headOf (y : S256x1024.Idx) : Fin 8 := ⟨(y 1).val / 128, by have := (y 1).isLt; change (y 1).val < 1024 at this; omega⟩

/-- A place of the heads' block, within its head. -/
def inHead (y : S256x1024.Idx) : S256x128.Idx :=
  Fin.cons (y 0) (Fin.cons ⟨(y 1).val % 128, Nat.mod_lt _ (by decide)⟩ finZeroElim)

/-- The eight heads side by side. -/
def ctxVal (q b : FVec F S256x1024 .f32) (kb vb : Fin 8 → Vec F S1x1024x128 .bf16) : Vec F S256x1024 .bf16 :=
  fun y => headVal q b (headOf y) (kb (headOf y)) (vb (headOf y)) (inHead y)

theorem ctxVal_at (q b : FVec F S256x1024 .f32) (kb vb : Fin 8 → Vec F S1x1024x128 .bf16) (h : Fin 8) (x : S256x128.Idx)
    (y : S256x1024.Idx) (h0 : (y 0).val = 0 + 1 * (x 0).val) (h1 : (y 1).val = 128 * h.val + 1 * (x 1).val) :
    headVal q b h (kb h) (vb h) x = ctxVal q b kb vb y := by
  have hx : (x 1).val < 128 := (x 1).isLt
  have hh : headOf y = h := Fin.ext (by show (y 1).val / 128 = h.val; omega)
  have hi : inHead y = x := by
    funext a
    refine Fin.cases ?_ (fun a => Fin.cases ?_ (fun a => a.elim0) a) a
    · exact Fin.ext (h0.trans (by omega))
    · exact Fin.ext (by show (y 1).val % 128 = (x 1).val; omega)
  unfold ctxVal; rw [hh, hi]

/-- The queries of a block of rows. -/
def queryVal (xa : FVec F S256x1024 .bf16) (wq : Vec F S1024x1024 .bf16) : FVec F S256x1024 .f32 :=
  matmul dot_S256x1024_S1024x1024_S256x1024_1_0_0_1_n_n none xa (wq : FVec F S1024x1024 .bf16) (constant S256x1024 .f32 0x00000000#32)

/-- The heads' block times the rows of the output weights that it meets. -/
def outMul (cx : Vec F S256x1024 .bf16) (wo : Vec F S1024x1024 .bf16) : FVec F S256x1024 .f32 :=
  matmul dot_S256x1024_S1024x1024_S256x1024_1_0_0_1_n_n none (cx : FVec F S256x1024 .bf16)
    (wo : FVec F S1024x1024 .bf16) (constant S256x1024 .f32 0x00000000#32)

/-- The partial sum of a block of rows over this device's heads, in single precision. -/
def partVal (xa : FVec F S256x1024 .bf16) (wq : Vec F S1024x1024 .bf16) (b : FVec F S256x1024 .f32)
    (kb vb : Fin 8 → Vec F S1x1024x128 .bf16) (wo : Vec F S1024x1024 .bf16) : FVec F S256x1024 .f32 :=
  outMul (ctxVal (queryVal xa wq) b kb vb) wo

/-- The partial sum of a block of rows as it is sent: rounded. -/
def sentVal (xa : FVec F S256x1024 .bf16) (wq : Vec F S1024x1024 .bf16) (b : FVec F S256x1024 .f32)
    (kb vb : Fin 8 → Vec F S1x1024x128 .bf16) (wo : Vec F S1024x1024 .bf16) : FVec F S256x1024 .bf16 :=
  truncf .bf16 (partVal xa wq b kb vb wo) bitsLt_bf16_f32

/-- Eight pieces, one for each head, in the order of the stores. -/
theorem read_heads {κ : Kind} {sp : Space} (v : View sig κ sp S256x1024 .bf16) (f : v.ty.Contents (Elt F))
    (G : S256x1024.Idx → Elt F .bf16) (L : List (View.Piece (Elt F) S256x1024 .bf16))
    (hp : ∀ p ∈ L, ∀ x : p.1.shape.Idx, p.2 x = G (p.1.emb x))
    (hc : ∀ y : S256x1024.Idx, ∃ p ∈ L, y ∈ p.1.set) : v.read (Elt F) (v.writes (Elt F) f L) = G :=
  funext fun y => View.read_writes_apply_of_pieces v f G L hp y (hc y)

end Cert.KernelIdeal.Run

end

end
-- ==== Proof.Base.lean ====
module

public import proofs.«01_k».proof.Proof.Flat
public import proofs.«01_k».proof.Proof.Spec
public import proofs.«01_k».proof.Proof.Gen.KernelIdeal
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Pipeline.Value
public import Idealize.ShloMosaic.Lib.VecWindow

/-!
The buffers, semaphores and resource algebra that the run is stated in.

Six channels carry blocks between devices. Channels 0, 1, 2 carry a device's block of `x` to the right neighbour, the left
neighbour and the device across; channels 3, 4, 5 carry the partial sums that it computed for the same three devices.
-/

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The rounds' algebra, with duties named by a peer's number. -/
abbrev UB : Type := URounds (GSem nD τ sig) (Fin 3)
/-- The pipeline's rounds, the channels' rounds, and the counters of the local copies. -/
abbrev UU : Type := UR sig nD τ × (UB × Counters)

local notation "𝕄" => MT nD τ sig Unit (Elt F) ℕ UU ℕ

abbrev 𝒱₀ : Variants := Variants.none

/-! ## The buffers -/

abbrev xM : Memref sig .tc .vmem S1x256x1024 .f32 := Memref.whole cc0_stg0_0
abbrev oM : Memref sig .tc .vmem S256x1024 .bf16 := Memref.whole cc0_stg1_0
abbrev wqH : Memref sig .tc .hbm S1024x1024 .f32 := Memref.whole main_arg1
abbrev kH : Memref sig .tc .hbm S1x4096x32x128 .f32 := Memref.whole main_arg2
abbrev vH : Memref sig .tc .hbm S1x4096x32x128 .f32 := Memref.whole main_arg3
abbrev woH : Memref sig .tc .hbm S1024x1024 .f32 := Memref.whole main_arg4
abbrev agM : Memref sig .tc .vmem S4x256x1024 .bf16 := Memref.whole cc0_scratch0
abbrev ptM : Memref sig .tc .vmem S256x1024 .f32 := Memref.whole cc0_scratch1
abbrev sgM : Memref sig .tc .vmem S3x256x1024 .bf16 := Memref.whole cc0_scratch2
abbrev rvM : Memref sig .tc .vmem S3x256x1024 .bf16 := Memref.whole cc0_scratch3
abbrev cxM : Memref sig .tc .vmem S256x1024 .bf16 := Memref.whole cc0_scratch4
abbrev k32M : Memref sig .tc .vmem S8x1024x128 .f32 := Memref.whole cc0_scratch5
abbrev v32M : Memref sig .tc .vmem S8x1024x128 .f32 := Memref.whole cc0_scratch6
abbrev kbM : Memref sig .tc .vmem S8x1024x128 .bf16 := Memref.whole cc0_scratch7
abbrev vbM : Memref sig .tc .vmem S8x1024x128 .bf16 := Memref.whole cc0_scratch8
abbrev wq32M : Memref sig .tc .vmem S1024x1024 .f32 := Memref.whole cc0_scratch9
abbrev wo32M : Memref sig .tc .vmem S1024x1024 .f32 := Memref.whole cc0_scratch10
abbrev wqM : Memref sig .tc .vmem S1024x1024 .bf16 := Memref.whole cc0_scratch11
abbrev woM : Memref sig .tc .vmem S1024x1024 .bf16 := Memref.whole cc0_scratch12
abbrev bsM : Memref sig .tc .vmem S4x256x1024 .f32 := Memref.whole cc0_scratch13

/-- One block of the four gathered, of the three staged, of the three received: as the copies name it. -/
abbrev ag0 : Memref sig .tc .vmem S256x1024 .bf16 :=
  (agM.slice (Rect.unit (s := S4x256x1024) ![0, 0, 0] S1x256x1024.size inb_S4x256x1024_S1x256x1024_0_0_0) (fun _ => rfl)).squeeze S256x1024 squeezes_S1x256x1024_S256x1024
abbrev ag1 : Memref sig .tc .vmem S256x1024 .bf16 :=
  (agM.slice (Rect.unit (s := S4x256x1024) ![1, 0, 0] S1x256x1024.size inb_S4x256x1024_S1x256x1024_1_0_0) (fun _ => rfl)).squeeze S256x1024 squeezes_S1x256x1024_S256x1024
abbrev ag2 : Memref sig .tc .vmem S256x1024 .bf16 :=
  (agM.slice (Rect.unit (s := S4x256x1024) ![2, 0, 0] S1x256x1024.size inb_S4x256x1024_S1x256x1024_2_0_0) (fun _ => rfl)).squeeze S256x1024 squeezes_S1x256x1024_S256x1024
abbrev ag3 : Memref sig .tc .vmem S256x1024 .bf16 :=
  (agM.slice (Rect.unit (s := S4x256x1024) ![3, 0, 0] S1x256x1024.size inb_S4x256x1024_S1x256x1024_3_0_0) (fun _ => rfl)).squeeze S256x1024 squeezes_S1x256x1024_S256x1024
abbrev sg0 : Memref sig .tc .vmem S256x1024 .bf16 :=
  (sgM.slice (Rect.unit (s := S3x256x1024) ![0, 0, 0] S1x256x1024.size inb_S3x256x1024_S1x256x1024_0_0_0) (fun _ => rfl)).squeeze S256x1024 squeezes_S1x256x1024_S256x1024
abbrev sg1 : Memref sig .tc .vmem S256x1024 .bf16 :=
  (sgM.slice (Rect.unit (s := S3x256x1024) ![1, 0, 0] S1x256x1024.size inb_S3x256x1024_S1x256x1024_1_0_0) (fun _ => rfl)).squeeze S256x1024 squeezes_S1x256x1024_S256x1024
abbrev sg2 : Memref sig .tc .vmem S256x1024 .bf16 :=
  (sgM.slice (Rect.unit (s := S3x256x1024) ![2, 0, 0] S1x256x1024.size inb_S3x256x1024_S1x256x1024_2_0_0) (fun _ => rfl)).squeeze S256x1024 squeezes_S1x256x1024_S256x1024
abbrev rv0 : Memref sig .tc .vmem S256x1024 .bf16 :=
  (rvM.slice (Rect.unit (s := S3x256x1024) ![0, 0, 0] S1x256x1024.size inb_S3x256x1024_S1x256x1024_0_0_0) (fun _ => rfl)).squeeze S256x1024 squeezes_S1x256x1024_S256x1024
abbrev rv1 : Memref sig .tc .vmem S256x1024 .bf16 :=
  (rvM.slice (Rect.unit (s := S3x256x1024) ![1, 0, 0] S1x256x1024.size inb_S3x256x1024_S1x256x1024_1_0_0) (fun _ => rfl)).squeeze S256x1024 squeezes_S1x256x1024_S256x1024
abbrev rv2 : Memref sig .tc .vmem S256x1024 .bf16 :=
  (rvM.slice (Rect.unit (s := S3x256x1024) ![2, 0, 0] S1x256x1024.size inb_S3x256x1024_S1x256x1024_2_0_0) (fun _ => rfl)).squeeze S256x1024 squeezes_S1x256x1024_S256x1024

/-! ## What the blocks read -/

/-- What a load of head `h`'s rows of a converted cache reads. -/
theorem headRows (h : Fin 8) : ∀ a, (![h.val, 0, 0] : Fin 3 → ℕ) a + S1x1024x128.size a ≤ S8x1024x128.size a := by
  revert h; decide

abbrev headRd (M : Memref sig .tc .vmem S8x1024x128 .bf16) (f : M.view.ty.Contents (Elt F)) (h : Fin 8) : Vec F S1x1024x128 .bf16 :=
  View.readAt (Elt F) M.view (Rect.unit (s := S8x1024x128) ![h.val, 0, 0] S1x1024x128.size (headRows h)).toLoadRect f

/-- A load through the whole of a buffer's shape reads the buffer. -/
theorem readAt_all {s : Shape} {e : EltTy} {sp : Space} (v : View sig .tc sp s e) (off : Fin s.rank → ℕ) (inb : ∀ a, off a + s.size a ≤ s.size a)
    (f : v.ty.Contents (Elt F)) : v.readAt (Elt F) (Rect.unit off s.size inb).toLoadRect f = v.read (Elt F) f :=
  View.readAt_full v f inb

/-- The slot reads what was stored through the enclosing buffer at the slot's rows. -/
theorem read_stored {s s' : Shape} {e : EltTy} {sp : Space} (M : Memref sig .tc sp s e) (r : Rect s) (hr : ∀ a, r.stride a = 1)
    (hq : r.shape.Squeezes s') (hc : s'.ShapeCasts r.shape) (f : M.view.ty.Contents (Elt F)) (v : s'.Idx → Elt F e) :
    ((M.slice r hr).squeeze s' hq).view.read (Elt F) ((M.access r).write (Elt F) f (shapeCast r.shape v hc) Finset.univ) = v := by
  rw [Memref.read_squeeze_slice M r hr hq hq.numel_eq]
  exact (congrArg (shapeCast s' · hq.numel_eq) (View.read_write_univ (v := M.access r) f (shapeCast r.shape v hc))).trans
    (shapeCast_shapeCast v hc hq.numel_eq)

/-- What a copy of a whole view leaves in its destination. -/
theorem landed {s : Shape} {e : EltTy} {sp : Space} (v : View sig .tc sp s e) (g : v.ty.Contents (Elt F)) (w : s.Idx → Elt F e) :
    v.read (Elt F) (v.writes (Elt F) g [⟨Rect.whole s, w⟩]) = w :=
  View.read_writes_full v g (off := fun _ => 0) (fun a => (Nat.zero_add _).le) w []

/-- What a load of all of it reads next. -/
theorem landed_load {s : Shape} {e : EltTy} {sp : Space} (v : View sig .tc sp s e) {off : Fin s.rank → ℕ}
    (inb : ∀ a, off a + s.size a ≤ s.size a) (w : s.Idx → Elt F e) :
    v.readCov [(⟨Rect.whole s, w⟩ : View.Piece (Elt F) s e)] (Rect.unit off s.size inb).toLoadRect = w :=
  (readAt_all v off inb _).trans (landed v _ w)

end Cert.KernelIdeal.Run

end

end
-- ==== Proof.Proto.lean ====
module

public import proofs.«01_k».proof.Proof.Base
public import Idealize.ShloMosaic.Lib.Rounds.Family

/-!
The schedule of the thirteen cells that the devices share: the barrier, and a sending and a receiving cell for each of the
six channels.

A device signals the barrier of each of its three peers once, and hands over with the signal the two slots of its own that
this peer will write: one for a gathered block, one for a received partial sum. Each channel is used once, so that a
device's every cell has one round. What lands is said by two families: `X c` is the block that device `c` sends to all, `Y i c` the
partial sum that it sends on channel `3 + i`.
-/

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-- The pipeline's rounds. -/
abbrev EP : Emb (UR sig nD τ) (MT nD τ sig Unit (Elt F) ℕ UU ℕ) := embL
/-- The channels' rounds: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

/-! ## The peers -/

/-- Where a device's channel `i` leads: right, left, across. -/
def goto (i : Fin 3) (c : Dev nD) : Dev nD := ⟨(c.val + (![1, 3, 2] : Fin 3 → ℕ) i) % 4, Nat.mod_lt _ (by decide)⟩
/-- Whence a device's channel `i` comes: left, right, across. -/
def frm (i : Fin 3) (c : Dev nD) : Dev nD := ⟨(c.val + (![3, 1, 2] : Fin 3 → ℕ) i) % 4, Nat.mod_lt _ (by decide)⟩

theorem goto_frm (i : Fin 3) (c : Dev nD) : goto i (frm i c) = c := by revert i c; decide
theorem frm_goto (i : Fin 3) (c : Dev nD) : frm i (goto i c) = c := by revert i c; decide

/-- Going along channel `i`, as a bijection of the devices. -/
def along (i : Fin 3) : Dev nD ≃ Dev nD := ⟨goto i, frm i, frm_goto i, goto_frm i⟩

/-! ## The cells -/

/-- The semaphore of the collective's barrier. -/
abbrev barS : Sem sig := (SemArray.scalar (sig.barrier 0 rfl) : Sems sig S_).sem
/-- The channels' semaphores, in order: sending the gathered block (3), receiving it (3), sending the sums (3), receiving them (3). -/
def ds (j : Fin 12) : DmaSem sig := (⟨j.val + 2, by have := j.isLt; show _ < 32; omega⟩ : Fin 32)
/-- All thirteen. -/
def cs (j : Fin 13) : SemLoc sig := Fin.cases (.reg barS) (fun j => .dma (ds j)) j

abbrev barCell (c : Dev nD) : GSem nD τ sig := ((c : Thread nD τ), .reg barS)
abbrev chCell (j : Fin 12) (c : Dev nD) : GSem nD τ sig := ((c : Thread nD τ), .dma (ds j))
abbrev kcell (x : Dev nD × Fin 13) : GSem nD τ sig := ((x.1 : Thread nD τ), cs x.2)

theorem kcell_zero (c : Dev nD) : kcell (c, 0) = barCell c := rfl
theorem kcell_succ (c : Dev nD) (j : Fin 12) : kcell (c, j.succ) = chCell j c := rfl

theorem ds_inj : Function.Injective ds := by decide
theorem cs_inj : Function.Injective cs := by
  intro a b
  refine Fin.cases ?_ (fun a => ?_) a <;> refine Fin.cases ?_ (fun b => ?_) b
  · exact fun _ => rfl
  · exact fun h => by cases h
  · exact fun h => by cases h
  · intro h; exact congrArg Fin.succ (ds_inj (SemLoc.dma.inj h))
theorem kcell_inj : Function.Injective kcell := by
  rintro ⟨c, j⟩ ⟨c', j'⟩ h
  have h1 : c = c' := congrArg (fun g : GSem nD τ sig => g.1.1) h
  have h2 : j = j' := cs_inj (congrArg Prod.snd h)
  rw [h1, h2]

/-- What a block's copy credits. -/
abbrev N : ℕ := 16384

/-! ## What lands where -/

/-- The slot of the gathered blocks that channel `i` writes. -/
def agS (i : Fin 3) : Memref sig .tc .vmem S256x1024 .bf16 := match i with | 0 => ag3 | 1 => ag1 | 2 => ag2
/-- The slot that a partial sum is sent from. -/
def sgS (i : Fin 3) : Memref sig .tc .vmem S256x1024 .bf16 := match i with | 0 => sg0 | 1 => sg1 | 2 => sg2
/-- The slot that a partial sum arrives in. -/
def rvS (i : Fin 3) : Memref sig .tc .vmem S256x1024 .bf16 := match i with | 0 => rv0 | 1 => rv1 | 2 => rv2

/-- The share of the own block that channel `i` reads it at; the fourth stays with the device. -/
def agQ (i : Fin 3) : PosShare TreeShare := match i with | 0 => fullShare.left.left | 1 => fullShare.left.right | 2 => fullShare.right.left
abbrev keepQ : PosShare TreeShare := fullShare.right.right

section Sched

variable (X : Dev nD → FVec F S256x1024 .bf16) (Y : Fin 3 → Dev nD → FVec F S256x1024 .bf16)

/-- A device's peer's two slots, at any contents. -/
def barPay (i : Fin 3) (c : Dev nD) : sProp 𝕄 :=
  iprop((∃ w, owns (goto i c : Thread nD τ) (agS i) fullShare w) ∗ (∃ w, owns (goto i c : Thread nD τ) (rvS i) fullShare w))

instance barPay_storable (i : Fin 3) (c : Dev nD) : BI.Storable (upEmb : UEmb _ 𝕄) (barPay (F := F) i c) := by unfold barPay; infer_instance

/-- What a channel's cell hands its owner, by the semaphore's number. -/
def chPay (n : ℕ) (c : Dev nD) : sProp 𝕄 := match n with
  | 2 => owns (c : Thread nD τ) ag0 (agQ 0) (X c)
  | 3 => owns (c : Thread nD τ) ag0 (agQ 1) (X c)
  | 4 => owns (c : Thread nD τ) ag0 (agQ 2) (X c)
  | 5 => owns (c : Thread nD τ) ag3 fullShare (X (frm 0 c))
  | 6 => owns (c : Thread nD τ) ag1 fullShare (X (frm 1 c))
  | 7 => owns (c : Thread nD τ) ag2 fullShare (X (frm 2 c))
  | 8 => owns (c : Thread nD τ) sg0 fullShare (Y 0 c)
  | 9 => owns (c : Thread nD τ) sg1 fullShare (Y 1 c)
  | 10 => owns (c : Thread nD τ) sg2 fullShare (Y 2 c)
  | 11 => owns (c : Thread nD τ) rv0 fullShare (Y 0 (frm 0 c))
  | 12 => owns (c : Thread nD τ) rv1 fullShare (Y 1 (frm 1 c))
  | 13 => owns (c : Thread nD τ) rv2 fullShare (Y 2 (frm 2 c))
  | _ => iprop(emp)

instance chPay_storable (n : ℕ) (c : Dev nD) : BI.Storable (upEmb : UEmb _ 𝕄) (chPay (F := F) X Y n c) := by
  unfold chPay; split <;> infer_instance

/-- One round of each cell: the barrier's has a duty of one unit for each peer, a channel's one duty of a block's credit. -/
def rd : Rounds.Schedule (GSem nD τ sig) (Fin 3) 𝕄 where
  duties g r := if r = 0 then (match g.2 with | .reg _ => Finset.univ | .dma _ => {0}) else ∅
  unitless _ := False
  amount g _ _ := match g.2 with | .reg _ => 1 | .dma _ => N
  payload g _ d := match g.2 with | .reg _ => barPay d g.1.1 | .dma n => chPay X Y (Fin.val (n := 32) n) g.1.1
  amount_pos g _ _ _ := by
    rcases g with ⟨_, _ | _⟩
    · exact Nat.one_pos
    · exact (by decide : 0 < N)

instance rd_payload_storable (g : GSem nD τ sig) (r : ℕ) (d : Fin 3) : BI.Storable (upEmb : UEmb _ 𝕄) ((rd X Y).payload g r d) := by
  rcases g with ⟨_, _ | n⟩
  · exact barPay_storable _ _
  · exact chPay_storable X Y _ _

omit [FloatOps F] [Named F] in
theorem duties_bar (c : Dev nD) : (rd X Y).duties (barCell c) 0 = Finset.univ := rfl
omit [FloatOps F] [Named F] in
theorem duties_ch (j : Fin 12) (c : Dev nD) : (rd X Y).duties (chCell j c) 0 = {0} := rfl
omit [FloatOps F] [Named F] in
theorem duties_later (g : GSem nD τ sig) : ∀ r, 1 ≤ r → (rd X Y).duties g r = ∅ := fun r hr => by
  dsimp only [rd]; rw [if_neg fun h => by omega]
omit [FloatOps F] [Named F] in
theorem expect_bar (c : Dev nD) : (rd X Y).expect (barCell c) 0 = 3 := by
  unfold Schedule.expect Schedule.amountOf
  rw [duties_bar, Finset.sum_congr rfl fun d _ => show (rd X Y).amount (barCell c) 0 d = 1 from rfl]; rfl
omit [FloatOps F] [Named F] in
theorem expect_ch (j : Fin 12) (c : Dev nD) : (rd X Y).expect (chCell j c) 0 = N := by
  unfold Schedule.expect Schedule.amountOf; rw [duties_ch, Finset.sum_singleton]; rfl

/-! ## What a device is owed and owes -/

/-- The debts of a list, the first to be paid written last. -/
def owe : List (GSem nD τ sig × ℕ) → CellTallies nD τ sig Unit
  | [] => 0
  | p :: l => owe l + tallyAt p.1 () p.2

/-- A device's debts, in the order in which it pays them. -/
def debts (c : Dev nD) : List (GSem nD τ sig × ℕ) :=
  [(barCell (frm 0 c), 1), (barCell (frm 1 c), 1), (barCell (frm 2 c), 1),
   (chCell 3 (goto 0 c), N), (chCell 4 (goto 1 c), N), (chCell 5 (goto 2 c), N),
   (chCell 10 (goto 1 c), N), (chCell 9 (goto 0 c), N), (chCell 11 (goto 2 c), N)]

/-- What is left after `k` payments. -/
def owed (k : ℕ) (c : Dev nD) : CellTallies nD τ sig Unit := owe ((debts c).drop k)

theorem owe_pos (l : List (GSem nD τ sig × ℕ)) {g : GSem nD τ sig} {u : Unit} (h : 0 < owe l g u) : ∃ p ∈ l, g = p.1 := by
  induction l with
  | nil => exact absurd h (Nat.lt_irrefl 0)
  | cons p l ih =>
    unfold owe at h
    rw [Pi.add_apply, Finsupp.add_apply, tallyAt_apply] at h
    by_cases hg : g = p.1
    · exact ⟨p, List.mem_cons_self, hg⟩
    · rw [if_neg (fun h' => hg h'.1)] at h
      obtain ⟨q, hq, hq'⟩ := ih h
      exact ⟨q, List.mem_cons_of_mem _ hq, hq'⟩

/-- The waits a device may make are ordered by these levels. -/
def lv (g : GSem nD τ sig) (_ : Unit) : ℕ := match g.2 with
  | .reg _ => 1
  | .dma n => if 5 ≤ Fin.val (n := 32) n ∧ Fin.val (n := 32) n ≤ 7 then 2 else if 11 ≤ Fin.val (n := 32) n ∧ Fin.val (n := 32) n ≤ 13 then 3 else 0
def L (g : GSem nD τ sig) : Finset Unit := if g.1.2 = .tc then {()} else ∅

theorem L_of_ne (g : GSem nD τ sig) (h : g.1.2 ≠ .tc) : L g = ∅ := if_neg h
theorem L_tc (c : Dev nD) (sm : SemLoc sig) : L ((c : Thread nD τ), sm) = {()} := if_pos rfl

omit [FloatOps F] [Named F] in
/-- A device may wait where all of what it still owes lies higher. -/
theorem mayWait (k : ℕ) (c : Dev nD) (sm : SemLoc sig) (h : ∀ p ∈ (debts c).drop k, lv ((c : Thread nD τ), sm) () < lv p.1 ()) :
    (levAts L lv : sProp 𝕄) ⊢ MayWait (c : Thread nD τ) sm () (owed k c) := by
  refine MayOwe.of_cut (L := L) (lev := lv) (lv ((c : Thread nD τ), sm) ()) (fun p hp => by rw [Finset.mem_singleton.mp hp, L_tc]; exact Finset.mem_singleton_self _)
    (fun g u hg => ?_) (fun p hp => by rw [Finset.mem_singleton.mp hp]) (fun g u hg => ?_)
  · obtain ⟨p, hp, rfl⟩ := owe_pos _ hg
    have : p.1.1.2 = .tc := by
      have := List.mem_of_mem_drop hp
      fin_cases this <;> rfl
    unfold L; rw [if_pos this]; exact Finset.mem_singleton_self _
  · obtain ⟨p, hp, rfl⟩ := owe_pos _ hg
    exact h p hp

/-! ## The records and the steps -/

/-- Every cell's invariant and its first round's mark. -/
def records (K : Dev nD × Fin 13 → ℕ) : sProp 𝕄 :=
  iprop((bigSep Finset.univ fun x : Dev nD × Fin 13 => cellInv ER (rd X Y) (K x) (kcell x))
    ∗ bigSep Finset.univ fun x : Dev nD × Fin 13 => reached ER (kcell x) 0)

instance records_persistent (K : Dev nD × Fin 13 → ℕ) : BI.Persistent (records X Y K) := by unfold records; infer_instance

variable (K : Dev nD × Fin 13 → ℕ)

omit [FloatOps F] [Named F] in
theorem rec_inv (x : Dev nD × Fin 13) : records X Y K ⊢ cellInv ER (rd X Y) (K x) (kcell x) := by
  unfold records
  iintro ⟨H, -⟩
  iapply (show (bigSep Finset.univ fun x : Dev nD × Fin 13 => (cellInv ER (rd X Y) (K x) (kcell x) : sProp 𝕄)) ⊢ cellInv ER (rd X Y) (K x) (kcell x) from
    bigSep_elim (Finset.mem_univ x))
  iexact H
omit [FloatOps F] [Named F] in
theorem rec_reached (x : Dev nD × Fin 13) : records X Y K ⊢ reached ER (kcell x) 0 := by
  unfold records
  iintro ⟨-, H⟩
  iapply (show (bigSep Finset.univ fun x : Dev nD × Fin 13 => (reached ER (kcell x) 0 : sProp 𝕄)) ⊢ reached ER (kcell x) 0 from
    bigSep_elim (Finset.mem_univ x))
  iexact H

/-- A send on a channel. -/
theorem send (c d : Dev nD) (i j : Fin 12) (k : ℕ) (d' : Dev nD) (hd : d' = d) {src dst : Memref sig .tc .vmem S256x1024 .bf16} (q : PosShare TreeShare)
    (v : FVec F S256x1024 .bf16) (hs : chPay X Y (ds i).val c = owns (c : Thread nD τ) src q v)
    (hr : chPay X Y (ds j).val d = owns (d : Thread nD τ) dst fullShare v)
    (hO : (debts c).drop k = (chCell j d, N) :: (debts c).drop (k + 1))
    {hsc : (dst : Memref sig (Dev.tc d' : Thread nD τ).2.kind .vmem S256x1024 .bf16).view.ref.isScScratch = false}
    {hsrc : src.view.WordExact} {hdst : dst.view.WordExact}
    {hsem : DmaTarget.Typed .vmem (.dma (ds j)) (.remote (Dev.tc d' : Thread nD τ) dst (.dma (ds i)) hsc)}
    {α : Type} {Q : α → sProp 𝕄} {κ : PUnit → Prog (TpuEff nD τ sig (Elt F) Λ₀ .tc) α} (W : Waits sig Unit) :
    iprop(records X Y K ∗ owns (c : Thread nD τ) src q v ∗ (∃ w, owns (d : Thread nD τ) dst fullShare w)
        ∗ owes (c : Thread nD τ) (owed k c) W
        ∗ dutyTok ER (chCell i c) 0 0 ∗ dutyTok ER (chCell j d) 0 0)
      ⊢ iprop(((cred (tallyAt (chCell i c) () N) ∗ owes (c : Thread nD τ) (owed (k + 1) c) W)
            -∗ wp frame (wpE (defs₀ (F := F)) 𝒱₀ (c : Thread nD τ) none) Set.univ (κ ⟨⟩) Q)
          -∗ wp frame (wpE (defs₀ (F := F)) 𝒱₀ (c : Thread nD τ) none) Set.univ
              (.op (.enqueueDma src (.remote (Dev.tc d' : Thread nD τ) dst (.dma (ds i)) hsc) (.dma (ds j)) hsrc hdst hsem) κ) Q) := by
  subst hd
  unfold owns
  iintro ⟨#Hrec, ⟨%fs, %hfs, Hs⟩, ⟨%w, ⟨%fd, -, Hd⟩⟩, HO, Hti, Htj⟩
  iapply (Rounds.wp_send_pointsTo 𝒱₀ ER (rd X Y) (c : Thread nD τ) none (κ₁ := K (c, i.succ)) (κ₂ := K (d', j.succ))
    (r₁ := 0) (r₂ := 0) (d₁ := 0) (d₂ := 0) (fd := fd) (fs := fs) (q := q)
    (by rw [duties_ch]; exact Finset.mem_singleton_self _) (by rw [duties_ch]; exact Finset.mem_singleton_self _)
    () () N rfl rfl rfl (O₀ := owed k c) (owed (k + 1) c) (by unfold owed; rw [hO]; rfl) (W := W)
    (by
      show _ ⊢ chPay X Y (ds i).val c
      rw [hs]; unfold owns; iintro H; iexists fs; isplitr; · (ipureintro; exact hfs)
      iexact H)
    (by
      show _ ⊢ chPay X Y (ds j).val d'
      rw [hr]; unfold owns; iintro H; iexists _; isplitr; swap; · iexact H
      ipureintro; rw [View.read_write_univ]; exact hfs))
  isplitr; · iapply (rec_inv X Y K (c, i.succ)); iexact Hrec
  isplitr; · iapply (rec_inv X Y K (d', j.succ)); iexact Hrec
  isplitl [Hs]; · iexact Hs
  isplitl [Hd]; · iexact Hd
  isplitl [HO]; · iexact HO
  isplitl [Hti]; · iexact Hti
  isplitr; · iapply (rec_reached X Y K (c, i.succ)); iexact Hrec
  isplitl [Htj]; · iexact Htj
  iapply (rec_reached X Y K (d', j.succ)); iexact Hrec

/-- A wait on a channel's cell. -/
theorem await (c : Dev nD) (j : Fin 12) (k : ℕ) (hlv : ∀ p ∈ (debts c).drop k, lv (chCell j c) () < lv p.1 ())
    {src dst : Memref sig .tc .vmem S256x1024 .bf16} {h₁ h₂}
    {α : Type} {Q : α → sProp 𝕄} {κ : PUnit → Prog (TpuEff nD τ sig (Elt F) Λ₀ .tc) α} (W : Waits sig Unit) :
    iprop(records X Y K ∗ levAts L lv ∗ cred (tallyAt (chCell j c) () N) ∗ owes (c : Thread nD τ) (owed k c) W ∗ atPos ER (chCell j c) 0 ∅ 0)
      ⊢ iprop(((∃ W', owes (c : Thread nD τ) (owed k c) W') ∗ atPos ER (chCell j c) 1 ∅ 0 ∗ chPay X Y (ds j).val c
            -∗ wp frame (wpE (defs₀ (F := F)) 𝒱₀ (c : Thread nD τ) none) Set.univ (κ ⟨⟩) Q)
          -∗ wp frame (wpE (defs₀ (F := F)) 𝒱₀ (c : Thread nD τ) none) Set.univ
              (.op (.waitDma2 (ds j) src dst h₁ h₂) κ) Q) := by
  iintro ⟨#Hrec, #Hlev, Hc, HO, Hat⟩ Hk
  iapply (Rounds.wp_wait_rest_token 𝒱₀ ER (rd X Y) (c : Thread nD τ) none (κ := K (c, j.succ))
      (wpE_waitDma2_eq 𝒱₀ (c : Thread nD τ) none Set.univ) (Set.mem_univ _) () (O := owed k c) (W := W) (R := 0) (m := 0) (T := ∅)
      (by rw [Nat.zero_add]; exact (expect_ch X Y j c).symm)) $$ [Hc HO Hat]
  · isplitr; · iapply (rec_inv X Y K (c, j.succ)); iexact Hrec
    isplitl [Hc]; · iexact Hc
    isplitl [HO]; · iexact HO
    isplitr; · iapply (mayWait k c _ hlv); iexact Hlev
    iexact Hat
  iintro ⟨HO, Hat, -, Hpay⟩
  iapply Hk
  isplitl [HO]; · iexists _; iexact HO
  isplitl [Hat]; · iexact Hat
  iapply (Entails.of_eq (show bigSep ((rd X Y).duties (chCell j c) 0 \ ∅) (fun d => (rd X Y).payload (chCell j c) 0 d) = chPay X Y (ds j).val c from by
    rw [Finset.sdiff_empty, duties_ch, bigSep_singleton]; rfl))
  iexact Hpay

/-- A signal to a peer's barrier, with the two slots that the peer may write. -/
theorem signal (c : Dev nD) (i : Fin 3) (k : ℕ) (d' : Dev nD) (hd : d' = frm i c)
    (hO : (debts c).drop k = (barCell (frm i c), 1) :: (debts c).drop (k + 1))
    {α : Type} {Q : α → sProp 𝕄} {κ : PUnit → Prog (TpuEff nD τ sig (Elt F) Λ₀ .tc) α} (n : ℕ) (hn : n = 1) (W : Waits sig Unit) :
    iprop(records X Y K ∗ (∃ w, owns (c : Thread nD τ) (agS i) fullShare w) ∗ (∃ w, owns (c : Thread nD τ) (rvS i) fullShare w)
        ∗ owes (c : Thread nD τ) (owed k c) W ∗ dutyTok ER (barCell (frm i c)) 0 i)
      ⊢ iprop((owes (c : Thread nD τ) (owed (k + 1) c) W
            -∗ wp frame (wpE (defs₀ (F := F)) 𝒱₀ (c : Thread nD τ) none) Set.univ (κ ⟨⟩) Q)
          -∗ wp frame (wpE (defs₀ (F := F)) 𝒱₀ (c : Thread nD τ) none) Set.univ
              (.op (.semSignal (Dev.tc d' : Thread nD τ) barS n) κ) Q) := by
  subst hd; subst hn
  iintro ⟨#Hrec, Ha, Hr, HO, Ht⟩
  iapply (Rounds.wp_signal 𝒱₀ ER (rd X Y) (c : Thread nD τ) none (dst := (frm i c : Thread nD τ)) (κ := K (frm i c, 0))
      (d := i) (by rw [duties_bar]; exact Finset.mem_univ _) (show (rd X Y).amount (barCell (frm i c)) 0 i = 1 from rfl) () (O₀ := owed k c) (owed (k + 1) c)
      (by unfold owed; rw [hO]; rfl) (W := W))
  isplitr; · iapply (rec_inv X Y K (frm i c, 0)); iexact Hrec
  isplitl [HO]; · iexact HO
  isplitl [Ht]; · iexact Ht
  isplitl [Ha Hr]
  · iapply (Entails.of_eq (show iprop((∃ w, owns (c : Thread nD τ) (agS i) fullShare w) ∗ (∃ w, owns (c : Thread nD τ) (rvS i) fullShare w))
        = (rd X Y).payload (barCell (frm i c)) 0 i from by
      show _ = barPay i (frm i c)
      unfold barPay; rw [goto_frm]))
    isplitl [Ha] <;> iassumption
  iapply (rec_reached X Y K (frm i c, 0)); iexact Hrec

/-- The wait on the own barrier: each peer's two slots come with it. -/
theorem await_bar (c : Dev nD) (k : ℕ) (hlv : ∀ p ∈ (debts c).drop k, lv (barCell c) () < lv p.1 ())
    {α : Type} {Q : α → sProp 𝕄} {κ : PUnit → Prog (TpuEff nD τ sig (Elt F) Λ₀ .tc) α} (n : ℕ) (hn : n = 3) (W : Waits sig Unit) :
    iprop(records X Y K ∗ levAts L lv ∗ cred (tallyAt (barCell c) () 3) ∗ owes (c : Thread nD τ) (owed k c) W ∗ atPos ER (barCell c) 0 ∅ 0)
      ⊢ iprop(((∃ W', owes (c : Thread nD τ) (owed k c) W') ∗ atPos ER (barCell c) 1 ∅ 0 ∗ barPay 0 c ∗ barPay 1 c ∗ barPay 2 c
            -∗ wp frame (wpE (defs₀ (F := F)) 𝒱₀ (c : Thread nD τ) none) Set.univ (κ ⟨⟩) Q)
          -∗ wp frame (wpE (defs₀ (F := F)) 𝒱₀ (c : Thread nD τ) none) Set.univ
              (.op (.semWait barS n) κ) Q) := by
  subst hn
  iintro ⟨#Hrec, #Hlev, Hc, HO, Hat⟩ Hk
  iapply (Rounds.wp_wait_rest_token 𝒱₀ ER (rd X Y) (c : Thread nD τ) none (κ := K (c, 0))
      (wpE_semWait_eq 𝒱₀ (c : Thread nD τ) none Set.univ) (Set.mem_univ _) () (O := owed k c) (W := W) (R := 0) (m := 0) (T := ∅)
      (by rw [Nat.zero_add]; exact (expect_bar X Y c).symm)) $$ [Hc HO Hat]
  · isplitr; · iapply (rec_inv X Y K (c, 0)); iexact Hrec
    isplitl [Hc]; · iexact Hc
    isplitl [HO]; · iexact HO
    isplitr; · iapply (mayWait k c _ hlv); iexact Hlev
    iexact Hat
  iintro ⟨HO, Hat, -, Hpay⟩
  iapply Hk
  isplitl [HO]; · iexists _; iexact HO
  isplitl [Hat]; · iexact Hat
  iapply (Entails.of_eq (show bigSep ((rd X Y).duties (barCell c) 0 \ ∅) (fun d => (rd X Y).payload (barCell c) 0 d)
      = iprop(barPay 0 c ∗ barPay 1 c ∗ barPay 2 c) from by
    rw [Finset.sdiff_empty, duties_bar, bigSep_univ_eq_bigSepL [0, 1, 2] (by decide) (by decide)]; rfl))
  iexact Hpay

end Sched

end Cert.KernelIdeal.Run

end

end
-- ==== Proof.Comm.lean ====
module

public import proofs.«01_k».proof.Proof.Proto

/-!
The stretches of the body that signal, send or wait, each for a symbolic device: what it takes and what it leaves.

-/

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-- What a device still owes after `k` payments, its past waits forgotten. -/
def debt (k : ℕ) (c : Dev nD) : sProp 𝕄 := iprop(∃ W : Waits sig Unit, owes (c : Thread nD τ) (owed k c) W)

theorem dev1 (c : Dev nD) : (⟨k0_dev1 c, k0_dev1_lt c⟩ : Dev nD) = frm 0 c := by revert c; decide
theorem dev2 (c : Dev nD) : (⟨k0_dev2 c, k0_dev2_lt c⟩ : Dev nD) = frm 1 c := by revert c; decide
theorem dev3 (c : Dev nD) : (⟨k0_dev3 c, k0_dev3_lt c⟩ : Dev nD) = frm 2 c := by revert c; decide
theorem dev4 (c : Dev nD) : (⟨k0_dev4 c, k0_dev4_lt c⟩ : Dev nD) = goto 0 c := by revert c; decide
theorem dev5 (c : Dev nD) : (⟨k0_dev5 c, k0_dev5_lt c⟩ : Dev nD) = goto 1 c := by revert c; decide
theorem dev6 (c : Dev nD) : (⟨k0_dev6 c, k0_dev6_lt c⟩ : Dev nD) = goto 2 c := by revert c; decide
theorem dev7 (c : Dev nD) : (⟨k0_dev7 c, k0_dev7_lt c⟩ : Dev nD) = goto 1 c := by revert c; decide
theorem dev8 (c : Dev nD) : (⟨k0_dev8 c, k0_dev8_lt c⟩ : Dev nD) = goto 0 c := by revert c; decide
theorem dev9 (c : Dev nD) : (⟨k0_dev9 c, k0_dev9_lt c⟩ : Dev nD) = goto 2 c := by revert c; decide

variable (X : Dev nD → FVec F S256x1024 .bf16) (Y : Fin 3 → Dev nD → FVec F S256x1024 .bf16) (K : Dev nD × Fin 13 → ℕ)

abbrev wpc (c : Dev nD) {R : Type} (e : Prog (TpuEff nD τ sig (Elt F) Λ₀ .tc) R) (Q : R → sProp 𝕄) : sProp 𝕄 :=
  wp frame (wpE (defs₀ (F := F)) 𝒱₀ (c : Thread nD τ) none) Set.univ e Q

/-- The three signals and the wait on the own barrier. -/
theorem handshake (c : Dev nD) {R : Type} (κ : Prog (TpuEff nD τ sig (Elt F) Λ₀ .tc) R) (Q : R → sProp 𝕄) :
    iprop(records X Y K ∗ levAts L lv
        ∗ ((∃ w, owns (c : Thread nD τ) ag3 fullShare w) ∗ (∃ w, owns (c : Thread nD τ) ag1 fullShare w) ∗ (∃ w, owns (c : Thread nD τ) ag2 fullShare w))
        ∗ ((∃ w, owns (c : Thread nD τ) rv0 fullShare w) ∗ (∃ w, owns (c : Thread nD τ) rv1 fullShare w) ∗ (∃ w, owns (c : Thread nD τ) rv2 fullShare w))
        ∗ debt 0 c ∗ (dutyTok ER (barCell (frm 0 c)) 0 0 ∗ dutyTok ER (barCell (frm 1 c)) 0 1 ∗ dutyTok ER (barCell (frm 2 c)) 0 2)
        ∗ cred (tallyAt (barCell c) () 3) ∗ atPos ER (barCell c) 0 ∅ 0)
      ⊢ iprop((debt 3 c ∗ atPos ER (barCell c) 1 ∅ 0 ∗ barPay 0 c ∗ barPay 1 c ∗ barPay 2 c -∗ wpc c κ Q)
        -∗ wpc c (st2 c κ) Q) := by
  unfold wpc st2 debt
  simp only [semSignalWord, semWaitWord, Prog.lift, Prog.bind_op, Prog.bind_ret, Prog.pure_eq_ret, wp_deviceId]
  iintro ⟨#Hrec, #Hlev, ⟨Ha0, Ha1, Ha2⟩, ⟨Hr0, Hr1, Hr2⟩, ⟨%W, HO⟩, ⟨Ht0, Ht1, Ht2⟩, Hc, Hat⟩ Hk
  iapply (signal X Y K c 0 0 _ (dev1 c) rfl _ (by decide) W) $$ [Ha0 Hr0 HO Ht0]
  · isplitr; · iexact Hrec
    isplitl [Ha0]; · iexact Ha0
    isplitl [Hr0]; · iexact Hr0
    isplitl [HO]; · iexact HO
    iexact Ht0
  iintro HO
  iapply (signal X Y K c 1 1 _ (dev2 c) rfl _ (by decide) W) $$ [Ha1 Hr1 HO Ht1]
  · isplitr; · iexact Hrec
    isplitl [Ha1]; · iexact Ha1
    isplitl [Hr1]; · iexact Hr1
    isplitl [HO]; · iexact HO
    iexact Ht1
  iintro HO
  iapply (signal X Y K c 2 2 _ (dev3 c) rfl _ (by decide) W) $$ [Ha2 Hr2 HO Ht2]
  · isplitr; · iexact Hrec
    isplitl [Ha2]; · iexact Ha2
    isplitl [Hr2]; · iexact Hr2
    isplitl [HO]; · iexact HO
    iexact Ht2
  iintro HO
  iapply (await_bar X Y K c 3 (by revert c; decide) _ (by decide) W) $$ [Hc HO Hat]
  · isplitr; · iexact Hrec
    isplitr; · iexact Hlev
    isplitl [Hc]; · iexact Hc
    isplitl [HO]; · iexact HO
    iexact Hat
  iexact Hk

set_option maxHeartbeats 1000000 in
set_option maxRecDepth 65536 in
/-- The own block goes right and left. -/
theorem send_near (c : Dev nD) {R : Type} (κ : Prog (TpuEff nD τ sig (Elt F) Λ₀ .tc) R) (Q : R → sProp 𝕄) :
    iprop(records X Y K ∗ levAts L lv ∗ debt 3 c
        ∗ (owns (c : Thread nD τ) ag0 (agQ 0) (X c) ∗ (∃ w, owns (goto 0 c : Thread nD τ) ag3 fullShare w) ∗ dutyTok ER (chCell 0 c) 0 0 ∗ dutyTok ER (chCell 3 (goto 0 c)) 0 0)
        ∗ (owns (c : Thread nD τ) ag0 (agQ 1) (X c) ∗ (∃ w, owns (goto 1 c : Thread nD τ) ag1 fullShare w) ∗ dutyTok ER (chCell 1 c) 0 0 ∗ dutyTok ER (chCell 4 (goto 1 c)) 0 0))
      ⊢ iprop((debt 5 c ∗ cred (tallyAt (chCell 0 c) () N) ∗ cred (tallyAt (chCell 1 c) () N) -∗ wpc c κ Q)
        -∗ wpc c (st4 agM (Memref.isWhole_whole _) cc0_scratch14 cc0_scratch15 c κ) Q) := by
  unfold wpc st4 debt
  simp only [semSignalWord, semWaitWord, Prog.lift, Prog.bind_op, Prog.bind_ret, Prog.pure_eq_ret, wp_deviceId]
  iintro ⟨#Hrec, #Hlev, ⟨%W, HO⟩, ⟨Hs0, Hd0, Hti0, Htj0⟩, ⟨Hs1, Hd1, Hti1, Htj1⟩⟩ Hk
  iapply (send X Y K c (goto 0 c) 0 3 3 _ (dev4 c) (agQ 0) (X c) rfl (by show (owns (goto 0 c : Thread nD τ) ag3 fullShare (X (frm 0 (goto 0 c))) : sProp 𝕄) = _; rw [show frm 0 (goto 0 c) = c from frm_goto 0 c]) rfl (src := ag0) (dst := ag3) W) $$ [Hs0 Hd0 HO Hti0 Htj0]
  · isplitr; · iexact Hrec
    isplitl [Hs0]; · iexact Hs0
    isplitl [Hd0]; · iexact Hd0
    isplitl [HO]; · iexact HO
    isplitl [Hti0]; · iexact Hti0
    iexact Htj0
  iintro ⟨Hc0, HO⟩
  iapply (send X Y K c (goto 1 c) 1 4 4 _ (dev5 c) (agQ 1) (X c) rfl (by show (owns (goto 1 c : Thread nD τ) ag1 fullShare (X (frm 1 (goto 1 c))) : sProp 𝕄) = _; rw [show frm 1 (goto 1 c) = c from frm_goto 1 c]) rfl (src := ag0) (dst := ag1) W) $$ [Hs1 Hd1 HO Hti1 Htj1]
  · isplitr; · iexact Hrec
    isplitl [Hs1]; · iexact Hs1
    isplitl [Hd1]; · iexact Hd1
    isplitl [HO]; · iexact HO
    isplitl [Hti1]; · iexact Hti1
    iexact Htj1
  iintro ⟨Hc1, HO⟩
  iapply Hk
  isplitl [HO]; · iexists W; iexact HO
  isplitl [Hc0]; · iexact Hc0
  iexact Hc1

set_option maxHeartbeats 1000000 in
set_option maxRecDepth 65536 in
/-- The own block goes across. -/
theorem send_far (c : Dev nD) {R : Type} (κ : Prog (TpuEff nD τ sig (Elt F) Λ₀ .tc) R) (Q : R → sProp 𝕄) :
    iprop(records X Y K ∗ levAts L lv ∗ debt 5 c
        ∗ (owns (c : Thread nD τ) ag0 (agQ 2) (X c) ∗ (∃ w, owns (goto 2 c : Thread nD τ) ag2 fullShare w) ∗ dutyTok ER (chCell 2 c) 0 0 ∗ dutyTok ER (chCell 5 (goto 2 c)) 0 0))
      ⊢ iprop((debt 6 c ∗ cred (tallyAt (chCell 2 c) () N) -∗ wpc c κ Q)
        -∗ wpc c (st10 agM (Memref.isWhole_whole _) cc0_scratch14 cc0_scratch15 c κ) Q) := by
  unfold wpc st10 debt
  simp only [semSignalWord, semWaitWord, Prog.lift, Prog.bind_op, Prog.bind_ret, Prog.pure_eq_ret, wp_deviceId]
  iintro ⟨#Hrec, #Hlev, ⟨%W, HO⟩, ⟨Hs0, Hd0, Hti0, Htj0⟩⟩ Hk
  iapply (send X Y K c (goto 2 c) 2 5 5 _ (dev6 c) (agQ 2) (X c) rfl (by show (owns (goto 2 c : Thread nD τ) ag2 fullShare (X (frm 2 (goto 2 c))) : sProp 𝕄) = _; rw [show frm 2 (goto 2 c) = c from frm_goto 2 c]) rfl (src := ag0) (dst := ag2) W) $$ [Hs0 Hd0 HO Hti0 Htj0]
  · isplitr; · iexact Hrec
    isplitl [Hs0]; · iexact Hs0
    isplitl [Hd0]; · iexact Hd0
    isplitl [HO]; · iexact HO
    isplitl [Hti0]; · iexact Hti0
    iexact Htj0
  iintro ⟨Hc0, HO⟩
  iapply Hk
  isplitl [HO]; · iexists W; iexact HO
  iexact Hc0

set_option maxHeartbeats 1000000 in
set_option maxRecDepth 65536 in
/-- The left neighbour's block arrives. -/
theorem await_left (c : Dev nD) {R : Type} (κ : Prog (TpuEff nD τ sig (Elt F) Λ₀ .tc) R) (Q : R → sProp 𝕄) :
    iprop(records X Y K ∗ levAts L lv ∗ debt 6 c
        ∗ cred (tallyAt (chCell 3 c) () N) ∗ atPos ER (chCell 3 c) 0 ∅ 0)
      ⊢ iprop((debt 6 c ∗ atPos ER (chCell 3 c) 1 ∅ 0 ∗ chPay X Y 5 c -∗ wpc c κ Q)
        -∗ wpc c (st11 agM (Memref.isWhole_whole _) cc0_scratch15 κ) Q) := by
  unfold wpc st11 debt
  simp only [semSignalWord, semWaitWord, Prog.lift, Prog.bind_op, Prog.bind_ret, Prog.pure_eq_ret, wp_deviceId]
  iintro ⟨#Hrec, #Hlev, ⟨%W, HO⟩, Hc, Hat⟩ Hk
  iapply (await X Y K c 3 6 (by revert c; decide) W) $$ [Hc HO Hat]
  · isplitr; · iexact Hrec
    isplitr; · iexact Hlev
    isplitl [Hc]; · iexact Hc
    isplitl [HO]; · iexact HO
    iexact Hat
  iintro ⟨HO, Hat, Hp⟩
  iapply Hk
  isplitl [HO]; · iexact HO
  isplitl [Hat]; · iexact Hat
  iexact Hp

set_option maxHeartbeats 1000000 in
set_option maxRecDepth 65536 in
/-- The sum for the left neighbour goes; the right neighbour's block arrives. -/
theorem send_sum1 (c : Dev nD) {R : Type} (κ : Prog (TpuEff nD τ sig (Elt F) Λ₀ .tc) R) (Q : R → sProp 𝕄) :
    iprop(records X Y K ∗ levAts L lv ∗ debt 6 c
        ∗ (owns (c : Thread nD τ) sg1 fullShare (Y 1 c) ∗ (∃ w, owns (goto 1 c : Thread nD τ) rv1 fullShare w) ∗ dutyTok ER (chCell 7 c) 0 0 ∗ dutyTok ER (chCell 10 (goto 1 c)) 0 0)
        ∗ cred (tallyAt (chCell 4 c) () N) ∗ atPos ER (chCell 4 c) 0 ∅ 0)
      ⊢ iprop((debt 7 c ∗ cred (tallyAt (chCell 7 c) () N) ∗ atPos ER (chCell 4 c) 1 ∅ 0 ∗ chPay X Y 6 c -∗ wpc c κ Q)
        -∗ wpc c (st13 agM (Memref.isWhole_whole _) sgM (Memref.isWhole_whole _) rvM (Memref.isWhole_whole _) cc0_scratch15 cc0_scratch16 cc0_scratch17 c κ) Q) := by
  unfold wpc st13 debt
  simp only [semSignalWord, semWaitWord, Prog.lift, Prog.bind_op, Prog.bind_ret, Prog.pure_eq_ret, wp_deviceId]
  iintro ⟨#Hrec, #Hlev, ⟨%W, HO⟩, ⟨Hs0, Hd0, Hti0, Htj0⟩, Hc, Hat⟩ Hk
  iapply (send X Y K c (goto 1 c) 7 10 6 _ (dev7 c) fullShare (Y 1 c) rfl (by show (owns (goto 1 c : Thread nD τ) rv1 fullShare (Y 1 (frm 1 (goto 1 c))) : sProp 𝕄) = _; rw [show frm 1 (goto 1 c) = c from frm_goto 1 c]) rfl (src := sg1) (dst := rv1) W) $$ [Hs0 Hd0 HO Hti0 Htj0]
  · isplitr; · iexact Hrec
    isplitl [Hs0]; · iexact Hs0
    isplitl [Hd0]; · iexact Hd0
    isplitl [HO]; · iexact HO
    isplitl [Hti0]; · iexact Hti0
    iexact Htj0
  iintro ⟨Hc0, HO⟩
  iapply (await X Y K c 4 7 (by revert c; decide) W) $$ [Hc HO Hat]
  · isplitr; · iexact Hrec
    isplitr; · iexact Hlev
    isplitl [Hc]; · iexact Hc
    isplitl [HO]; · iexact HO
    iexact Hat
  iintro ⟨HO, Hat, Hp⟩
  iapply Hk
  isplitl [HO]; · iexact HO
  isplitl [Hc0]; · iexact Hc0
  isplitl [Hat]; · iexact Hat
  iexact Hp

set_option maxHeartbeats 1000000 in
set_option maxRecDepth 65536 in
/-- The sum for the right neighbour goes; the block from across arrives. -/
theorem send_sum0 (c : Dev nD) {R : Type} (κ : Prog (TpuEff nD τ sig (Elt F) Λ₀ .tc) R) (Q : R → sProp 𝕄) :
    iprop(records X Y K ∗ levAts L lv ∗ debt 7 c
        ∗ (owns (c : Thread nD τ) sg0 fullShare (Y 0 c) ∗ (∃ w, owns (goto 0 c : Thread nD τ) rv0 fullShare w) ∗ dutyTok ER (chCell 6 c) 0 0 ∗ dutyTok ER (chCell 9 (goto 0 c)) 0 0)
        ∗ cred (tallyAt (chCell 5 c) () N) ∗ atPos ER (chCell 5 c) 0 ∅ 0)
      ⊢ iprop((debt 8 c ∗ cred (tallyAt (chCell 6 c) () N) ∗ atPos ER (chCell 5 c) 1 ∅ 0 ∗ chPay X Y 7 c -∗ wpc c κ Q)
        -∗ wpc c (st15 agM (Memref.isWhole_whole _) sgM (Memref.isWhole_whole _) rvM (Memref.isWhole_whole _) cc0_scratch15 cc0_scratch16 cc0_scratch17 c κ) Q) := by
  unfold wpc st15 debt
  simp only [semSignalWord, semWaitWord, Prog.lift, Prog.bind_op, Prog.bind_ret, Prog.pure_eq_ret, wp_deviceId]
  iintro ⟨#Hrec, #Hlev, ⟨%W, HO⟩, ⟨Hs0, Hd0, Hti0, Htj0⟩, Hc, Hat⟩ Hk
  iapply (send X Y K c (goto 0 c) 6 9 7 _ (dev8 c) fullShare (Y 0 c) rfl (by show (owns (goto 0 c : Thread nD τ) rv0 fullShare (Y 0 (frm 0 (goto 0 c))) : sProp 𝕄) = _; rw [show frm 0 (goto 0 c) = c from frm_goto 0 c]) rfl (src := sg0) (dst := rv0) W) $$ [Hs0 Hd0 HO Hti0 Htj0]
  · isplitr; · iexact Hrec
    isplitl [Hs0]; · iexact Hs0
    isplitl [Hd0]; · iexact Hd0
    isplitl [HO]; · iexact HO
    isplitl [Hti0]; · iexact Hti0
    iexact Htj0
  iintro ⟨Hc0, HO⟩
  iapply (await X Y K c 5 8 (by revert c; decide) W) $$ [Hc HO Hat]
  · isplitr; · iexact Hrec
    isplitr; · iexact Hlev
    isplitl [Hc]; · iexact Hc
    isplitl [HO]; · iexact HO
    iexact Hat
  iintro ⟨HO, Hat, Hp⟩
  iapply Hk
  isplitl [HO]; · iexact HO
  isplitl [Hc0]; · iexact Hc0
  isplitl [Hat]; · iexact Hat
  iexact Hp

set_option maxHeartbeats 1000000 in
set_option maxRecDepth 65536 in
/-- The sum for the device across goes. -/
theorem send_sum2 (c : Dev nD) {R : Type} (κ : Prog (TpuEff nD τ sig (Elt F) Λ₀ .tc) R) (Q : R → sProp 𝕄) :
    iprop(records X Y K ∗ levAts L lv ∗ debt 8 c
        ∗ (owns (c : Thread nD τ) sg2 fullShare (Y 2 c) ∗ (∃ w, owns (goto 2 c : Thread nD τ) rv2 fullShare w) ∗ dutyTok ER (chCell 8 c) 0 0 ∗ dutyTok ER (chCell 11 (goto 2 c)) 0 0))
      ⊢ iprop((debt 9 c ∗ cred (tallyAt (chCell 8 c) () N) -∗ wpc c κ Q)
        -∗ wpc c (st17 sgM (Memref.isWhole_whole _) rvM (Memref.isWhole_whole _) cc0_scratch16 cc0_scratch17 c κ) Q) := by
  unfold wpc st17 debt
  simp only [semSignalWord, semWaitWord, Prog.lift, Prog.bind_op, Prog.bind_ret, Prog.pure_eq_ret, wp_deviceId]
  iintro ⟨#Hrec, #Hlev, ⟨%W, HO⟩, ⟨Hs0, Hd0, Hti0, Htj0⟩⟩ Hk
  iapply (send X Y K c (goto 2 c) 8 11 8 _ (dev9 c) fullShare (Y 2 c) rfl (by show (owns (goto 2 c : Thread nD τ) rv2 fullShare (Y 2 (frm 2 (goto 2 c))) : sProp 𝕄) = _; rw [show frm 2 (goto 2 c) = c from frm_goto 2 c]) rfl (src := sg2) (dst := rv2) W) $$ [Hs0 Hd0 HO Hti0 Htj0]
  · isplitr; · iexact Hrec
    isplitl [Hs0]; · iexact Hs0
    isplitl [Hd0]; · iexact Hd0
    isplitl [HO]; · iexact HO
    isplitl [Hti0]; · iexact Hti0
    iexact Htj0
  iintro ⟨Hc0, HO⟩
  iapply Hk
  isplitl [HO]; · iexists W; iexact HO
  iexact Hc0

set_option maxHeartbeats 1000000 in
set_option maxRecDepth 65536 in
/-- The three partial sums arrive. -/
theorem await_sums (c : Dev nD) {R : Type} (κ : Prog (TpuEff nD τ sig (Elt F) Λ₀ .tc) R) (Q : R → sProp 𝕄) :
    iprop(records X Y K ∗ levAts L lv ∗ debt 9 c ∗ (cred (tallyAt (chCell 9 c) () N) ∗ atPos ER (chCell 9 c) 0 ∅ 0) ∗ (cred (tallyAt (chCell 10 c) () N) ∗ atPos ER (chCell 10 c) 0 ∅ 0) ∗ (cred (tallyAt (chCell 11 c) () N) ∗ atPos ER (chCell 11 c) 0 ∅ 0))
      ⊢ iprop((debt 9 c ∗ (atPos ER (chCell 9 c) 1 ∅ 0 ∗ chPay X Y 11 c) ∗ (atPos ER (chCell 10 c) 1 ∅ 0 ∗ chPay X Y 12 c) ∗ (atPos ER (chCell 11 c) 1 ∅ 0 ∗ chPay X Y 13 c) -∗ wpc c κ Q)
        -∗ wpc c (st19 sgM (Memref.isWhole_whole _) rvM (Memref.isWhole_whole _) cc0_scratch17 κ) Q) := by
  unfold wpc st19 debt
  simp only [semSignalWord, semWaitWord, Prog.lift, Prog.bind_op, Prog.bind_ret, Prog.pure_eq_ret, wp_deviceId]
  iintro ⟨#Hrec, #Hlev, ⟨%W0, HO⟩, ⟨Hc9, Ha9⟩, ⟨Hc10, Ha10⟩, ⟨Hc11, Ha11⟩⟩ Hk
  iapply (await X Y K c 9 9 (by revert c; decide) W0) $$ [Hc9 HO Ha9]
  · isplitr; · iexact Hrec
    isplitr; · iexact Hlev
    isplitl [Hc9]; · iexact Hc9
    isplitl [HO]; · iexact HO
    iexact Ha9
  iintro ⟨⟨%W1, HO⟩, Ha9, Hp9⟩
  iapply (await X Y K c 10 9 (by revert c; decide) W1) $$ [Hc10 HO Ha10]
  · isplitr; · iexact Hrec
    isplitr; · iexact Hlev
    isplitl [Hc10]; · iexact Hc10
    isplitl [HO]; · iexact HO
    iexact Ha10
  iintro ⟨⟨%W2, HO⟩, Ha10, Hp10⟩
  iapply (await X Y K c 11 9 (by revert c; decide) W2) $$ [Hc11 HO Ha11]
  · isplitr; · iexact Hrec
    isplitr; · iexact Hlev
    isplitl [Hc11]; · iexact Hc11
    isplitl [HO]; · iexact HO
    iexact Ha11
  iintro ⟨⟨%W3, HO⟩, Ha11, Hp11⟩
  iapply Hk
  isplitl [HO]; · iexists W3; iexact HO
  isplitl [Ha9 Hp9]; · (isplitl [Ha9]; · iexact Ha9); iexact Hp9
  isplitl [Ha10 Hp10]; · (isplitl [Ha10]; · iexact Ha10); iexact Hp10
  isplitl [Ha11]; · iexact Ha11
  iexact Hp11

set_option maxHeartbeats 1000000 in
set_option maxRecDepth 65536 in
/-- What was sent has been read. -/
theorem drain (c : Dev nD) {R : Type} (κ : Prog (TpuEff nD τ sig (Elt F) Λ₀ .tc) R) (Q : R → sProp 𝕄) :
    iprop(records X Y K ∗ levAts L lv ∗ debt 9 c ∗ (cred (tallyAt (chCell 0 c) () N) ∗ atPos ER (chCell 0 c) 0 ∅ 0) ∗ (cred (tallyAt (chCell 1 c) () N) ∗ atPos ER (chCell 1 c) 0 ∅ 0) ∗ (cred (tallyAt (chCell 2 c) () N) ∗ atPos ER (chCell 2 c) 0 ∅ 0) ∗ (cred (tallyAt (chCell 6 c) () N) ∗ atPos ER (chCell 6 c) 0 ∅ 0) ∗ (cred (tallyAt (chCell 7 c) () N) ∗ atPos ER (chCell 7 c) 0 ∅ 0) ∗ (cred (tallyAt (chCell 8 c) () N) ∗ atPos ER (chCell 8 c) 0 ∅ 0))
      ⊢ iprop((debt 9 c ∗ (atPos ER (chCell 0 c) 1 ∅ 0 ∗ chPay X Y 2 c) ∗ (atPos ER (chCell 1 c) 1 ∅ 0 ∗ chPay X Y 3 c) ∗ (atPos ER (chCell 2 c) 1 ∅ 0 ∗ chPay X Y 4 c) ∗ (atPos ER (chCell 6 c) 1 ∅ 0 ∗ chPay X Y 8 c) ∗ (atPos ER (chCell 7 c) 1 ∅ 0 ∗ chPay X Y 9 c) ∗ (atPos ER (chCell 8 c) 1 ∅ 0 ∗ chPay X Y 10 c) -∗ wpc c κ Q)
        -∗ wpc c (st21 agM (Memref.isWhole_whole _) sgM (Memref.isWhole_whole _) rvM (Memref.isWhole_whole _) cc0_scratch14 cc0_scratch16 κ) Q) := by
  unfold wpc st21 debt
  simp only [semSignalWord, semWaitWord, Prog.lift, Prog.bind_op, Prog.bind_ret, Prog.pure_eq_ret, wp_deviceId]
  iintro ⟨#Hrec, #Hlev, ⟨%W0, HO⟩, ⟨Hc0, Ha0⟩, ⟨Hc1, Ha1⟩, ⟨Hc2, Ha2⟩, ⟨Hc6, Ha6⟩, ⟨Hc7, Ha7⟩, ⟨Hc8, Ha8⟩⟩ Hk
  iapply (await X Y K c 0 9 (by revert c; decide) W0) $$ [Hc0 HO Ha0]
  · isplitr; · iexact Hrec
    isplitr; · iexact Hlev
    isplitl [Hc0]; · iexact Hc0
    isplitl [HO]; · iexact HO
    iexact Ha0
  iintro ⟨⟨%W1, HO⟩, Ha0, Hp0⟩
  iapply (await X Y K c 1 9 (by revert c; decide) W1) $$ [Hc1 HO Ha1]
  · isplitr; · iexact Hrec
    isplitr; · iexact Hlev
    isplitl [Hc1]; · iexact Hc1
    isplitl [HO]; · iexact HO
    iexact Ha1
  iintro ⟨⟨%W2, HO⟩, Ha1, Hp1⟩
  iapply (await X Y K c 2 9 (by revert c; decide) W2) $$ [Hc2 HO Ha2]
  · isplitr; · iexact Hrec
    isplitr; · iexact Hlev
    isplitl [Hc2]; · iexact Hc2
    isplitl [HO]; · iexact HO
    iexact Ha2
  iintro ⟨⟨%W3, HO⟩, Ha2, Hp2⟩
  iapply (await X Y K c 6 9 (by revert c; decide) W3) $$ [Hc6 HO Ha6]
  · isplitr; · iexact Hrec
    isplitr; · iexact Hlev
    isplitl [Hc6]; · iexact Hc6
    isplitl [HO]; · iexact HO
    iexact Ha6
  iintro ⟨⟨%W4, HO⟩, Ha6, Hp6⟩
  iapply (await X Y K c 7 9 (by revert c; decide) W4) $$ [Hc7 HO Ha7]
  · isplitr; · iexact Hrec
    isplitr; · iexact Hlev
    isplitl [Hc7]; · iexact Hc7
    isplitl [HO]; · iexact HO
    iexact Ha7
  iintro ⟨⟨%W5, HO⟩, Ha7, Hp7⟩
  iapply (await X Y K c 8 9 (by revert c; decide) W5) $$ [Hc8 HO Ha8]
  · isplitr; · iexact Hrec
    isplitr; · iexact Hlev
    isplitl [Hc8]; · iexact Hc8
    isplitl [HO]; · iexact HO
    iexact Ha8
  iintro ⟨⟨%W6, HO⟩, Ha8, Hp8⟩
  iapply Hk
  isplitl [HO]; · iexists W6; iexact HO
  isplitl [Ha0 Hp0]; · (isplitl [Ha0]; · iexact Ha0); iexact Hp0
  isplitl [Ha1 Hp1]; · (isplitl [Ha1]; · iexact Ha1); iexact Hp1
  isplitl [Ha2 Hp2]; · (isplitl [Ha2]; · iexact Ha2); iexact Hp2
  isplitl [Ha6 Hp6]; · (isplitl [Ha6]; · iexact Ha6); iexact Hp6
  isplitl [Ha7 Hp7]; · (isplitl [Ha7]; · iexact Ha7); iexact Hp7
  isplitl [Ha8]; · iexact Ha8
  iexact Hp8

end Cert.KernelIdeal.Run

end

end
-- ==== Proof.Chunk.lean ====
module

public import proofs.«01_k».proof.Proof.Base

/-!
The four stretches that compute a partial sum: each reads one gathered block of `x`, its mask, the weights and the caches,
and leaves the block's partial sum in a slot to be sent, or in the buffer that keeps the device's own.
-/

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- A slot's mask. -/
theorem maskRows (s : Fin 4) : ∀ a, (![s.val, 0, 0] : Fin 3 → ℕ) a + S1x256x1024.size a ≤ S4x256x1024.size a := by
  revert s; decide

/-- The mask added to the scores of the block in slot `s`. -/
abbrev maskRd (f : bsM.view.ty.Contents (Elt F)) (s : Fin 4) : FVec F S256x1024 .f32 :=
  shapeCast S256x1024 (View.readAt (Elt F) bsM.view (Rect.unit (s := S4x256x1024) ![s.val, 0, 0] S1x256x1024.size (maskRows s)).toLoadRect f)
    shapeCasts_S1x256x1024_S256x1024

/-- The buffers that a partial sum reads, all but the block of `x`. -/
def readOnly (c : Dev nD) (fw : Buf (Elt F) (wqM.view.loc (c : Thread nD τ))) (fo : Buf (Elt F) (woM.view.loc (c : Thread nD τ)))
    (fk : Buf (Elt F) (kbM.view.loc (c : Thread nD τ))) (fv : Buf (Elt F) (vbM.view.loc (c : Thread nD τ)))
    (fb : Buf (Elt F) (bsM.view.loc (c : Thread nD τ))) : sProp 𝕄 :=
  iprop((wqM.view.loc (c : Thread nD τ) ↦[wqM.view.set]{fullShare} fw) ∗ (woM.view.loc (c : Thread nD τ) ↦[woM.view.set]{fullShare} fo)
    ∗ (kbM.view.loc (c : Thread nD τ) ↦[kbM.view.set]{fullShare} fk) ∗ (vbM.view.loc (c : Thread nD τ) ↦[vbM.view.set]{fullShare} fv)
    ∗ (bsM.view.loc (c : Thread nD τ) ↦[bsM.view.set]{fullShare} fb))

set_option maxHeartbeats 4000000
set_option maxRecDepth 65536
set_option sl_exec.respelt true

/-- The partial sum of the block in slot 3. -/
theorem chunk3 (c : Dev nD) {R : Type} (κ : Prog (TpuEff nD τ sig (Elt F) Λ₀ .tc) R) (Q : R → sProp 𝕄)
    (fa : Buf (Elt F) (ag3.view.loc (c : Thread nD τ))) (fw : Buf (Elt F) (wqM.view.loc (c : Thread nD τ)))
    (fo : Buf (Elt F) (woM.view.loc (c : Thread nD τ))) (fc : Buf (Elt F) (cxM.view.loc (c : Thread nD τ)))
    (fk : Buf (Elt F) (kbM.view.loc (c : Thread nD τ))) (fv : Buf (Elt F) (vbM.view.loc (c : Thread nD τ)))
    (fb : Buf (Elt F) (bsM.view.loc (c : Thread nD τ))) (fs : Buf (Elt F) (sg1.view.loc (c : Thread nD τ))) :
    iprop((ag3.view.loc (c : Thread nD τ) ↦[ag3.view.set]{fullShare} fa) ∗ readOnly c fw fo fk fv fb
      ∗ (cxM.view.loc (c : Thread nD τ) ↦[cxM.view.set]{fullShare} fc) ∗ (sg1.view.loc (c : Thread nD τ) ↦[sg1.view.set]{fullShare} fs))
    ⊢ iprop((∀ (fc' : Buf (Elt F) (cxM.view.loc (c : Thread nD τ))) (fs' : Buf (Elt F) (sg1.view.loc (c : Thread nD τ))),
        (⌜sg1.view.read (Elt F) fs' = sentVal (ag3.view.read (Elt F) fa) fw (maskRd fb 1) (headRd kbM fk) (headRd vbM fv) fo⌝
          ∗ (ag3.view.loc (c : Thread nD τ) ↦[ag3.view.set]{fullShare} fa) ∗ readOnly c fw fo fk fv fb
          ∗ (cxM.view.loc (c : Thread nD τ) ↦[cxM.view.set]{fullShare} fc') ∗ (sg1.view.loc (c : Thread nD τ) ↦[sg1.view.set]{fullShare} fs'))
        -∗ wp frame (wpE (defs₀ (F := F)) 𝒱₀ (c : Thread nD τ) none) Set.univ κ Q)
      -∗ wp frame (wpE (defs₀ (F := F)) 𝒱₀ (c : Thread nD τ) none) Set.univ (st12 agM sgM (Memref.isWhole_whole _) cxM (Memref.isWhole_whole _) kbM vbM wqM woM bsM κ) Q) := by
  unfold readOnly
  iintro ⟨Ha, ⟨Hw, Ho, Hk, Hv, Hb⟩, Hc, Hs⟩ Hκ
  unfold st12
  sl_exec
  iapply Hκ
  isplitr
  swap
  · isplitl [Ha]; · iexact Ha
    isplitl [Hw Ho Hk Hv Hb]
    · isplitl [Hw]; · iexact Hw
      isplitl [Ho]; · iexact Ho
      isplitl [Hk]; · iexact Hk
      isplitl [Hv]; · iexact Hv
      iexact Hb
    isplitl [Hc]; · iexact Hc
    iexact Hs
  · ipureintro
    refine (read_stored sgM _ _ _ shapeCasts_S256x1024_S1x256x1024 _ _).trans ?_
    refine (shapeCast_self _ _).trans ?_
    refine (?_ : k0_pay48 _ _ = k0_pay48 (ctxVal (queryVal (ag3.view.read (Elt F) fa) fw) (maskRd fb 1) (headRd kbM fk) (headRd vbM fv)) fo)
    refine congrArg₂ (fun a b => k0_pay48 a b) ?_ (readAt_all woM.view _ _ fo)
    have hw : View.readAt (Elt F) wqM.view (Rect.unit (s := S1024x1024) ![0, 0] S1024x1024.size inb_S1024x1024_S1024x1024_0_0).toLoadRect fw = fw :=
      readAt_all wqM.view _ _ fw
    refine (?_ : _ = ctxVal (queryVal (ag3.view.read (Elt F) fa)
      (View.readAt (Elt F) wqM.view (Rect.unit (s := S1024x1024) ![0, 0] S1024x1024.size inb_S1024x1024_S1024x1024_0_0).toLoadRect fw))
      (maskRd fb 1) (headRd kbM fk) (headRd vbM fv)).trans (by rw [hw])
    unfold chunk3.sl.v721
    refine (readAt_all cxM.view _ _ _).trans (read_heads _ _ _ _ ?_ ?_)
    · unfold chunk3.sl.Hc_8
      have hc := ctxVal_at (queryVal (ag3.view.read (Elt F) fa)
        (View.readAt (Elt F) wqM.view (Rect.unit (s := S1024x1024) ![0, 0] S1024x1024.size inb_S1024x1024_S1024x1024_0_0).toLoadRect fw))
        (maskRd fb 1) (headRd kbM fk) (headRd vbM fv)
      refine List.forall_mem_cons.2 ⟨fun x => hc (7 : Fin 8) x _ rfl rfl, ?_⟩
      refine List.forall_mem_cons.2 ⟨fun x => hc (6 : Fin 8) x _ rfl rfl, ?_⟩
      refine List.forall_mem_cons.2 ⟨fun x => hc (5 : Fin 8) x _ rfl rfl, ?_⟩
      refine List.forall_mem_cons.2 ⟨fun x => hc (4 : Fin 8) x _ rfl rfl, ?_⟩
      refine List.forall_mem_cons.2 ⟨fun x => hc (3 : Fin 8) x _ rfl rfl, ?_⟩
      refine List.forall_mem_cons.2 ⟨fun x => hc (2 : Fin 8) x _ rfl rfl, ?_⟩
      refine List.forall_mem_cons.2 ⟨fun x => hc (1 : Fin 8) x _ rfl rfl, ?_⟩
      refine List.forall_mem_cons.2 ⟨fun x => hc (0 : Fin 8) x _ rfl rfl, ?_⟩
      exact List.forall_mem_nil _
    · exact View.cover_of_tiled _ ![256, 128] rfl

/-- The partial sum of the block in slot 1. -/
theorem chunk1 (c : Dev nD) {R : Type} (κ : Prog (TpuEff nD τ sig (Elt F) Λ₀ .tc) R) (Q : R → sProp 𝕄)
    (fa : Buf (Elt F) (ag1.view.loc (c : Thread nD τ))) (fw : Buf (Elt F) (wqM.view.loc (c : Thread nD τ)))
    (fo : Buf (Elt F) (woM.view.loc (c : Thread nD τ))) (fc : Buf (Elt F) (cxM.view.loc (c : Thread nD τ)))
    (fk : Buf (Elt F) (kbM.view.loc (c : Thread nD τ))) (fv : Buf (Elt F) (vbM.view.loc (c : Thread nD τ)))
    (fb : Buf (Elt F) (bsM.view.loc (c : Thread nD τ))) (fs : Buf (Elt F) (sg0.view.loc (c : Thread nD τ))) :
    iprop((ag1.view.loc (c : Thread nD τ) ↦[ag1.view.set]{fullShare} fa) ∗ readOnly c fw fo fk fv fb
      ∗ (cxM.view.loc (c : Thread nD τ) ↦[cxM.view.set]{fullShare} fc) ∗ (sg0.view.loc (c : Thread nD τ) ↦[sg0.view.set]{fullShare} fs))
    ⊢ iprop((∀ (fc' : Buf (Elt F) (cxM.view.loc (c : Thread nD τ))) (fs' : Buf (Elt F) (sg0.view.loc (c : Thread nD τ))),
        (⌜sg0.view.read (Elt F) fs' = sentVal (ag1.view.read (Elt F) fa) fw (maskRd fb 2) (headRd kbM fk) (headRd vbM fv) fo⌝
          ∗ (ag1.view.loc (c : Thread nD τ) ↦[ag1.view.set]{fullShare} fa) ∗ readOnly c fw fo fk fv fb
          ∗ (cxM.view.loc (c : Thread nD τ) ↦[cxM.view.set]{fullShare} fc') ∗ (sg0.view.loc (c : Thread nD τ) ↦[sg0.view.set]{fullShare} fs'))
        -∗ wp frame (wpE (defs₀ (F := F)) 𝒱₀ (c : Thread nD τ) none) Set.univ κ Q)
      -∗ wp frame (wpE (defs₀ (F := F)) 𝒱₀ (c : Thread nD τ) none) Set.univ (st14 agM sgM (Memref.isWhole_whole _) cxM (Memref.isWhole_whole _) kbM vbM wqM woM bsM κ) Q) := by
  unfold readOnly
  iintro ⟨Ha, ⟨Hw, Ho, Hk, Hv, Hb⟩, Hc, Hs⟩ Hκ
  unfold st14
  sl_exec
  iapply Hκ
  isplitr
  swap
  · isplitl [Ha]; · iexact Ha
    isplitl [Hw Ho Hk Hv Hb]
    · isplitl [Hw]; · iexact Hw
      isplitl [Ho]; · iexact Ho
      isplitl [Hk]; · iexact Hk
      isplitl [Hv]; · iexact Hv
      iexact Hb
    isplitl [Hc]; · iexact Hc
    iexact Hs
  · ipureintro
    refine (read_stored sgM _ _ _ shapeCasts_S256x1024_S1x256x1024 _ _).trans ?_
    refine (shapeCast_self _ _).trans ?_
    refine (?_ : k0_pay48 _ _ = k0_pay48 (ctxVal (queryVal (ag1.view.read (Elt F) fa) fw) (maskRd fb 2) (headRd kbM fk) (headRd vbM fv)) fo)
    refine congrArg₂ (fun a b => k0_pay48 a b) ?_ (readAt_all woM.view _ _ fo)
    have hw : View.readAt (Elt F) wqM.view (Rect.unit (s := S1024x1024) ![0, 0] S1024x1024.size inb_S1024x1024_S1024x1024_0_0).toLoadRect fw = fw :=
      readAt_all wqM.view _ _ fw
    refine (?_ : _ = ctxVal (queryVal (ag1.view.read (Elt F) fa)
      (View.readAt (Elt F) wqM.view (Rect.unit (s := S1024x1024) ![0, 0] S1024x1024.size inb_S1024x1024_S1024x1024_0_0).toLoadRect fw))
      (maskRd fb 2) (headRd kbM fk) (headRd vbM fv)).trans (by rw [hw])
    unfold chunk1.sl.v922
    refine (readAt_all cxM.view _ _ _).trans (read_heads _ _ _ _ ?_ ?_)
    · unfold chunk1.sl.Hc_8
      have hc := ctxVal_at (queryVal (ag1.view.read (Elt F) fa)
        (View.readAt (Elt F) wqM.view (Rect.unit (s := S1024x1024) ![0, 0] S1024x1024.size inb_S1024x1024_S1024x1024_0_0).toLoadRect fw))
        (maskRd fb 2) (headRd kbM fk) (headRd vbM fv)
      refine List.forall_mem_cons.2 ⟨fun x => hc (7 : Fin 8) x _ rfl rfl, ?_⟩
      refine List.forall_mem_cons.2 ⟨fun x => hc (6 : Fin 8) x _ rfl rfl, ?_⟩
      refine List.forall_mem_cons.2 ⟨fun x => hc (5 : Fin 8) x _ rfl rfl, ?_⟩
      refine List.forall_mem_cons.2 ⟨fun x => hc (4 : Fin 8) x _ rfl rfl, ?_⟩
      refine List.forall_mem_cons.2 ⟨fun x => hc (3 : Fin 8) x _ rfl rfl, ?_⟩
      refine List.forall_mem_cons.2 ⟨fun x => hc (2 : Fin 8) x _ rfl rfl, ?_⟩
      refine List.forall_mem_cons.2 ⟨fun x => hc (1 : Fin 8) x _ rfl rfl, ?_⟩
      refine List.forall_mem_cons.2 ⟨fun x => hc (0 : Fin 8) x _ rfl rfl, ?_⟩
      exact List.forall_mem_nil _
    · exact View.cover_of_tiled _ ![256, 128] rfl

/-- The partial sum of the block in slot 2. -/
theorem chunk2 (c : Dev nD) {R : Type} (κ : Prog (TpuEff nD τ sig (Elt F) Λ₀ .tc) R) (Q : R → sProp 𝕄)
    (fa : Buf (Elt F) (ag2.view.loc (c : Thread nD τ))) (fw : Buf (Elt F) (wqM.view.loc (c : Thread nD τ)))
    (fo : Buf (Elt F) (woM.view.loc (c : Thread nD τ))) (fc : Buf (Elt F) (cxM.view.loc (c : Thread nD τ)))
    (fk : Buf (Elt F) (kbM.view.loc (c : Thread nD τ))) (fv : Buf (Elt F) (vbM.view.loc (c : Thread nD τ)))
    (fb : Buf (Elt F) (bsM.view.loc (c : Thread nD τ))) (fs : Buf (Elt F) (sg2.view.loc (c : Thread nD τ))) :
    iprop((ag2.view.loc (c : Thread nD τ) ↦[ag2.view.set]{fullShare} fa) ∗ readOnly c fw fo fk fv fb
      ∗ (cxM.view.loc (c : Thread nD τ) ↦[cxM.view.set]{fullShare} fc) ∗ (sg2.view.loc (c : Thread nD τ) ↦[sg2.view.set]{fullShare} fs))
    ⊢ iprop((∀ (fc' : Buf (Elt F) (cxM.view.loc (c : Thread nD τ))) (fs' : Buf (Elt F) (sg2.view.loc (c : Thread nD τ))),
        (⌜sg2.view.read (Elt F) fs' = sentVal (ag2.view.read (Elt F) fa) fw (maskRd fb 3) (headRd kbM fk) (headRd vbM fv) fo⌝
          ∗ (ag2.view.loc (c : Thread nD τ) ↦[ag2.view.set]{fullShare} fa) ∗ readOnly c fw fo fk fv fb
          ∗ (cxM.view.loc (c : Thread nD τ) ↦[cxM.view.set]{fullShare} fc') ∗ (sg2.view.loc (c : Thread nD τ) ↦[sg2.view.set]{fullShare} fs'))
        -∗ wp frame (wpE (defs₀ (F := F)) 𝒱₀ (c : Thread nD τ) none) Set.univ κ Q)
      -∗ wp frame (wpE (defs₀ (F := F)) 𝒱₀ (c : Thread nD τ) none) Set.univ (st16 agM sgM (Memref.isWhole_whole _) cxM (Memref.isWhole_whole _) kbM vbM wqM woM bsM κ) Q) := by
  unfold readOnly
  iintro ⟨Ha, ⟨Hw, Ho, Hk, Hv, Hb⟩, Hc, Hs⟩ Hκ
  unfold st16
  sl_exec
  iapply Hκ
  isplitr
  swap
  · isplitl [Ha]; · iexact Ha
    isplitl [Hw Ho Hk Hv Hb]
    · isplitl [Hw]; · iexact Hw
      isplitl [Ho]; · iexact Ho
      isplitl [Hk]; · iexact Hk
      isplitl [Hv]; · iexact Hv
      iexact Hb
    isplitl [Hc]; · iexact Hc
    iexact Hs
  · ipureintro
    refine (read_stored sgM _ _ _ shapeCasts_S256x1024_S1x256x1024 _ _).trans ?_
    refine (shapeCast_self _ _).trans ?_
    refine (?_ : k0_pay48 _ _ = k0_pay48 (ctxVal (queryVal (ag2.view.read (Elt F) fa) fw) (maskRd fb 3) (headRd kbM fk) (headRd vbM fv)) fo)
    refine congrArg₂ (fun a b => k0_pay48 a b) ?_ (readAt_all woM.view _ _ fo)
    have hw : View.readAt (Elt F) wqM.view (Rect.unit (s := S1024x1024) ![0, 0] S1024x1024.size inb_S1024x1024_S1024x1024_0_0).toLoadRect fw = fw :=
      readAt_all wqM.view _ _ fw
    refine (?_ : _ = ctxVal (queryVal (ag2.view.read (Elt F) fa)
      (View.readAt (Elt F) wqM.view (Rect.unit (s := S1024x1024) ![0, 0] S1024x1024.size inb_S1024x1024_S1024x1024_0_0).toLoadRect fw))
      (maskRd fb 3) (headRd kbM fk) (headRd vbM fv)).trans (by rw [hw])
    unfold chunk2.sl.v1123
    refine (readAt_all cxM.view _ _ _).trans (read_heads _ _ _ _ ?_ ?_)
    · unfold chunk2.sl.Hc_8
      have hc := ctxVal_at (queryVal (ag2.view.read (Elt F) fa)
        (View.readAt (Elt F) wqM.view (Rect.unit (s := S1024x1024) ![0, 0] S1024x1024.size inb_S1024x1024_S1024x1024_0_0).toLoadRect fw))
        (maskRd fb 3) (headRd kbM fk) (headRd vbM fv)
      refine List.forall_mem_cons.2 ⟨fun x => hc (7 : Fin 8) x _ rfl rfl, ?_⟩
      refine List.forall_mem_cons.2 ⟨fun x => hc (6 : Fin 8) x _ rfl rfl, ?_⟩
      refine List.forall_mem_cons.2 ⟨fun x => hc (5 : Fin 8) x _ rfl rfl, ?_⟩
      refine List.forall_mem_cons.2 ⟨fun x => hc (4 : Fin 8) x _ rfl rfl, ?_⟩
      refine List.forall_mem_cons.2 ⟨fun x => hc (3 : Fin 8) x _ rfl rfl, ?_⟩
      refine List.forall_mem_cons.2 ⟨fun x => hc (2 : Fin 8) x _ rfl rfl, ?_⟩
      refine List.forall_mem_cons.2 ⟨fun x => hc (1 : Fin 8) x _ rfl rfl, ?_⟩
      refine List.forall_mem_cons.2 ⟨fun x => hc (0 : Fin 8) x _ rfl rfl, ?_⟩
      exact List.forall_mem_nil _
    · exact View.cover_of_tiled _ ![256, 128] rfl

/-- The partial sum of the block in slot 0. -/
theorem chunk0 (c : Dev nD) {R : Type} (κ : Prog (TpuEff nD τ sig (Elt F) Λ₀ .tc) R) (Q : R → sProp 𝕄) (q : PosShare TreeShare)
    (fa : Buf (Elt F) (ag0.view.loc (c : Thread nD τ))) (fw : Buf (Elt F) (wqM.view.loc (c : Thread nD τ)))
    (fo : Buf (Elt F) (woM.view.loc (c : Thread nD τ))) (fc : Buf (Elt F) (cxM.view.loc (c : Thread nD τ)))
    (fk : Buf (Elt F) (kbM.view.loc (c : Thread nD τ))) (fv : Buf (Elt F) (vbM.view.loc (c : Thread nD τ)))
    (fb : Buf (Elt F) (bsM.view.loc (c : Thread nD τ))) (fs : Buf (Elt F) (ptM.view.loc (c : Thread nD τ))) :
    iprop((ag0.view.loc (c : Thread nD τ) ↦[ag0.view.set]{q} fa) ∗ readOnly c fw fo fk fv fb
      ∗ (cxM.view.loc (c : Thread nD τ) ↦[cxM.view.set]{fullShare} fc) ∗ (ptM.view.loc (c : Thread nD τ) ↦[ptM.view.set]{fullShare} fs))
    ⊢ iprop((∀ (fc' : Buf (Elt F) (cxM.view.loc (c : Thread nD τ))) (fs' : Buf (Elt F) (ptM.view.loc (c : Thread nD τ))),
        (⌜ptM.view.read (Elt F) fs' = partVal (ag0.view.read (Elt F) fa) fw (maskRd fb 0) (headRd kbM fk) (headRd vbM fv) fo⌝
          ∗ (ag0.view.loc (c : Thread nD τ) ↦[ag0.view.set]{q} fa) ∗ readOnly c fw fo fk fv fb
          ∗ (cxM.view.loc (c : Thread nD τ) ↦[cxM.view.set]{fullShare} fc') ∗ (ptM.view.loc (c : Thread nD τ) ↦[ptM.view.set]{fullShare} fs'))
        -∗ wp frame (wpE (defs₀ (F := F)) 𝒱₀ (c : Thread nD τ) none) Set.univ κ Q)
      -∗ wp frame (wpE (defs₀ (F := F)) 𝒱₀ (c : Thread nD τ) none) Set.univ (st18 agM ptM cxM (Memref.isWhole_whole _) kbM vbM wqM woM bsM κ) Q) := by
  unfold readOnly
  iintro ⟨Ha, ⟨Hw, Ho, Hk, Hv, Hb⟩, Hc, Hs⟩ Hκ
  unfold st18
  sl_exec
  iapply Hκ
  isplitr
  swap
  · isplitl [Ha]; · iexact Ha
    isplitl [Hw Ho Hk Hv Hb]
    · isplitl [Hw]; · iexact Hw
      isplitl [Ho]; · iexact Ho
      isplitl [Hk]; · iexact Hk
      isplitl [Hv]; · iexact Hv
      iexact Hb
    isplitl [Hc]; · iexact Hc
    iexact Hs
  · ipureintro
    refine (View.read_writes_full (v := ptM.view) fs _ _ []).trans ?_
    refine (shapeCast_self _ shapeCasts_S256x1024_S256x1024).trans ?_
    refine (?_ : outMul _ _ = outMul (ctxVal (queryVal (ag0.view.read (Elt F) fa) fw) (maskRd fb 0) (headRd kbM fk) (headRd vbM fv)) fo)
    refine congrArg₂ (fun a b => outMul a b) ?_ (readAt_all woM.view _ _ fo)
    have hw : View.readAt (Elt F) wqM.view (Rect.unit (s := S1024x1024) ![0, 0] S1024x1024.size inb_S1024x1024_S1024x1024_0_0).toLoadRect fw = fw :=
      readAt_all wqM.view _ _ fw
    refine (?_ : _ = ctxVal (queryVal (ag0.view.read (Elt F) fa)
      (View.readAt (Elt F) wqM.view (Rect.unit (s := S1024x1024) ![0, 0] S1024x1024.size inb_S1024x1024_S1024x1024_0_0).toLoadRect fw))
      (maskRd fb 0) (headRd kbM fk) (headRd vbM fv)).trans (by rw [hw])
    unfold chunk0.sl.v1316
    refine (readAt_all cxM.view _ _ _).trans (read_heads _ _ _ _ ?_ ?_)
    · unfold chunk0.sl.Hc_8
      have hc := ctxVal_at (queryVal (ag0.view.read (Elt F) fa)
        (View.readAt (Elt F) wqM.view (Rect.unit (s := S1024x1024) ![0, 0] S1024x1024.size inb_S1024x1024_S1024x1024_0_0).toLoadRect fw))
        (maskRd fb 0) (headRd kbM fk) (headRd vbM fv)
      refine List.forall_mem_cons.2 ⟨fun x => hc (7 : Fin 8) x _ rfl rfl, ?_⟩
      refine List.forall_mem_cons.2 ⟨fun x => hc (6 : Fin 8) x _ rfl rfl, ?_⟩
      refine List.forall_mem_cons.2 ⟨fun x => hc (5 : Fin 8) x _ rfl rfl, ?_⟩
      refine List.forall_mem_cons.2 ⟨fun x => hc (4 : Fin 8) x _ rfl rfl, ?_⟩
      refine List.forall_mem_cons.2 ⟨fun x => hc (3 : Fin 8) x _ rfl rfl, ?_⟩
      refine List.forall_mem_cons.2 ⟨fun x => hc (2 : Fin 8) x _ rfl rfl, ?_⟩
      refine List.forall_mem_cons.2 ⟨fun x => hc (1 : Fin 8) x _ rfl rfl, ?_⟩
      refine List.forall_mem_cons.2 ⟨fun x => hc (0 : Fin 8) x _ rfl rfl, ?_⟩
      exact List.forall_mem_nil _
    · exact View.cover_of_tiled _ ![256, 128] rfl

end Cert.KernelIdeal.Run

end

end
-- ==== Proof.Small.lean ====
module

public import proofs.«01_k».proof.Proof.Chunk

/-!
The stretches that use one device's own memory alone: the block of `x` is converted, the four masks are written, and the
four partial sums are added.
-/

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- Four partial sums added, three of them sent. -/
def sumVal (p : FVec F S256x1024 .f32) (a b d : FVec F S256x1024 .bf16) : FVec F S256x1024 .bf16 :=
  truncf .bf16 (addf (addf p (extf .f32 a bitsLt_bf16_f32)) (addf (extf .f32 b bitsLt_bf16_f32) (extf .f32 d bitsLt_bf16_f32))) bitsLt_bf16_f32

set_option maxHeartbeats 1000000
set_option maxRecDepth 65536
set_option sl_exec.respelt true

/-- The block of `x` is converted and stored as the first of the four gathered. -/
theorem load_x (c : Dev nD) {R : Type} (κ : Prog (TpuEff nD τ sig (Elt F) Λ₀ .tc) R) (Q : R → sProp 𝕄) (q : PosShare TreeShare)
    (fx : Buf (Elt F) (xM.view.loc (c : Thread nD τ))) (fa : Buf (Elt F) (agM.view.loc (c : Thread nD τ))) :
    iprop((xM.view.loc (c : Thread nD τ) ↦[xM.view.set]{q} fx) ∗ (ag0.view.loc (c : Thread nD τ) ↦[ag0.view.set]{fullShare} fa))
    ⊢ iprop((∀ (fa' : Buf (Elt F) (agM.view.loc (c : Thread nD τ))), iprop(⌜ag0.view.read (Elt F) fa' = truncf .bf16 (shapeCast S256x1024 (xM.view.read (Elt F) fx : FVec F S1x256x1024 .f32) shapeCasts_S1x256x1024_S256x1024)⌝
        ∗ (xM.view.loc (c : Thread nD τ) ↦[xM.view.set]{q} fx) ∗ (ag0.view.loc (c : Thread nD τ) ↦[ag0.view.set]{fullShare} fa')) -∗ wp frame (wpE (defs₀ (F := F)) 𝒱₀ (c : Thread nD τ) none) Set.univ κ Q)
      -∗ wp frame (wpE (defs₀ (F := F)) 𝒱₀ (c : Thread nD τ) none) Set.univ (st3 xM agM (Memref.isWhole_whole _) κ) Q) := by
  iintro ⟨Hx, Ha⟩ Hκ
  unfold st3
  sl_exec
  ispecialize Hκ $$ %(_)
  iapply Hκ
  isplitr
  swap
  · isplitl [Hx]
    · iexact Hx
    iexact Ha
  · ipureintro
    unfold load_x.sl.Ha_w1
    refine (read_stored agM (Rect.unit (s := S4x256x1024) ![0, 0, 0] S1x256x1024.size inb_S4x256x1024_S1x256x1024_0_0_0) (fun _ => rfl)
      squeezes_S1x256x1024_S256x1024 shapeCasts_S256x1024_S1x256x1024 fa
      (truncf .bf16 (shapeCast S256x1024 (View.readAt (Elt F) xM.view (Rect.unit ![0, 0, 0] S1x256x1024.size inb_S1x256x1024_S1x256x1024_0_0_0).toLoadRect fx : FVec F S1x256x1024 .f32) shapeCasts_S1x256x1024_S256x1024) bitsLt_bf16_f32)).trans ?_
    rw [readAt_all xM.view ![0, 0, 0] inb_S1x256x1024_S1x256x1024_0_0_0 fx]

/-- What the program stores in mask `i`. -/
def maskVal (c : Dev nD) (i : Fin 4) : FVec F S256x1024 .f32 :=
  shapeCast S256x1024 ((![k0_pay26 (Scalar.remsi (Scalar.divsi c.word 1#32) 4#32) k0_pay22 k0_pay23 k0_pay24,
      k0_pay28 k0_pay22 (k0_pay25 k0_pay23 k0_pay24) (k0_pay27 (Scalar.remsi (Scalar.divsi c.word 1#32) 4#32)),
      k0_pay29 (Scalar.remsi (Scalar.divsi c.word 1#32) 4#32) k0_pay22 (k0_pay25 k0_pay23 k0_pay24),
      k0_pay30 k0_pay22 (k0_pay25 k0_pay23 k0_pay24)
        (Scalar.select (Scalar.cmpi CmpIPredicate.eq 4#32 0#32) 1#32 4#32)
        (Scalar.remsi (Scalar.addi (Scalar.remsi (Scalar.divsi c.word 1#32) 4#32) 2#32)
          (Scalar.select (Scalar.cmpi CmpIPredicate.eq 4#32 0#32) 1#32 4#32))
        (Scalar.cmpi CmpIPredicate.ne
          (Scalar.remsi (Scalar.addi (Scalar.remsi (Scalar.divsi c.word 1#32) 4#32) 2#32)
            (Scalar.select (Scalar.cmpi CmpIPredicate.eq 4#32 0#32) 1#32 4#32))
          0#32)
        0#32] : Fin 4 → Vec F S1x256x1024 .f32) i) shapeCasts_S1x256x1024_S256x1024

/-- A mask's rows read what was last stored there. -/
theorem maskRd_hit (f : bsM.view.ty.Contents (Elt F)) (h : Fin 4) {off : Fin 3 → ℕ}
    (inb : ∀ a, off a + S1x256x1024.size a ≤ S4x256x1024.size a) (e : off = ![h.val, 0, 0]) (w : Vec F S1x256x1024 .f32)
    (T : List (View.Piece (Elt F) S4x256x1024 .f32)) :
    View.readAt (Elt F) bsM.view (Rect.unit (s := S4x256x1024) ![h.val, 0, 0] S1x256x1024.size (maskRows h)).toLoadRect
      (bsM.view.writes (Elt F) f (⟨Rect.unit (s := S4x256x1024) off S1x256x1024.size inb, w⟩ :: T)) = w := by
  funext y
  exact View.read_writes_cons_unit_of_mem bsM.view f inb w T _ y e fun a => by
    show ![h.val, 0, 0] a + 1 * (y a).val = ![h.val, 0, 0] a + (y a).val
    rw [Nat.one_mul]

/-- A store to another mask's rows is not read. -/
theorem maskRd_miss (f : bsM.view.ty.Contents (Elt F)) (h h' : Fin 4) {off : Fin 3 → ℕ}
    (inb : ∀ a, off a + S1x256x1024.size a ≤ S4x256x1024.size a) (e : off = ![h'.val, 0, 0]) (hne : h ≠ h') (w : Vec F S1x256x1024 .f32)
    (T : List (View.Piece (Elt F) S4x256x1024 .f32)) :
    View.readAt (Elt F) bsM.view (Rect.unit (s := S4x256x1024) ![h.val, 0, 0] S1x256x1024.size (maskRows h)).toLoadRect
      (bsM.view.writes (Elt F) f (⟨Rect.unit (s := S4x256x1024) off S1x256x1024.size inb, w⟩ :: T))
    = View.readAt (Elt F) bsM.view (Rect.unit (s := S4x256x1024) ![h.val, 0, 0] S1x256x1024.size (maskRows h)).toLoadRect (bsM.view.writes (Elt F) f T) := by
  funext y
  refine View.read_writes_cons_unit_of_not_mem bsM.view f inb w T _ e 0 ?_
  have h0 : (y (0 : Fin 3)).val = 0 := Nat.lt_one_iff.mp (y (0 : Fin 3)).isLt
  have hn : h.val ≠ h'.val := fun he => hne (Fin.ext he)
  show h.val + 1 * (y (0 : Fin 3)).val < h'.val ∨ h'.val + 1 ≤ h.val + 1 * (y (0 : Fin 3)).val
  omega

/-- The four masks are written. -/
theorem masks (c : Dev nD) {R : Type} (κ : Prog (TpuEff nD τ sig (Elt F) Λ₀ .tc) R) (Q : R → sProp 𝕄)
    (fb : Buf (Elt F) (bsM.view.loc (c : Thread nD τ))) :
    iprop((bsM.view.loc (c : Thread nD τ) ↦[bsM.view.set]{fullShare} fb))
    ⊢ iprop((∀ (fb' : Buf (Elt F) (bsM.view.loc (c : Thread nD τ))), iprop(⌜∀ i, maskRd fb' i = maskVal c i⌝
        ∗ (bsM.view.loc (c : Thread nD τ) ↦[bsM.view.set]{fullShare} fb')) -∗ wp frame (wpE (defs₀ (F := F)) 𝒱₀ (c : Thread nD τ) none) Set.univ κ Q)
      -∗ wp frame (wpE (defs₀ (F := F)) 𝒱₀ (c : Thread nD τ) none) Set.univ (st9 bsM c κ) Q) := by
  iintro Hb Hκ
  unfold st9
  sl_exec
  ispecialize Hκ $$ %(_)
  iapply Hκ
  isplitr
  swap
  · iexact Hb
  · ipureintro
    intro i
    refine congrArg (shapeCast S256x1024 · shapeCasts_S1x256x1024_S256x1024) ?_
    fin_cases i
    · refine (maskRd_miss fb 0 3 inb_S4x256x1024_S1x256x1024_3_0_0 rfl (by decide) _ _).trans ?_
      refine (maskRd_miss fb 0 2 inb_S4x256x1024_S1x256x1024_2_0_0 rfl (by decide) _ _).trans ?_
      refine (maskRd_miss fb 0 1 inb_S4x256x1024_S1x256x1024_1_0_0 rfl (by decide) _ _).trans ?_
      exact maskRd_hit fb 0 inb_S4x256x1024_S1x256x1024_0_0_0 rfl _ _
    · refine (maskRd_miss fb 1 3 inb_S4x256x1024_S1x256x1024_3_0_0 rfl (by decide) _ _).trans ?_
      refine (maskRd_miss fb 1 2 inb_S4x256x1024_S1x256x1024_2_0_0 rfl (by decide) _ _).trans ?_
      exact maskRd_hit fb 1 inb_S4x256x1024_S1x256x1024_1_0_0 rfl _ _
    · refine (maskRd_miss fb 2 3 inb_S4x256x1024_S1x256x1024_3_0_0 rfl (by decide) _ _).trans ?_
      exact maskRd_hit fb 2 inb_S4x256x1024_S1x256x1024_2_0_0 rfl _ _
    · exact maskRd_hit fb 3 inb_S4x256x1024_S1x256x1024_3_0_0 rfl _ _

/-- The four partial sums are added. -/
theorem finish (c : Dev nD) {R : Type} (κ : Prog (TpuEff nD τ sig (Elt F) Λ₀ .tc) R) (Q : R → sProp 𝕄)
    (fp : Buf (Elt F) (ptM.view.loc (c : Thread nD τ))) (r0 r1 r2 : Buf (Elt F) (rvM.view.loc (c : Thread nD τ))) (fo : Buf (Elt F) (oM.view.loc (c : Thread nD τ))) :
    iprop((ptM.view.loc (c : Thread nD τ) ↦[ptM.view.set]{fullShare} fp) ∗ (rv0.view.loc (c : Thread nD τ) ↦[rv0.view.set]{fullShare} r0)
      ∗ (rv1.view.loc (c : Thread nD τ) ↦[rv1.view.set]{fullShare} r1) ∗ (rv2.view.loc (c : Thread nD τ) ↦[rv2.view.set]{fullShare} r2)
      ∗ (oM.view.loc (c : Thread nD τ) ↦[oM.view.set]{fullShare} fo))
    ⊢ iprop((∀ (fo' : Buf (Elt F) (oM.view.loc (c : Thread nD τ))), iprop(⌜oM.view.read (Elt F) fo' = sumVal (ptM.view.read (Elt F) fp) (rv0.view.read (Elt F) r0) (rv1.view.read (Elt F) r1) (rv2.view.read (Elt F) r2)⌝
        ∗ (ptM.view.loc (c : Thread nD τ) ↦[ptM.view.set]{fullShare} fp) ∗ (rv0.view.loc (c : Thread nD τ) ↦[rv0.view.set]{fullShare} r0)
        ∗ (rv1.view.loc (c : Thread nD τ) ↦[rv1.view.set]{fullShare} r1) ∗ (rv2.view.loc (c : Thread nD τ) ↦[rv2.view.set]{fullShare} r2)
        ∗ (oM.view.loc (c : Thread nD τ) ↦[oM.view.set]{fullShare} fo')) -∗ wp frame (wpE (defs₀ (F := F)) 𝒱₀ (c : Thread nD τ) none) Set.univ κ Q)
      -∗ wp frame (wpE (defs₀ (F := F)) 𝒱₀ (c : Thread nD τ) none) Set.univ (st20 oM (Memref.isWhole_whole _) ptM rvM κ) Q) := by
  iintro ⟨Hp, H0, H1, H2, Ho⟩ Hκ
  unfold st20
  sl_exec
  ispecialize Hκ $$ %(_)
  iapply Hκ
  isplitr
  swap
  · isplitl [Hp]; · iexact Hp
    isplitl [H0]; · iexact H0
    isplitl [H1]; · iexact H1
    isplitl [H2]; · iexact H2
    iexact Ho
  · ipureintro
    refine (View.read_writes_full oM.view fo inb_S256x1024_S256x1024_0_0 _ []).trans ?_
    rw [readAt_all ptM.view ![0, 0] inb_S256x1024_S256x1024_0_0 fp]
    refine Eq.trans ?_ (congrArg₂ (fun a bd => sumVal (ptM.view.read (Elt F) fp) a bd.1 bd.2) (Memref.read_squeeze_slice rvM (Rect.unit (s := S3x256x1024) ![0, 0, 0] S1x256x1024.size inb_S3x256x1024_S1x256x1024_0_0_0) (fun _ => rfl) squeezes_S1x256x1024_S256x1024 shapeCasts_S1x256x1024_S256x1024 r0) (Prod.ext (Memref.read_squeeze_slice rvM (Rect.unit (s := S3x256x1024) ![1, 0, 0] S1x256x1024.size inb_S3x256x1024_S1x256x1024_1_0_0) (fun _ => rfl) squeezes_S1x256x1024_S256x1024 shapeCasts_S1x256x1024_S256x1024 r1) (Memref.read_squeeze_slice rvM (Rect.unit (s := S3x256x1024) ![2, 0, 0] S1x256x1024.size inb_S3x256x1024_S1x256x1024_2_0_0) (fun _ => rfl) squeezes_S1x256x1024_S256x1024 shapeCasts_S1x256x1024_S256x1024 r2) : (rv1.view.read (Elt F) r1, rv2.view.read (Elt F) r2) = (_, _))).symm
    rfl

end Cert.KernelIdeal.Run

end

end
-- ==== Proof.Locals.lean ====
module

public import proofs.«01_k».proof.Proof.Base

/-!
The copies that a device makes for itself: the weights and its heads' rows of the two caches, from HBM to scratch, and the
conversions that follow each arrival.
-/

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- Head `h` of this device, in the cache of all heads. -/
abbrev kwin (c : Dev nD) (h : Fin 8) : Memref sig .tc .hbm S1024x128 .f32 :=
  (kH.slice (Rect.unit (s := S1x4096x32x128) (k0_off1 c (BitVec.ofNat 32 h.val)) S1x1024x1x128.size (k0_off1_inb c h)) (fun _ => rfl)).squeeze S1024x128 squeezes_S1x1024x1x128_S1024x128
abbrev vwin (c : Dev nD) (h : Fin 8) : Memref sig .tc .hbm S1024x128 .f32 :=
  (vH.slice (Rect.unit (s := S1x4096x32x128) (k0_off1 c (BitVec.ofNat 32 h.val)) S1x1024x1x128.size (k0_off1_inb c h)) (fun _ => rfl)).squeeze S1024x128 squeezes_S1x1024x1x128_S1024x128

/-- Slot `h` of the arrived heads. -/
abbrev ks (h : Fin 8) : Memref sig .tc .vmem S1024x128 .f32 :=
  (k32M.slice (Rect.unit (s := S8x1024x128) ![h.val, 0, 0] S1x1024x128.size (headRows h)) (fun _ => rfl)).squeeze S1024x128 squeezes_S1x1024x128_S1024x128
abbrev vs (h : Fin 8) : Memref sig .tc .vmem S1024x128 .f32 :=
  (v32M.slice (Rect.unit (s := S8x1024x128) ![h.val, 0, 0] S1x1024x128.size (headRows h)) (fun _ => rfl)).squeeze S1024x128 squeezes_S1x1024x128_S1024x128

/-- Cell `i` of the local copies' semaphores. -/
abbrev lsem (i : ℕ) (h : i < 32 := by decide) : SemLoc sig := SemLoc.dma (⟨i, h⟩ : DmaSem sig)

abbrev ks0 : Memref sig .tc .vmem S1024x128 .f32 :=
  (k32M.slice (Rect.unit (s := S8x1024x128) ![0, 0, 0] S1x1024x128.size inb_S8x1024x128_S1x1024x128_0_0_0) (fun _ => rfl)).squeeze S1024x128 squeezes_S1x1024x128_S1024x128
abbrev kwin0 (c : Dev nD) : Memref sig .tc .hbm S1024x128 .f32 :=
  (kH.slice (Rect.unit (s := S1x4096x32x128) (k0_off1 c 0#32) S1x1024x1x128.size (k0_off1_inb c 0)) (fun _ => rfl)).squeeze S1024x128 squeezes_S1x1024x1x128_S1024x128
abbrev ks1 : Memref sig .tc .vmem S1024x128 .f32 :=
  (k32M.slice (Rect.unit (s := S8x1024x128) ![1, 0, 0] S1x1024x128.size inb_S8x1024x128_S1x1024x128_1_0_0) (fun _ => rfl)).squeeze S1024x128 squeezes_S1x1024x128_S1024x128
abbrev kwin1 (c : Dev nD) : Memref sig .tc .hbm S1024x128 .f32 :=
  (kH.slice (Rect.unit (s := S1x4096x32x128) (k0_off1 c 1#32) S1x1024x1x128.size (k0_off1_inb c 1)) (fun _ => rfl)).squeeze S1024x128 squeezes_S1x1024x1x128_S1024x128
abbrev ks2 : Memref sig .tc .vmem S1024x128 .f32 :=
  (k32M.slice (Rect.unit (s := S8x1024x128) ![2, 0, 0] S1x1024x128.size inb_S8x1024x128_S1x1024x128_2_0_0) (fun _ => rfl)).squeeze S1024x128 squeezes_S1x1024x128_S1024x128
abbrev kwin2 (c : Dev nD) : Memref sig .tc .hbm S1024x128 .f32 :=
  (kH.slice (Rect.unit (s := S1x4096x32x128) (k0_off1 c 2#32) S1x1024x1x128.size (k0_off1_inb c 2)) (fun _ => rfl)).squeeze S1024x128 squeezes_S1x1024x1x128_S1024x128
abbrev ks3 : Memref sig .tc .vmem S1024x128 .f32 :=
  (k32M.slice (Rect.unit (s := S8x1024x128) ![3, 0, 0] S1x1024x128.size inb_S8x1024x128_S1x1024x128_3_0_0) (fun _ => rfl)).squeeze S1024x128 squeezes_S1x1024x128_S1024x128
abbrev kwin3 (c : Dev nD) : Memref sig .tc .hbm S1024x128 .f32 :=
  (kH.slice (Rect.unit (s := S1x4096x32x128) (k0_off1 c 3#32) S1x1024x1x128.size (k0_off1_inb c 3)) (fun _ => rfl)).squeeze S1024x128 squeezes_S1x1024x1x128_S1024x128
abbrev ks4 : Memref sig .tc .vmem S1024x128 .f32 :=
  (k32M.slice (Rect.unit (s := S8x1024x128) ![4, 0, 0] S1x1024x128.size inb_S8x1024x128_S1x1024x128_4_0_0) (fun _ => rfl)).squeeze S1024x128 squeezes_S1x1024x128_S1024x128
abbrev kwin4 (c : Dev nD) : Memref sig .tc .hbm S1024x128 .f32 :=
  (kH.slice (Rect.unit (s := S1x4096x32x128) (k0_off1 c 4#32) S1x1024x1x128.size (k0_off1_inb c 4)) (fun _ => rfl)).squeeze S1024x128 squeezes_S1x1024x1x128_S1024x128
abbrev ks5 : Memref sig .tc .vmem S1024x128 .f32 :=
  (k32M.slice (Rect.unit (s := S8x1024x128) ![5, 0, 0] S1x1024x128.size inb_S8x1024x128_S1x1024x128_5_0_0) (fun _ => rfl)).squeeze S1024x128 squeezes_S1x1024x128_S1024x128
abbrev kwin5 (c : Dev nD) : Memref sig .tc .hbm S1024x128 .f32 :=
  (kH.slice (Rect.unit (s := S1x4096x32x128) (k0_off1 c 5#32) S1x1024x1x128.size (k0_off1_inb c 5)) (fun _ => rfl)).squeeze S1024x128 squeezes_S1x1024x1x128_S1024x128
abbrev ks6 : Memref sig .tc .vmem S1024x128 .f32 :=
  (k32M.slice (Rect.unit (s := S8x1024x128) ![6, 0, 0] S1x1024x128.size inb_S8x1024x128_S1x1024x128_6_0_0) (fun _ => rfl)).squeeze S1024x128 squeezes_S1x1024x128_S1024x128
abbrev kwin6 (c : Dev nD) : Memref sig .tc .hbm S1024x128 .f32 :=
  (kH.slice (Rect.unit (s := S1x4096x32x128) (k0_off1 c 6#32) S1x1024x1x128.size (k0_off1_inb c 6)) (fun _ => rfl)).squeeze S1024x128 squeezes_S1x1024x1x128_S1024x128
abbrev ks7 : Memref sig .tc .vmem S1024x128 .f32 :=
  (k32M.slice (Rect.unit (s := S8x1024x128) ![7, 0, 0] S1x1024x128.size inb_S8x1024x128_S1x1024x128_7_0_0) (fun _ => rfl)).squeeze S1024x128 squeezes_S1x1024x128_S1024x128
abbrev kwin7 (c : Dev nD) : Memref sig .tc .hbm S1024x128 .f32 :=
  (kH.slice (Rect.unit (s := S1x4096x32x128) (k0_off1 c 7#32) S1x1024x1x128.size (k0_off1_inb c 7)) (fun _ => rfl)).squeeze S1024x128 squeezes_S1x1024x1x128_S1024x128
abbrev vs0 : Memref sig .tc .vmem S1024x128 .f32 :=
  (v32M.slice (Rect.unit (s := S8x1024x128) ![0, 0, 0] S1x1024x128.size inb_S8x1024x128_S1x1024x128_0_0_0) (fun _ => rfl)).squeeze S1024x128 squeezes_S1x1024x128_S1024x128
abbrev vwin0 (c : Dev nD) : Memref sig .tc .hbm S1024x128 .f32 :=
  (vH.slice (Rect.unit (s := S1x4096x32x128) (k0_off1 c 0#32) S1x1024x1x128.size (k0_off1_inb c 0)) (fun _ => rfl)).squeeze S1024x128 squeezes_S1x1024x1x128_S1024x128
abbrev vs1 : Memref sig .tc .vmem S1024x128 .f32 :=
  (v32M.slice (Rect.unit (s := S8x1024x128) ![1, 0, 0] S1x1024x128.size inb_S8x1024x128_S1x1024x128_1_0_0) (fun _ => rfl)).squeeze S1024x128 squeezes_S1x1024x128_S1024x128
abbrev vwin1 (c : Dev nD) : Memref sig .tc .hbm S1024x128 .f32 :=
  (vH.slice (Rect.unit (s := S1x4096x32x128) (k0_off1 c 1#32) S1x1024x1x128.size (k0_off1_inb c 1)) (fun _ => rfl)).squeeze S1024x128 squeezes_S1x1024x1x128_S1024x128
abbrev vs2 : Memref sig .tc .vmem S1024x128 .f32 :=
  (v32M.slice (Rect.unit (s := S8x1024x128) ![2, 0, 0] S1x1024x128.size inb_S8x1024x128_S1x1024x128_2_0_0) (fun _ => rfl)).squeeze S1024x128 squeezes_S1x1024x128_S1024x128
abbrev vwin2 (c : Dev nD) : Memref sig .tc .hbm S1024x128 .f32 :=
  (vH.slice (Rect.unit (s := S1x4096x32x128) (k0_off1 c 2#32) S1x1024x1x128.size (k0_off1_inb c 2)) (fun _ => rfl)).squeeze S1024x128 squeezes_S1x1024x1x128_S1024x128
abbrev vs3 : Memref sig .tc .vmem S1024x128 .f32 :=
  (v32M.slice (Rect.unit (s := S8x1024x128) ![3, 0, 0] S1x1024x128.size inb_S8x1024x128_S1x1024x128_3_0_0) (fun _ => rfl)).squeeze S1024x128 squeezes_S1x1024x128_S1024x128
abbrev vwin3 (c : Dev nD) : Memref sig .tc .hbm S1024x128 .f32 :=
  (vH.slice (Rect.unit (s := S1x4096x32x128) (k0_off1 c 3#32) S1x1024x1x128.size (k0_off1_inb c 3)) (fun _ => rfl)).squeeze S1024x128 squeezes_S1x1024x1x128_S1024x128
abbrev vs4 : Memref sig .tc .vmem S1024x128 .f32 :=
  (v32M.slice (Rect.unit (s := S8x1024x128) ![4, 0, 0] S1x1024x128.size inb_S8x1024x128_S1x1024x128_4_0_0) (fun _ => rfl)).squeeze S1024x128 squeezes_S1x1024x128_S1024x128
abbrev vwin4 (c : Dev nD) : Memref sig .tc .hbm S1024x128 .f32 :=
  (vH.slice (Rect.unit (s := S1x4096x32x128) (k0_off1 c 4#32) S1x1024x1x128.size (k0_off1_inb c 4)) (fun _ => rfl)).squeeze S1024x128 squeezes_S1x1024x1x128_S1024x128
abbrev vs5 : Memref sig .tc .vmem S1024x128 .f32 :=
  (v32M.slice (Rect.unit (s := S8x1024x128) ![5, 0, 0] S1x1024x128.size inb_S8x1024x128_S1x1024x128_5_0_0) (fun _ => rfl)).squeeze S1024x128 squeezes_S1x1024x128_S1024x128
abbrev vwin5 (c : Dev nD) : Memref sig .tc .hbm S1024x128 .f32 :=
  (vH.slice (Rect.unit (s := S1x4096x32x128) (k0_off1 c 5#32) S1x1024x1x128.size (k0_off1_inb c 5)) (fun _ => rfl)).squeeze S1024x128 squeezes_S1x1024x1x128_S1024x128
abbrev vs6 : Memref sig .tc .vmem S1024x128 .f32 :=
  (v32M.slice (Rect.unit (s := S8x1024x128) ![6, 0, 0] S1x1024x128.size inb_S8x1024x128_S1x1024x128_6_0_0) (fun _ => rfl)).squeeze S1024x128 squeezes_S1x1024x128_S1024x128
abbrev vwin6 (c : Dev nD) : Memref sig .tc .hbm S1024x128 .f32 :=
  (vH.slice (Rect.unit (s := S1x4096x32x128) (k0_off1 c 6#32) S1x1024x1x128.size (k0_off1_inb c 6)) (fun _ => rfl)).squeeze S1024x128 squeezes_S1x1024x1x128_S1024x128
abbrev vs7 : Memref sig .tc .vmem S1024x128 .f32 :=
  (v32M.slice (Rect.unit (s := S8x1024x128) ![7, 0, 0] S1x1024x128.size inb_S8x1024x128_S1x1024x128_7_0_0) (fun _ => rfl)).squeeze S1024x128 squeezes_S1x1024x128_S1024x128
abbrev vwin7 (c : Dev nD) : Memref sig .tc .hbm S1024x128 .f32 :=
  (vH.slice (Rect.unit (s := S1x4096x32x128) (k0_off1 c 7#32) S1x1024x1x128.size (k0_off1_inb c 7)) (fun _ => rfl)).squeeze S1024x128 squeezes_S1x1024x1x128_S1024x128

/-- The eight shares of the cache that the eight copies read. -/
def kSrc (c : Dev nD) (f : Buf (Elt F) (kH.view.loc (c : Thread nD τ))) : sProp 𝕄 :=
  iprop((kH.view.loc (c : Thread nD τ) ↦[kH.view.set]{Transfers.shareTokN fullShare 0} f) ∗ (kH.view.loc (c : Thread nD τ) ↦[kH.view.set]{Transfers.shareTokN fullShare 1} f) ∗ (kH.view.loc (c : Thread nD τ) ↦[kH.view.set]{Transfers.shareTokN fullShare 2} f) ∗ (kH.view.loc (c : Thread nD τ) ↦[kH.view.set]{Transfers.shareTokN fullShare 3} f) ∗ (kH.view.loc (c : Thread nD τ) ↦[kH.view.set]{Transfers.shareTokN fullShare 4} f) ∗ (kH.view.loc (c : Thread nD τ) ↦[kH.view.set]{Transfers.shareTokN fullShare 5} f) ∗ (kH.view.loc (c : Thread nD τ) ↦[kH.view.set]{Transfers.shareTokN fullShare 6} f) ∗ (kH.view.loc (c : Thread nD τ) ↦[kH.view.set]{Transfers.shareTokN fullShare 7} f))

/-- The eight slots. -/
def kSlots (c : Dev nD) (g : Fin 8 → Buf (Elt F) (k32M.view.loc (c : Thread nD τ))) : sProp 𝕄 :=
  iprop((ks0.view.loc (c : Thread nD τ) ↦[ks0.view.set]{fullShare} g 0) ∗ (ks1.view.loc (c : Thread nD τ) ↦[ks1.view.set]{fullShare} g 1) ∗ (ks2.view.loc (c : Thread nD τ) ↦[ks2.view.set]{fullShare} g 2) ∗ (ks3.view.loc (c : Thread nD τ) ↦[ks3.view.set]{fullShare} g 3) ∗ (ks4.view.loc (c : Thread nD τ) ↦[ks4.view.set]{fullShare} g 4) ∗ (ks5.view.loc (c : Thread nD τ) ↦[ks5.view.set]{fullShare} g 5) ∗ (ks6.view.loc (c : Thread nD τ) ↦[ks6.view.set]{fullShare} g 6) ∗ (ks7.view.loc (c : Thread nD τ) ↦[ks7.view.set]{fullShare} g 7))

/-- Their semaphores, at zero. -/
def kSems (c : Dev nD) : sProp 𝕄 :=
  iprop(semVal ((c : Thread nD τ), lsem 14) 0 ∗ semVal ((c : Thread nD τ), lsem 15) 0 ∗ semVal ((c : Thread nD τ), lsem 16) 0 ∗ semVal ((c : Thread nD τ), lsem 17) 0 ∗ semVal ((c : Thread nD τ), lsem 18) 0 ∗ semVal ((c : Thread nD τ), lsem 19) 0 ∗ semVal ((c : Thread nD τ), lsem 20) 0 ∗ semVal ((c : Thread nD τ), lsem 21) 0)

/-- The eight copies under way, with what of the cache's shares stays behind. -/
def kUnder (c : Dev nD) (f : Buf (Elt F) (kH.view.loc (c : Thread nD τ))) (g : Fin 8 → Buf (Elt F) (k32M.view.loc (c : Thread nD τ))) : sProp 𝕄 :=
  iprop(Transfers.Flight countersEmb (c : Thread nD τ) (lsem 14) default 16384 iprop((ks0.view.loc (c : Thread nD τ) ↦[ks0.view.set]{fullShare} ks0.view.writes (Elt F) (g 0) [⟨Rect.whole S1024x128, (kwin0 c).view.read (Elt F) f⟩]) ∗ (kH.view.loc (c : Thread nD τ) ↦[(kwin0 c).view.set]{Transfers.shareTokN fullShare 0} f)) ∗ (kH.view.loc (c : Thread nD τ) ↦[kH.view.set \ (kwin0 c).view.set]{Transfers.shareTokN fullShare 0} f)
    ∗ Transfers.Flight countersEmb (c : Thread nD τ) (lsem 15) default 16384 iprop((ks1.view.loc (c : Thread nD τ) ↦[ks1.view.set]{fullShare} ks1.view.writes (Elt F) (g 1) [⟨Rect.whole S1024x128, (kwin1 c).view.read (Elt F) f⟩]) ∗ (kH.view.loc (c : Thread nD τ) ↦[(kwin1 c).view.set]{Transfers.shareTokN fullShare 1} f)) ∗ (kH.view.loc (c : Thread nD τ) ↦[kH.view.set \ (kwin1 c).view.set]{Transfers.shareTokN fullShare 1} f)
    ∗ Transfers.Flight countersEmb (c : Thread nD τ) (lsem 16) default 16384 iprop((ks2.view.loc (c : Thread nD τ) ↦[ks2.view.set]{fullShare} ks2.view.writes (Elt F) (g 2) [⟨Rect.whole S1024x128, (kwin2 c).view.read (Elt F) f⟩]) ∗ (kH.view.loc (c : Thread nD τ) ↦[(kwin2 c).view.set]{Transfers.shareTokN fullShare 2} f)) ∗ (kH.view.loc (c : Thread nD τ) ↦[kH.view.set \ (kwin2 c).view.set]{Transfers.shareTokN fullShare 2} f)
    ∗ Transfers.Flight countersEmb (c : Thread nD τ) (lsem 17) default 16384 iprop((ks3.view.loc (c : Thread nD τ) ↦[ks3.view.set]{fullShare} ks3.view.writes (Elt F) (g 3) [⟨Rect.whole S1024x128, (kwin3 c).view.read (Elt F) f⟩]) ∗ (kH.view.loc (c : Thread nD τ) ↦[(kwin3 c).view.set]{Transfers.shareTokN fullShare 3} f)) ∗ (kH.view.loc (c : Thread nD τ) ↦[kH.view.set \ (kwin3 c).view.set]{Transfers.shareTokN fullShare 3} f)
    ∗ Transfers.Flight countersEmb (c : Thread nD τ) (lsem 18) default 16384 iprop((ks4.view.loc (c : Thread nD τ) ↦[ks4.view.set]{fullShare} ks4.view.writes (Elt F) (g 4) [⟨Rect.whole S1024x128, (kwin4 c).view.read (Elt F) f⟩]) ∗ (kH.view.loc (c : Thread nD τ) ↦[(kwin4 c).view.set]{Transfers.shareTokN fullShare 4} f)) ∗ (kH.view.loc (c : Thread nD τ) ↦[kH.view.set \ (kwin4 c).view.set]{Transfers.shareTokN fullShare 4} f)
    ∗ Transfers.Flight countersEmb (c : Thread nD τ) (lsem 19) default 16384 iprop((ks5.view.loc (c : Thread nD τ) ↦[ks5.view.set]{fullShare} ks5.view.writes (Elt F) (g 5) [⟨Rect.whole S1024x128, (kwin5 c).view.read (Elt F) f⟩]) ∗ (kH.view.loc (c : Thread nD τ) ↦[(kwin5 c).view.set]{Transfers.shareTokN fullShare 5} f)) ∗ (kH.view.loc (c : Thread nD τ) ↦[kH.view.set \ (kwin5 c).view.set]{Transfers.shareTokN fullShare 5} f)
    ∗ Transfers.Flight countersEmb (c : Thread nD τ) (lsem 20) default 16384 iprop((ks6.view.loc (c : Thread nD τ) ↦[ks6.view.set]{fullShare} ks6.view.writes (Elt F) (g 6) [⟨Rect.whole S1024x128, (kwin6 c).view.read (Elt F) f⟩]) ∗ (kH.view.loc (c : Thread nD τ) ↦[(kwin6 c).view.set]{Transfers.shareTokN fullShare 6} f)) ∗ (kH.view.loc (c : Thread nD τ) ↦[kH.view.set \ (kwin6 c).view.set]{Transfers.shareTokN fullShare 6} f)
    ∗ Transfers.Flight countersEmb (c : Thread nD τ) (lsem 21) default 16384 iprop((ks7.view.loc (c : Thread nD τ) ↦[ks7.view.set]{fullShare} ks7.view.writes (Elt F) (g 7) [⟨Rect.whole S1024x128, (kwin7 c).view.read (Elt F) f⟩]) ∗ (kH.view.loc (c : Thread nD τ) ↦[(kwin7 c).view.set]{Transfers.shareTokN fullShare 7} f)) ∗ (kH.view.loc (c : Thread nD τ) ↦[kH.view.set \ (kwin7 c).view.set]{Transfers.shareTokN fullShare 7} f))

/-- The eight shares of the cache that the eight copies read. -/
def vSrc (c : Dev nD) (f : Buf (Elt F) (vH.view.loc (c : Thread nD τ))) : sProp 𝕄 :=
  iprop((vH.view.loc (c : Thread nD τ) ↦[vH.view.set]{Transfers.shareTokN fullShare 0} f) ∗ (vH.view.loc (c : Thread nD τ) ↦[vH.view.set]{Transfers.shareTokN fullShare 1} f) ∗ (vH.view.loc (c : Thread nD τ) ↦[vH.view.set]{Transfers.shareTokN fullShare 2} f) ∗ (vH.view.loc (c : Thread nD τ) ↦[vH.view.set]{Transfers.shareTokN fullShare 3} f) ∗ (vH.view.loc (c : Thread nD τ) ↦[vH.view.set]{Transfers.shareTokN fullShare 4} f) ∗ (vH.view.loc (c : Thread nD τ) ↦[vH.view.set]{Transfers.shareTokN fullShare 5} f) ∗ (vH.view.loc (c : Thread nD τ) ↦[vH.view.set]{Transfers.shareTokN fullShare 6} f) ∗ (vH.view.loc (c : Thread nD τ) ↦[vH.view.set]{Transfers.shareTokN fullShare 7} f))

/-- The eight slots. -/
def vSlots (c : Dev nD) (g : Fin 8 → Buf (Elt F) (v32M.view.loc (c : Thread nD τ))) : sProp 𝕄 :=
  iprop((vs0.view.loc (c : Thread nD τ) ↦[vs0.view.set]{fullShare} g 0) ∗ (vs1.view.loc (c : Thread nD τ) ↦[vs1.view.set]{fullShare} g 1) ∗ (vs2.view.loc (c : Thread nD τ) ↦[vs2.view.set]{fullShare} g 2) ∗ (vs3.view.loc (c : Thread nD τ) ↦[vs3.view.set]{fullShare} g 3) ∗ (vs4.view.loc (c : Thread nD τ) ↦[vs4.view.set]{fullShare} g 4) ∗ (vs5.view.loc (c : Thread nD τ) ↦[vs5.view.set]{fullShare} g 5) ∗ (vs6.view.loc (c : Thread nD τ) ↦[vs6.view.set]{fullShare} g 6) ∗ (vs7.view.loc (c : Thread nD τ) ↦[vs7.view.set]{fullShare} g 7))

/-- Their semaphores, at zero. -/
def vSems (c : Dev nD) : sProp 𝕄 :=
  iprop(semVal ((c : Thread nD τ), lsem 22) 0 ∗ semVal ((c : Thread nD τ), lsem 23) 0 ∗ semVal ((c : Thread nD τ), lsem 24) 0 ∗ semVal ((c : Thread nD τ), lsem 25) 0 ∗ semVal ((c : Thread nD τ), lsem 26) 0 ∗ semVal ((c : Thread nD τ), lsem 27) 0 ∗ semVal ((c : Thread nD τ), lsem 28) 0 ∗ semVal ((c : Thread nD τ), lsem 29) 0)

/-- The eight copies under way, with what of the cache's shares stays behind. -/
def vUnder (c : Dev nD) (f : Buf (Elt F) (vH.view.loc (c : Thread nD τ))) (g : Fin 8 → Buf (Elt F) (v32M.view.loc (c : Thread nD τ))) : sProp 𝕄 :=
  iprop(Transfers.Flight countersEmb (c : Thread nD τ) (lsem 22) default 16384 iprop((vs0.view.loc (c : Thread nD τ) ↦[vs0.view.set]{fullShare} vs0.view.writes (Elt F) (g 0) [⟨Rect.whole S1024x128, (vwin0 c).view.read (Elt F) f⟩]) ∗ (vH.view.loc (c : Thread nD τ) ↦[(vwin0 c).view.set]{Transfers.shareTokN fullShare 0} f)) ∗ (vH.view.loc (c : Thread nD τ) ↦[vH.view.set \ (vwin0 c).view.set]{Transfers.shareTokN fullShare 0} f)
    ∗ Transfers.Flight countersEmb (c : Thread nD τ) (lsem 23) default 16384 iprop((vs1.view.loc (c : Thread nD τ) ↦[vs1.view.set]{fullShare} vs1.view.writes (Elt F) (g 1) [⟨Rect.whole S1024x128, (vwin1 c).view.read (Elt F) f⟩]) ∗ (vH.view.loc (c : Thread nD τ) ↦[(vwin1 c).view.set]{Transfers.shareTokN fullShare 1} f)) ∗ (vH.view.loc (c : Thread nD τ) ↦[vH.view.set \ (vwin1 c).view.set]{Transfers.shareTokN fullShare 1} f)
    ∗ Transfers.Flight countersEmb (c : Thread nD τ) (lsem 24) default 16384 iprop((vs2.view.loc (c : Thread nD τ) ↦[vs2.view.set]{fullShare} vs2.view.writes (Elt F) (g 2) [⟨Rect.whole S1024x128, (vwin2 c).view.read (Elt F) f⟩]) ∗ (vH.view.loc (c : Thread nD τ) ↦[(vwin2 c).view.set]{Transfers.shareTokN fullShare 2} f)) ∗ (vH.view.loc (c : Thread nD τ) ↦[vH.view.set \ (vwin2 c).view.set]{Transfers.shareTokN fullShare 2} f)
    ∗ Transfers.Flight countersEmb (c : Thread nD τ) (lsem 25) default 16384 iprop((vs3.view.loc (c : Thread nD τ) ↦[vs3.view.set]{fullShare} vs3.view.writes (Elt F) (g 3) [⟨Rect.whole S1024x128, (vwin3 c).view.read (Elt F) f⟩]) ∗ (vH.view.loc (c : Thread nD τ) ↦[(vwin3 c).view.set]{Transfers.shareTokN fullShare 3} f)) ∗ (vH.view.loc (c : Thread nD τ) ↦[vH.view.set \ (vwin3 c).view.set]{Transfers.shareTokN fullShare 3} f)
    ∗ Transfers.Flight countersEmb (c : Thread nD τ) (lsem 26) default 16384 iprop((vs4.view.loc (c : Thread nD τ) ↦[vs4.view.set]{fullShare} vs4.view.writes (Elt F) (g 4) [⟨Rect.whole S1024x128, (vwin4 c).view.read (Elt F) f⟩]) ∗ (vH.view.loc (c : Thread nD τ) ↦[(vwin4 c).view.set]{Transfers.shareTokN fullShare 4} f)) ∗ (vH.view.loc (c : Thread nD τ) ↦[vH.view.set \ (vwin4 c).view.set]{Transfers.shareTokN fullShare 4} f)
    ∗ Transfers.Flight countersEmb (c : Thread nD τ) (lsem 27) default 16384 iprop((vs5.view.loc (c : Thread nD τ) ↦[vs5.view.set]{fullShare} vs5.view.writes (Elt F) (g 5) [⟨Rect.whole S1024x128, (vwin5 c).view.read (Elt F) f⟩]) ∗ (vH.view.loc (c : Thread nD τ) ↦[(vwin5 c).view.set]{Transfers.shareTokN fullShare 5} f)) ∗ (vH.view.loc (c : Thread nD τ) ↦[vH.view.set \ (vwin5 c).view.set]{Transfers.shareTokN fullShare 5} f)
    ∗ Transfers.Flight countersEmb (c : Thread nD τ) (lsem 28) default 16384 iprop((vs6.view.loc (c : Thread nD τ) ↦[vs6.view.set]{fullShare} vs6.view.writes (Elt F) (g 6) [⟨Rect.whole S1024x128, (vwin6 c).view.read (Elt F) f⟩]) ∗ (vH.view.loc (c : Thread nD τ) ↦[(vwin6 c).view.set]{Transfers.shareTokN fullShare 6} f)) ∗ (vH.view.loc (c : Thread nD τ) ↦[vH.view.set \ (vwin6 c).view.set]{Transfers.shareTokN fullShare 6} f)
    ∗ Transfers.Flight countersEmb (c : Thread nD τ) (lsem 29) default 16384 iprop((vs7.view.loc (c : Thread nD τ) ↦[vs7.view.set]{fullShare} vs7.view.writes (Elt F) (g 7) [⟨Rect.whole S1024x128, (vwin7 c).view.read (Elt F) f⟩]) ∗ (vH.view.loc (c : Thread nD τ) ↦[(vwin7 c).view.set]{Transfers.shareTokN fullShare 7} f)) ∗ (vH.view.loc (c : Thread nD τ) ↦[vH.view.set \ (vwin7 c).view.set]{Transfers.shareTokN fullShare 7} f))

/-- The copy of a weight under way. -/
def wqUnder (c : Dev nD) (f : Buf (Elt F) (wqH.view.loc (c : Thread nD τ))) (g : Buf (Elt F) (wq32M.view.loc (c : Thread nD τ))) : sProp 𝕄 :=
  iprop(Transfers.Flight countersEmb (c : Thread nD τ) (lsem 30) default 131072 iprop((wq32M.view.loc (c : Thread nD τ) ↦[wq32M.view.set]{fullShare} wq32M.view.writes (Elt F) g [⟨Rect.whole S1024x1024, wqH.view.read (Elt F) f⟩]) ∗ (wqH.view.loc (c : Thread nD τ) ↦[wqH.view.set]{fullShare} f)))

/-- The copy of a weight under way. -/
def woUnder (c : Dev nD) (f : Buf (Elt F) (woH.view.loc (c : Thread nD τ))) (g : Buf (Elt F) (wo32M.view.loc (c : Thread nD τ))) : sProp 𝕄 :=
  iprop(Transfers.Flight countersEmb (c : Thread nD τ) (lsem 31) default 131072 iprop((wo32M.view.loc (c : Thread nD τ) ↦[wo32M.view.set]{fullShare} wo32M.view.writes (Elt F) g [⟨Rect.whole S1024x1024, woH.view.read (Elt F) f⟩]) ∗ (woH.view.loc (c : Thread nD τ) ↦[woH.view.set]{fullShare} f)))

set_option maxHeartbeats 4000000
set_option maxRecDepth 65536
set_option sl_exec.respelt true

/-- The copies start. -/
theorem starts (c : Dev nD) {R : Type} (κ : Dev nD → Prog (TpuEff nD τ sig (Elt F) Λ₀ .tc) R) (Q : R → sProp 𝕄)
    (fwq : Buf (Elt F) (wqH.view.loc (c : Thread nD τ))) (fk : Buf (Elt F) (kH.view.loc (c : Thread nD τ)))
    (fv : Buf (Elt F) (vH.view.loc (c : Thread nD τ))) (fwo : Buf (Elt F) (woH.view.loc (c : Thread nD τ)))
    (gwq : Buf (Elt F) (wq32M.view.loc (c : Thread nD τ))) (gk : Fin 8 → Buf (Elt F) (k32M.view.loc (c : Thread nD τ)))
    (gv : Fin 8 → Buf (Elt F) (v32M.view.loc (c : Thread nD τ))) (gwo : Buf (Elt F) (wo32M.view.loc (c : Thread nD τ))) :
    iprop(kSrc c fk ∗ kSlots c gk ∗ kSems c ∗ vSrc c fv ∗ vSlots c gv ∗ vSems c
      ∗ (wqH.view.loc (c : Thread nD τ) ↦[wqH.view.set]{fullShare} fwq) ∗ (wq32M.view.loc (c : Thread nD τ) ↦[wq32M.view.set]{fullShare} gwq) ∗ semVal ((c : Thread nD τ), lsem 30) 0
      ∗ (woH.view.loc (c : Thread nD τ) ↦[woH.view.set]{fullShare} fwo) ∗ (wo32M.view.loc (c : Thread nD τ) ↦[wo32M.view.set]{fullShare} gwo) ∗ semVal ((c : Thread nD τ), lsem 31) 0)
    ⊢ iprop((iprop(kUnder c fk gk ∗ vUnder c fv gv ∗ wqUnder c fwq gwq ∗ woUnder c fwo gwo) -∗ wp frame (wpE (defs₀ (F := F)) 𝒱₀ (c : Thread nD τ) none) Set.univ (κ c) Q)
      -∗ wp frame (wpE (defs₀ (F := F)) 𝒱₀ (c : Thread nD τ) none) Set.univ (st1 wqH (Memref.isWhole_whole _) kH vH woH (Memref.isWhole_whole _) k32M v32M wq32M (Memref.isWhole_whole _) wo32M (Memref.isWhole_whole _) cc0_scratch18 cc0_scratch19 κ) Q) := by
  unfold kSrc kSlots kSems vSrc vSlots vSems kUnder vUnder wqUnder woUnder
  iintro ⟨⟨Hk0, Hk1, Hk2, Hk3, Hk4, Hk5, Hk6, Hk7⟩, ⟨Jk0, Jk1, Jk2, Jk3, Jk4, Jk5, Jk6, Jk7⟩, ⟨Hm14, Hm15, Hm16, Hm17, Hm18, Hm19, Hm20, Hm21⟩, ⟨Hv0, Hv1, Hv2, Hv3, Hv4, Hv5, Hv6, Hv7⟩, ⟨Jv0, Jv1, Jv2, Jv3, Jv4, Jv5, Jv6, Jv7⟩, ⟨Hm22, Hm23, Hm24, Hm25, Hm26, Hm27, Hm28, Hm29⟩, Hwq, Jwq, Hm30, Hwo, Jwo, Hm31⟩ Hκ
  unfold st1
  sl_exec
  iapply Hκ
  isplitl [Hm14 Hk0 Hm15 Hk1 Hm16 Hk2 Hm17 Hk3 Hm18 Hk4 Hm19 Hk5 Hm20 Hk6 Hm21 Hk7]
  · skip
    isplitl [Hm14]; · iexact Hm14
    isplitl [Hk0]; · iexact Hk0
    isplitl [Hm15]; · iexact Hm15
    isplitl [Hk1]; · iexact Hk1
    isplitl [Hm16]; · iexact Hm16
    isplitl [Hk2]; · iexact Hk2
    isplitl [Hm17]; · iexact Hm17
    isplitl [Hk3]; · iexact Hk3
    isplitl [Hm18]; · iexact Hm18
    isplitl [Hk4]; · iexact Hk4
    isplitl [Hm19]; · iexact Hm19
    isplitl [Hk5]; · iexact Hk5
    isplitl [Hm20]; · iexact Hm20
    isplitl [Hk6]; · iexact Hk6
    isplitl [Hm21]; · iexact Hm21
    iexact Hk7
  isplitl [Hm22 Hv0 Hm23 Hv1 Hm24 Hv2 Hm25 Hv3 Hm26 Hv4 Hm27 Hv5 Hm28 Hv6 Hm29 Hv7]
  · skip
    isplitl [Hm22]; · iexact Hm22
    isplitl [Hv0]; · iexact Hv0
    isplitl [Hm23]; · iexact Hm23
    isplitl [Hv1]; · iexact Hv1
    isplitl [Hm24]; · iexact Hm24
    isplitl [Hv2]; · iexact Hv2
    isplitl [Hm25]; · iexact Hm25
    isplitl [Hv3]; · iexact Hv3
    isplitl [Hm26]; · iexact Hm26
    isplitl [Hv4]; · iexact Hv4
    isplitl [Hm27]; · iexact Hm27
    isplitl [Hv5]; · iexact Hv5
    isplitl [Hm28]; · iexact Hm28
    isplitl [Hv6]; · iexact Hv6
    isplitl [Hm29]; · iexact Hm29
    iexact Hv7
  isplitl [Hm30]
  · iexact Hm30
  iexact Hm31

end Cert.KernelIdeal.Run

end

end
-- ==== Proof.Weights.lean ====
module

public import proofs.«01_k».proof.Proof.Locals

/-!
What a device's own copies bring is converted: the weights, and head after head of the two caches.
-/

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

set_option maxHeartbeats 1000000
set_option maxRecDepth 65536
set_option sl_exec.respelt true

/-- A weight arrives and is converted. -/
theorem conv_wq (c : Dev nD) {R : Type} (κ : Prog (TpuEff nD τ sig (Elt F) Λ₀ .tc) R) (Q : R → sProp 𝕄)
    (O : CellTallies nD τ sig Unit) (W : Waits sig Unit) (Lv : sProp 𝕄)
    (hmw : ∀ s : Fin 32, 14 ≤ s.val → (Lv ⊢ MayWait (c : Thread nD τ) (SemLoc.dma (s : DmaSem sig)) default O))
    (f : Buf (Elt F) (wqH.view.loc (c : Thread nD τ))) (g : Buf (Elt F) (wq32M.view.loc (c : Thread nD τ))) (f' : Buf (Elt F) (wqM.view.loc (c : Thread nD τ))) :
    iprop(wqUnder c f g ∗ (wqM.view.loc (c : Thread nD τ) ↦[wqM.view.set]{fullShare} f') ∗ owes (c : Thread nD τ) O W ∗ Lv)
    ⊢ iprop((∀ (g' : Buf (Elt F) (wq32M.view.loc (c : Thread nD τ))) (f'' : Buf (Elt F) (wqM.view.loc (c : Thread nD τ))) (W' : Waits sig Unit),
        iprop(⌜wqM.view.read (Elt F) f'' = k0_pay2 (wqH.view.read (Elt F) f)⌝ ∗ (wqH.view.loc (c : Thread nD τ) ↦[wqH.view.set]{fullShare} f) ∗ (wq32M.view.loc (c : Thread nD τ) ↦[wq32M.view.set]{fullShare} g')
          ∗ semVal ((c : Thread nD τ), lsem 30) 0 ∗ (wqM.view.loc (c : Thread nD τ) ↦[wqM.view.set]{fullShare} f'')
          ∗ owes (c : Thread nD τ) O W' ∗ Lv) -∗ wp frame (wpE (defs₀ (F := F)) 𝒱₀ (c : Thread nD τ) none) Set.univ κ Q)
      -∗ wp frame (wpE (defs₀ (F := F)) 𝒱₀ (c : Thread nD τ) none) Set.univ (st5 wqH (Memref.isWhole_whole _) wq32M (Memref.isWhole_whole _) wqM (Memref.isWhole_whole _) cc0_scratch19 κ) Q) := by
  unfold wqUnder
  iintro ⟨Hf, Hd, HO, HL⟩ Hκ
  unfold st5
  sl_exec
  ispecialize Hκ $$ %(_) %(_) %(_)
  iapply Hκ
  isplitr
  swap
  · iframe Hf_src
    isplitl [Hf_dst]
    · iexact Hf_dst
    iframe Hf
    isplitl [Hd]
    · iexact Hd
    iframe
  · ipureintro
    refine (View.read_writes_full wqM.view f' inb_S1024x1024_S1024x1024_0_0 _ []).trans ?_
    unfold conv_wq.sl.v189
    exact congrArg k0_pay2 (landed_load wq32M.view inb_S1024x1024_S1024x1024_0_0 _)

/-- A weight arrives and is converted. -/
theorem conv_wo (c : Dev nD) {R : Type} (κ : Prog (TpuEff nD τ sig (Elt F) Λ₀ .tc) R) (Q : R → sProp 𝕄)
    (O : CellTallies nD τ sig Unit) (W : Waits sig Unit) (Lv : sProp 𝕄)
    (hmw : ∀ s : Fin 32, 14 ≤ s.val → (Lv ⊢ MayWait (c : Thread nD τ) (SemLoc.dma (s : DmaSem sig)) default O))
    (f : Buf (Elt F) (woH.view.loc (c : Thread nD τ))) (g : Buf (Elt F) (wo32M.view.loc (c : Thread nD τ))) (f' : Buf (Elt F) (woM.view.loc (c : Thread nD τ))) :
    iprop(woUnder c f g ∗ (woM.view.loc (c : Thread nD τ) ↦[woM.view.set]{fullShare} f') ∗ owes (c : Thread nD τ) O W ∗ Lv)
    ⊢ iprop((∀ (g' : Buf (Elt F) (wo32M.view.loc (c : Thread nD τ))) (f'' : Buf (Elt F) (woM.view.loc (c : Thread nD τ))) (W' : Waits sig Unit),
        iprop(⌜woM.view.read (Elt F) f'' = k0_pay21 (woH.view.read (Elt F) f)⌝ ∗ (woH.view.loc (c : Thread nD τ) ↦[woH.view.set]{fullShare} f) ∗ (wo32M.view.loc (c : Thread nD τ) ↦[wo32M.view.set]{fullShare} g')
          ∗ semVal ((c : Thread nD τ), lsem 31) 0 ∗ (woM.view.loc (c : Thread nD τ) ↦[woM.view.set]{fullShare} f'')
          ∗ owes (c : Thread nD τ) O W' ∗ Lv) -∗ wp frame (wpE (defs₀ (F := F)) 𝒱₀ (c : Thread nD τ) none) Set.univ κ Q)
      -∗ wp frame (wpE (defs₀ (F := F)) 𝒱₀ (c : Thread nD τ) none) Set.univ (st8 woH (Memref.isWhole_whole _) wo32M (Memref.isWhole_whole _) woM (Memref.isWhole_whole _) cc0_scratch19 κ) Q) := by
  unfold woUnder
  iintro ⟨Hf, Hd, HO, HL⟩ Hκ
  unfold st8
  sl_exec
  ispecialize Hκ $$ %(_) %(_) %(_)
  iapply Hκ
  isplitr
  swap
  · iframe Hf_src
    isplitl [Hf_dst]
    · iexact Hf_dst
    iframe Hf
    isplitl [Hd]
    · iexact Hd
    iframe
  · ipureintro
    refine (View.read_writes_full woM.view f' inb_S1024x1024_S1024x1024_0_0 _ []).trans ?_
    unfold conv_wo.sl.v390
    exact congrArg k0_pay21 (landed_load wo32M.view inb_S1024x1024_S1024x1024_0_0 _)

end Cert.KernelIdeal.Run

end

end
-- ==== Proof.Heads.lean ====
module

public import proofs.«01_k».proof.Proof.Weights

/-!
The heads of the two caches arrive one after the other, and each is converted.
-/

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

set_option maxHeartbeats 1000000
set_option maxRecDepth 65536
set_option sl_exec.respelt true

/-- A head of a cache, converted. -/
abbrev kvVal (w : S1024x128.Idx → Elt F .f32) : Vec F S1x1024x128 .bf16 :=
  shapeCast S1x1024x128 (truncf .bf16 (w : FVec F S1024x128 .f32)) shapeCasts_S1024x128_S1x1024x128

/-- A head's rows read what was last stored there. -/
theorem headRd_hit (M : Memref sig .tc .vmem S8x1024x128 .bf16) (f : M.view.ty.Contents (Elt F)) (h : Fin 8) {off : Fin 3 → ℕ}
    (inb : ∀ a, off a + S1x1024x128.size a ≤ S8x1024x128.size a) (e : off = ![h.val, 0, 0]) (w : Vec F S1x1024x128 .bf16)
    (T : List (View.Piece (Elt F) S8x1024x128 .bf16)) :
    headRd M (M.view.writes (Elt F) f (⟨Rect.unit (s := S8x1024x128) off S1x1024x128.size inb, w⟩ :: T)) h = w := by
  funext y
  exact View.read_writes_cons_unit_of_mem M.view f inb w T _ y e fun a => by
    show ![h.val, 0, 0] a + 1 * (y a).val = ![h.val, 0, 0] a + (y a).val
    rw [Nat.one_mul]

/-- A store to another head's rows is not read. -/
theorem headRd_miss (M : Memref sig .tc .vmem S8x1024x128 .bf16) (f : M.view.ty.Contents (Elt F)) (h h' : Fin 8) {off : Fin 3 → ℕ}
    (inb : ∀ a, off a + S1x1024x128.size a ≤ S8x1024x128.size a) (e : off = ![h'.val, 0, 0]) (hne : h ≠ h') (w : Vec F S1x1024x128 .bf16)
    (T : List (View.Piece (Elt F) S8x1024x128 .bf16)) :
    headRd M (M.view.writes (Elt F) f (⟨Rect.unit (s := S8x1024x128) off S1x1024x128.size inb, w⟩ :: T)) h = headRd M (M.view.writes (Elt F) f T) h := by
  funext y
  refine View.read_writes_cons_unit_of_not_mem M.view f inb w T _ e 0 ?_
  have h0 : (y (0 : Fin 3)).val = 0 := Nat.lt_one_iff.mp (y (0 : Fin 3)).isLt
  have hn : h.val ≠ h'.val := fun he => hne (Fin.ext he)
  show h.val + 1 * (y (0 : Fin 3)).val < h'.val ∨ h'.val + 1 ≤ h.val + 1 * (y (0 : Fin 3)).val
  omega

/-- Eight stores, one for each head, and the head's rows read its own. -/
theorem headRd_of (M : Memref sig .tc .vmem S8x1024x128 .bf16) (f : M.view.ty.Contents (Elt F)) (X : Fin 8 → Vec F S1x1024x128 .bf16)
    {w0 w1 w2 w3 w4 w5 w6 w7 : Vec F S1x1024x128 .bf16} (e0 : w0 = X 0) (e1 : w1 = X 1) (e2 : w2 = X 2) (e3 : w3 = X 3) (e4 : w4 = X 4) (e5 : w5 = X 5) (e6 : w6 = X 6) (e7 : w7 = X 7) (h : Fin 8) :
    headRd M (M.view.writes (Elt F) f [⟨Rect.unit (s := S8x1024x128) ![7, 0, 0] S1x1024x128.size inb_S8x1024x128_S1x1024x128_7_0_0, w7⟩, ⟨Rect.unit (s := S8x1024x128) ![6, 0, 0] S1x1024x128.size inb_S8x1024x128_S1x1024x128_6_0_0, w6⟩, ⟨Rect.unit (s := S8x1024x128) ![5, 0, 0] S1x1024x128.size inb_S8x1024x128_S1x1024x128_5_0_0, w5⟩, ⟨Rect.unit (s := S8x1024x128) ![4, 0, 0] S1x1024x128.size inb_S8x1024x128_S1x1024x128_4_0_0, w4⟩, ⟨Rect.unit (s := S8x1024x128) ![3, 0, 0] S1x1024x128.size inb_S8x1024x128_S1x1024x128_3_0_0, w3⟩, ⟨Rect.unit (s := S8x1024x128) ![2, 0, 0] S1x1024x128.size inb_S8x1024x128_S1x1024x128_2_0_0, w2⟩, ⟨Rect.unit (s := S8x1024x128) ![1, 0, 0] S1x1024x128.size inb_S8x1024x128_S1x1024x128_1_0_0, w1⟩, ⟨Rect.unit (s := S8x1024x128) ![0, 0, 0] S1x1024x128.size inb_S8x1024x128_S1x1024x128_0_0_0, w0⟩]) h = X h := by
  subst e0 e1 e2 e3 e4 e5 e6 e7
  fin_cases h
  · refine (headRd_miss M f 0 7 inb_S8x1024x128_S1x1024x128_7_0_0 rfl (by decide) _ _).trans ?_
    refine (headRd_miss M f 0 6 inb_S8x1024x128_S1x1024x128_6_0_0 rfl (by decide) _ _).trans ?_
    refine (headRd_miss M f 0 5 inb_S8x1024x128_S1x1024x128_5_0_0 rfl (by decide) _ _).trans ?_
    refine (headRd_miss M f 0 4 inb_S8x1024x128_S1x1024x128_4_0_0 rfl (by decide) _ _).trans ?_
    refine (headRd_miss M f 0 3 inb_S8x1024x128_S1x1024x128_3_0_0 rfl (by decide) _ _).trans ?_
    refine (headRd_miss M f 0 2 inb_S8x1024x128_S1x1024x128_2_0_0 rfl (by decide) _ _).trans ?_
    refine (headRd_miss M f 0 1 inb_S8x1024x128_S1x1024x128_1_0_0 rfl (by decide) _ _).trans ?_
    exact headRd_hit M f 0 inb_S8x1024x128_S1x1024x128_0_0_0 rfl _ _
  · refine (headRd_miss M f 1 7 inb_S8x1024x128_S1x1024x128_7_0_0 rfl (by decide) _ _).trans ?_
    refine (headRd_miss M f 1 6 inb_S8x1024x128_S1x1024x128_6_0_0 rfl (by decide) _ _).trans ?_
    refine (headRd_miss M f 1 5 inb_S8x1024x128_S1x1024x128_5_0_0 rfl (by decide) _ _).trans ?_
    refine (headRd_miss M f 1 4 inb_S8x1024x128_S1x1024x128_4_0_0 rfl (by decide) _ _).trans ?_
    refine (headRd_miss M f 1 3 inb_S8x1024x128_S1x1024x128_3_0_0 rfl (by decide) _ _).trans ?_
    refine (headRd_miss M f 1 2 inb_S8x1024x128_S1x1024x128_2_0_0 rfl (by decide) _ _).trans ?_
    exact headRd_hit M f 1 inb_S8x1024x128_S1x1024x128_1_0_0 rfl _ _
  · refine (headRd_miss M f 2 7 inb_S8x1024x128_S1x1024x128_7_0_0 rfl (by decide) _ _).trans ?_
    refine (headRd_miss M f 2 6 inb_S8x1024x128_S1x1024x128_6_0_0 rfl (by decide) _ _).trans ?_
    refine (headRd_miss M f 2 5 inb_S8x1024x128_S1x1024x128_5_0_0 rfl (by decide) _ _).trans ?_
    refine (headRd_miss M f 2 4 inb_S8x1024x128_S1x1024x128_4_0_0 rfl (by decide) _ _).trans ?_
    refine (headRd_miss M f 2 3 inb_S8x1024x128_S1x1024x128_3_0_0 rfl (by decide) _ _).trans ?_
    exact headRd_hit M f 2 inb_S8x1024x128_S1x1024x128_2_0_0 rfl _ _
  · refine (headRd_miss M f 3 7 inb_S8x1024x128_S1x1024x128_7_0_0 rfl (by decide) _ _).trans ?_
    refine (headRd_miss M f 3 6 inb_S8x1024x128_S1x1024x128_6_0_0 rfl (by decide) _ _).trans ?_
    refine (headRd_miss M f 3 5 inb_S8x1024x128_S1x1024x128_5_0_0 rfl (by decide) _ _).trans ?_
    refine (headRd_miss M f 3 4 inb_S8x1024x128_S1x1024x128_4_0_0 rfl (by decide) _ _).trans ?_
    exact headRd_hit M f 3 inb_S8x1024x128_S1x1024x128_3_0_0 rfl _ _
  · refine (headRd_miss M f 4 7 inb_S8x1024x128_S1x1024x128_7_0_0 rfl (by decide) _ _).trans ?_
    refine (headRd_miss M f 4 6 inb_S8x1024x128_S1x1024x128_6_0_0 rfl (by decide) _ _).trans ?_
    refine (headRd_miss M f 4 5 inb_S8x1024x128_S1x1024x128_5_0_0 rfl (by decide) _ _).trans ?_
    exact headRd_hit M f 4 inb_S8x1024x128_S1x1024x128_4_0_0 rfl _ _
  · refine (headRd_miss M f 5 7 inb_S8x1024x128_S1x1024x128_7_0_0 rfl (by decide) _ _).trans ?_
    refine (headRd_miss M f 5 6 inb_S8x1024x128_S1x1024x128_6_0_0 rfl (by decide) _ _).trans ?_
    exact headRd_hit M f 5 inb_S8x1024x128_S1x1024x128_5_0_0 rfl _ _
  · refine (headRd_miss M f 6 7 inb_S8x1024x128_S1x1024x128_7_0_0 rfl (by decide) _ _).trans ?_
    exact headRd_hit M f 6 inb_S8x1024x128_S1x1024x128_6_0_0 rfl _ _
  · exact headRd_hit M f 7 inb_S8x1024x128_S1x1024x128_7_0_0 rfl _ _

/-- What a head's rows hold once its copy has landed. -/
theorem arrived {s s' : Shape} {e : EltTy} {sp : Space} (M : Memref sig .tc sp s e) (r : Rect s) (hr : ∀ a, r.stride a = 1)
    (hq : r.shape.Squeezes s') (hc : r.shape.ShapeCasts s') (g : M.view.ty.Contents (Elt F)) (w : s'.Idx → Elt F e) :
    shapeCast s' (View.readAt (Elt F) M.view r.toLoadRect (((M.slice r hr).squeeze s' hq).view.writes (Elt F) g [⟨Rect.whole s', w⟩])) hc = w :=
  (Memref.read_squeeze_slice M r hr hq hc _).symm.trans (landed ((M.slice r hr).squeeze s' hq).view g w)

/-- The heads arrive and are converted. -/
theorem heads (c : Dev nD) {R : Type} (κ : Prog (TpuEff nD τ sig (Elt F) Λ₀ .tc) R) (Q : R → sProp 𝕄)
    (O : CellTallies nD τ sig Unit) (W : Waits sig Unit) (Lv : sProp 𝕄)
    (hmw : ∀ s : Fin 32, 14 ≤ s.val → (Lv ⊢ MayWait (c : Thread nD τ) (SemLoc.dma (s : DmaSem sig)) default O))
    (fk : Buf (Elt F) (kH.view.loc (c : Thread nD τ))) (fv : Buf (Elt F) (vH.view.loc (c : Thread nD τ)))
    (gk : Fin 8 → Buf (Elt F) (k32M.view.loc (c : Thread nD τ))) (gv : Fin 8 → Buf (Elt F) (v32M.view.loc (c : Thread nD τ)))
    (bk : Buf (Elt F) (kbM.view.loc (c : Thread nD τ))) (bv : Buf (Elt F) (vbM.view.loc (c : Thread nD τ))) :
    iprop(kUnder c fk gk ∗ vUnder c fv gv ∗ (kbM.view.loc (c : Thread nD τ) ↦[kbM.view.set]{fullShare} bk) ∗ (vbM.view.loc (c : Thread nD τ) ↦[vbM.view.set]{fullShare} bv) ∗ owes (c : Thread nD τ) O W ∗ Lv)
    ⊢ iprop((∀ (gk' : Fin 8 → Buf (Elt F) (k32M.view.loc (c : Thread nD τ))) (gv' : Fin 8 → Buf (Elt F) (v32M.view.loc (c : Thread nD τ)))
        (bk' : Buf (Elt F) (kbM.view.loc (c : Thread nD τ))) (bv' : Buf (Elt F) (vbM.view.loc (c : Thread nD τ))) (W' : Waits sig Unit),
        iprop(⌜(∀ h, headRd kbM bk' h = kvVal ((kwin c h).view.read (Elt F) fk)) ∧ ∀ h, headRd vbM bv' h = kvVal ((vwin c h).view.read (Elt F) fv)⌝
          ∗ kSrc c fk ∗ kSlots c gk' ∗ kSems c ∗ vSrc c fv ∗ vSlots c gv' ∗ vSems c
          ∗ (kbM.view.loc (c : Thread nD τ) ↦[kbM.view.set]{fullShare} bk') ∗ (vbM.view.loc (c : Thread nD τ) ↦[vbM.view.set]{fullShare} bv')
          ∗ owes (c : Thread nD τ) O W' ∗ Lv) -∗ wp frame (wpE (defs₀ (F := F)) 𝒱₀ (c : Thread nD τ) none) Set.univ κ Q)
      -∗ wp frame (wpE (defs₀ (F := F)) 𝒱₀ (c : Thread nD τ) none) Set.univ (st6 kH vH k32M v32M kbM (Memref.isWhole_whole _) vbM (Memref.isWhole_whole _) cc0_scratch18 c (st7 kH vH k32M v32M kbM (Memref.isWhole_whole _) vbM (Memref.isWhole_whole _) cc0_scratch18 c κ)) Q) := by
  unfold kUnder vUnder kwin0 kwin1 kwin2 kwin3 kwin4 kwin5 kwin6 kwin7 vwin0 vwin1 vwin2 vwin3 vwin4 vwin5 vwin6 vwin7
  iintro ⟨⟨Hm14, Hk0, Hm15, Hk1, Hm16, Hk2, Hm17, Hk3, Hm18, Hk4, Hm19, Hk5, Hm20, Hk6, Hm21, Hk7⟩, ⟨Hm22, Hv0, Hm23, Hv1, Hm24, Hv2, Hm25, Hv3, Hm26, Hv4, Hm27, Hv5, Hm28, Hv6, Hm29, Hv7⟩, Hkb, Hvb, HO, HL⟩ Hκ
  unfold st6 st7
  sl_exec
  ispecialize Hκ $$ %(fun h => (ks h).view.writes (Elt F) (ks h).view.junk [⟨Rect.whole S1024x128, (kwin c h).view.read (Elt F) fk⟩])
    %(fun h => (vs h).view.writes (Elt F) (vs h).view.junk [⟨Rect.whole S1024x128, (vwin c h).view.read (Elt F) fv⟩]) %(_) %(_) %(_)
  iapply Hκ
  isplitr
  swap
  · unfold kSrc kSlots kSems vSrc vSlots vSems
    isplitl [Hk0 Hk1 Hk2 Hk3 Hk4 Hk5 Hk6 Hk7]
    · skip
      isplitl [Hk0]; · iexact Hk0
      isplitl [Hk1]; · iexact Hk1
      isplitl [Hk2]; · iexact Hk2
      isplitl [Hk3]; · iexact Hk3
      isplitl [Hk4]; · iexact Hk4
      isplitl [Hk5]; · iexact Hk5
      isplitl [Hk6]; · iexact Hk6
      iexact Hk7
    isplitl [Hm14_dst Hm15_dst Hm16_dst Hm17_dst Hm18_dst Hm19_dst Hm20_dst Hm21_dst]
    · skip
      isplitl [Hm14_dst]; · iexact Hm14_dst
      isplitl [Hm15_dst]; · iexact Hm15_dst
      isplitl [Hm16_dst]; · iexact Hm16_dst
      isplitl [Hm17_dst]; · iexact Hm17_dst
      isplitl [Hm18_dst]; · iexact Hm18_dst
      isplitl [Hm19_dst]; · iexact Hm19_dst
      isplitl [Hm20_dst]; · iexact Hm20_dst
      iexact Hm21_dst
    isplitl [Hm14 Hm15 Hm16 Hm17 Hm18 Hm19 Hm20 Hm21]
    · skip
      isplitl [Hm14]; · iexact Hm14
      isplitl [Hm15]; · iexact Hm15
      isplitl [Hm16]; · iexact Hm16
      isplitl [Hm17]; · iexact Hm17
      isplitl [Hm18]; · iexact Hm18
      isplitl [Hm19]; · iexact Hm19
      isplitl [Hm20]; · iexact Hm20
      iexact Hm21
    isplitl [Hv0 Hv1 Hv2 Hv3 Hv4 Hv5 Hv6 Hv7]
    · skip
      isplitl [Hv0]; · iexact Hv0
      isplitl [Hv1]; · iexact Hv1
      isplitl [Hv2]; · iexact Hv2
      isplitl [Hv3]; · iexact Hv3
      isplitl [Hv4]; · iexact Hv4
      isplitl [Hv5]; · iexact Hv5
      isplitl [Hv6]; · iexact Hv6
      iexact Hv7
    isplitl [Hm22_dst Hm23_dst Hm24_dst Hm25_dst Hm26_dst Hm27_dst Hm28_dst Hm29_dst]
    · skip
      isplitl [Hm22_dst]; · iexact Hm22_dst
      isplitl [Hm23_dst]; · iexact Hm23_dst
      isplitl [Hm24_dst]; · iexact Hm24_dst
      isplitl [Hm25_dst]; · iexact Hm25_dst
      isplitl [Hm26_dst]; · iexact Hm26_dst
      isplitl [Hm27_dst]; · iexact Hm27_dst
      isplitl [Hm28_dst]; · iexact Hm28_dst
      iexact Hm29_dst
    isplitl [Hm22 Hm23 Hm24 Hm25 Hm26 Hm27 Hm28 Hm29]
    · skip
      isplitl [Hm22]; · iexact Hm22
      isplitl [Hm23]; · iexact Hm23
      isplitl [Hm24]; · iexact Hm24
      isplitl [Hm25]; · iexact Hm25
      isplitl [Hm26]; · iexact Hm26
      isplitl [Hm27]; · iexact Hm27
      isplitl [Hm28]; · iexact Hm28
      iexact Hm29
    isplitl [Hkb]
    · iexact Hkb
    isplitl [Hvb]
    · iexact Hvb
    iframe
  · ipureintro
    exact ⟨headRd_of kbM bk (fun h => kvVal ((kwin c h).view.read (Elt F) fk)) (congrArg kvVal (arrived k32M (Rect.unit (s := S8x1024x128) ![0, 0, 0] S1x1024x128.size inb_S8x1024x128_S1x1024x128_0_0_0) (fun _ => rfl) squeezes_S1x1024x128_S1024x128 shapeCasts_S1x1024x128_S1024x128 _ (kwin0 c |>.view.read (Elt F) fk))) (congrArg kvVal (arrived k32M (Rect.unit (s := S8x1024x128) ![1, 0, 0] S1x1024x128.size inb_S8x1024x128_S1x1024x128_1_0_0) (fun _ => rfl) squeezes_S1x1024x128_S1024x128 shapeCasts_S1x1024x128_S1024x128 _ (kwin1 c |>.view.read (Elt F) fk))) (congrArg kvVal (arrived k32M (Rect.unit (s := S8x1024x128) ![2, 0, 0] S1x1024x128.size inb_S8x1024x128_S1x1024x128_2_0_0) (fun _ => rfl) squeezes_S1x1024x128_S1024x128 shapeCasts_S1x1024x128_S1024x128 _ (kwin2 c |>.view.read (Elt F) fk))) (congrArg kvVal (arrived k32M (Rect.unit (s := S8x1024x128) ![3, 0, 0] S1x1024x128.size inb_S8x1024x128_S1x1024x128_3_0_0) (fun _ => rfl) squeezes_S1x1024x128_S1024x128 shapeCasts_S1x1024x128_S1024x128 _ (kwin3 c |>.view.read (Elt F) fk))) (congrArg kvVal (arrived k32M (Rect.unit (s := S8x1024x128) ![4, 0, 0] S1x1024x128.size inb_S8x1024x128_S1x1024x128_4_0_0) (fun _ => rfl) squeezes_S1x1024x128_S1024x128 shapeCasts_S1x1024x128_S1024x128 _ (kwin4 c |>.view.read (Elt F) fk))) (congrArg kvVal (arrived k32M (Rect.unit (s := S8x1024x128) ![5, 0, 0] S1x1024x128.size inb_S8x1024x128_S1x1024x128_5_0_0) (fun _ => rfl) squeezes_S1x1024x128_S1024x128 shapeCasts_S1x1024x128_S1024x128 _ (kwin5 c |>.view.read (Elt F) fk))) (congrArg kvVal (arrived k32M (Rect.unit (s := S8x1024x128) ![6, 0, 0] S1x1024x128.size inb_S8x1024x128_S1x1024x128_6_0_0) (fun _ => rfl) squeezes_S1x1024x128_S1024x128 shapeCasts_S1x1024x128_S1024x128 _ (kwin6 c |>.view.read (Elt F) fk))) (congrArg kvVal (arrived k32M (Rect.unit (s := S8x1024x128) ![7, 0, 0] S1x1024x128.size inb_S8x1024x128_S1x1024x128_7_0_0) (fun _ => rfl) squeezes_S1x1024x128_S1024x128 shapeCasts_S1x1024x128_S1024x128 _ (kwin7 c |>.view.read (Elt F) fk))),
      headRd_of vbM bv (fun h => kvVal ((vwin c h).view.read (Elt F) fv)) (congrArg kvVal (arrived v32M (Rect.unit (s := S8x1024x128) ![0, 0, 0] S1x1024x128.size inb_S8x1024x128_S1x1024x128_0_0_0) (fun _ => rfl) squeezes_S1x1024x128_S1024x128 shapeCasts_S1x1024x128_S1024x128 _ (vwin0 c |>.view.read (Elt F) fv))) (congrArg kvVal (arrived v32M (Rect.unit (s := S8x1024x128) ![1, 0, 0] S1x1024x128.size inb_S8x1024x128_S1x1024x128_1_0_0) (fun _ => rfl) squeezes_S1x1024x128_S1024x128 shapeCasts_S1x1024x128_S1024x128 _ (vwin1 c |>.view.read (Elt F) fv))) (congrArg kvVal (arrived v32M (Rect.unit (s := S8x1024x128) ![2, 0, 0] S1x1024x128.size inb_S8x1024x128_S1x1024x128_2_0_0) (fun _ => rfl) squeezes_S1x1024x128_S1024x128 shapeCasts_S1x1024x128_S1024x128 _ (vwin2 c |>.view.read (Elt F) fv))) (congrArg kvVal (arrived v32M (Rect.unit (s := S8x1024x128) ![3, 0, 0] S1x1024x128.size inb_S8x1024x128_S1x1024x128_3_0_0) (fun _ => rfl) squeezes_S1x1024x128_S1024x128 shapeCasts_S1x1024x128_S1024x128 _ (vwin3 c |>.view.read (Elt F) fv))) (congrArg kvVal (arrived v32M (Rect.unit (s := S8x1024x128) ![4, 0, 0] S1x1024x128.size inb_S8x1024x128_S1x1024x128_4_0_0) (fun _ => rfl) squeezes_S1x1024x128_S1024x128 shapeCasts_S1x1024x128_S1024x128 _ (vwin4 c |>.view.read (Elt F) fv))) (congrArg kvVal (arrived v32M (Rect.unit (s := S8x1024x128) ![5, 0, 0] S1x1024x128.size inb_S8x1024x128_S1x1024x128_5_0_0) (fun _ => rfl) squeezes_S1x1024x128_S1024x128 shapeCasts_S1x1024x128_S1024x128 _ (vwin5 c |>.view.read (Elt F) fv))) (congrArg kvVal (arrived v32M (Rect.unit (s := S8x1024x128) ![6, 0, 0] S1x1024x128.size inb_S8x1024x128_S1x1024x128_6_0_0) (fun _ => rfl) squeezes_S1x1024x128_S1024x128 shapeCasts_S1x1024x128_S1024x128 _ (vwin6 c |>.view.read (Elt F) fv))) (congrArg kvVal (arrived v32M (Rect.unit (s := S8x1024x128) ![7, 0, 0] S1x1024x128.size inb_S8x1024x128_S1x1024x128_7_0_0) (fun _ => rfl) squeezes_S1x1024x128_S1024x128 shapeCasts_S1x1024x128_S1024x128 _ (vwin7 c |>.view.read (Elt F) fv)))⟩

end Cert.KernelIdeal.Run

end

end
-- ==== Proof.Split.lean ====
module

public import proofs.«01_k».proof.Proof.Heads
public import Idealize.ShloMosaic.Lib.Ring

/-!
The buffers that are used slot by slot, split into their slots at the start and put together at the end.

-/

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-- Sets of a three-axis box's elements, one for each first coordinate, are disjoint and cover it. -/
theorem rows_disjoint {n a b : ℕ} (I : Fin n → Finset (⟨3, ![n, a, b]⟩ : Shape).Idx)
    (hI : ∀ h i, i ∈ I h ↔ (i 0).val = h.val) : ∀ h h', h ≠ h' → Disjoint (I h) (I h') := fun h h' hn =>
  Finset.disjoint_left.mpr fun i hi hi' => hn (Fin.ext (((hI h i).mp hi).symm.trans ((hI h' i).mp hi')))
theorem rows_cover {n a b : ℕ} (I : Fin n → Finset (⟨3, ![n, a, b]⟩ : Shape).Idx)
    (hI : ∀ h i, i ∈ I h ↔ (i 0).val = h.val) : Finset.univ.biUnion I = Finset.univ :=
  Finset.eq_univ_of_forall fun i => Finset.mem_biUnion.mpr ⟨i 0, Finset.mem_univ _, (hI _ i).mpr rfl⟩

/-- The rows at first coordinate `h`. -/
theorem mem_row {n a b : ℕ} {h : ℕ} {inb} (i : (⟨3, ![n, a, b]⟩ : Shape).Idx) :
    i ∈ (Rect.unit (s := ⟨3, ![n, a, b]⟩) ![h, 0, 0] ![1, a, b] inb).set ↔ (i 0).val = h := by
  rw [Rect.mem_set_unit]
  constructor
  · intro H
    have h0 := H 0
    simp only [Matrix.cons_val_zero] at h0
    omega
  · intro H x
    have h1 := (i 1).isLt
    have h2 := (i 2).isLt
    fin_cases x
    · exact ⟨le_of_eq H.symm, by show (i 0).val < h + 1; omega⟩
    · exact ⟨Nat.zero_le _, by show (i 1).val < 0 + a; rw [Nat.zero_add]; exact h1⟩
    · exact ⟨Nat.zero_le _, by show (i 2).val < 0 + b; rw [Nat.zero_add]; exact h2⟩

/-- The slots of the gathered blocks. -/
def agI (h : Fin 4) : Finset agM.view.ty.Idx := match h with | 0 => ag0.view.set | 1 => ag1.view.set | 2 => ag2.view.set | 3 => ag3.view.set

theorem agI_mem (h : Fin 4) (i : agM.view.ty.Idx) : i ∈ agI h ↔ (i 0).val = h.val := by
  fin_cases h
  · show i ∈ ag0.view.set ↔ _; exact (Finset.ext_iff.mp ((Memref.set_view_squeeze _ _).trans (View.set_slice_whole cc0_scratch0 _)) i).trans (mem_row i)
  · show i ∈ ag1.view.set ↔ _; exact (Finset.ext_iff.mp ((Memref.set_view_squeeze _ _).trans (View.set_slice_whole cc0_scratch0 _)) i).trans (mem_row i)
  · show i ∈ ag2.view.set ↔ _; exact (Finset.ext_iff.mp ((Memref.set_view_squeeze _ _).trans (View.set_slice_whole cc0_scratch0 _)) i).trans (mem_row i)
  · show i ∈ ag3.view.set ↔ _; exact (Finset.ext_iff.mp ((Memref.set_view_squeeze _ _).trans (View.set_slice_whole cc0_scratch0 _)) i).trans (mem_row i)

theorem split_ag (c : Dev nD) (f : Buf (Elt F) ((c : Thread nD τ).loc cc0_scratch0)) :
    (((c : Thread nD τ).loc cc0_scratch0) ↦{fullShare} f : sProp 𝕄)
      = iprop((ag0.view.loc (c : Thread nD τ) ↦[ag0.view.set]{fullShare} f) ∗ (ag1.view.loc (c : Thread nD τ) ↦[ag1.view.set]{fullShare} f) ∗ (ag2.view.loc (c : Thread nD τ) ↦[ag2.view.set]{fullShare} f) ∗ (ag3.view.loc (c : Thread nD τ) ↦[ag3.view.set]{fullShare} f)) := by
  rw [Ring.pointsTo_blocks (ℓ := (c : Thread nD τ).loc cc0_scratch0) agI (rows_disjoint agI agI_mem) (rows_cover agI agI_mem) f,
    bigSep_univ_eq_bigSepL [0, 1, 2, 3] (by decide) (by decide)]; rfl

theorem join_ag (c : Dev nD) (fs : Fin 4 → Buf (Elt F) ((c : Thread nD τ).loc cc0_scratch0)) :
    iprop((ag0.view.loc (c : Thread nD τ) ↦[ag0.view.set]{fullShare} (fs 0)) ∗ (ag1.view.loc (c : Thread nD τ) ↦[ag1.view.set]{fullShare} (fs 1)) ∗ (ag2.view.loc (c : Thread nD τ) ↦[ag2.view.set]{fullShare} (fs 2)) ∗ (ag3.view.loc (c : Thread nD τ) ↦[ag3.view.set]{fullShare} (fs 3))) ⊢ (iprop(∃ f, ((c : Thread nD τ).loc cc0_scratch0) ↦{fullShare} f) : sProp 𝕄) := by
  refine Entails.trans (Entails.of_eq ?_) (Ring.pointsTo_blocks_join (ℓ := (c : Thread nD τ).loc cc0_scratch0) agI (rows_disjoint agI agI_mem) (rows_cover agI agI_mem) fs (fs 0))
  rw [bigSep_univ_eq_bigSepL [0, 1, 2, 3] (by decide) (by decide)]; rfl

/-- The slots of the sums that are sent. -/
def sgI (h : Fin 3) : Finset sgM.view.ty.Idx := match h with | 0 => sg0.view.set | 1 => sg1.view.set | 2 => sg2.view.set

theorem sgI_mem (h : Fin 3) (i : sgM.view.ty.Idx) : i ∈ sgI h ↔ (i 0).val = h.val := by
  fin_cases h
  · show i ∈ sg0.view.set ↔ _; exact (Finset.ext_iff.mp ((Memref.set_view_squeeze _ _).trans (View.set_slice_whole cc0_scratch2 _)) i).trans (mem_row i)
  · show i ∈ sg1.view.set ↔ _; exact (Finset.ext_iff.mp ((Memref.set_view_squeeze _ _).trans (View.set_slice_whole cc0_scratch2 _)) i).trans (mem_row i)
  · show i ∈ sg2.view.set ↔ _; exact (Finset.ext_iff.mp ((Memref.set_view_squeeze _ _).trans (View.set_slice_whole cc0_scratch2 _)) i).trans (mem_row i)

theorem split_sg (c : Dev nD) (f : Buf (Elt F) ((c : Thread nD τ).loc cc0_scratch2)) :
    (((c : Thread nD τ).loc cc0_scratch2) ↦{fullShare} f : sProp 𝕄)
      = iprop((sg0.view.loc (c : Thread nD τ) ↦[sg0.view.set]{fullShare} f) ∗ (sg1.view.loc (c : Thread nD τ) ↦[sg1.view.set]{fullShare} f) ∗ (sg2.view.loc (c : Thread nD τ) ↦[sg2.view.set]{fullShare} f)) := by
  rw [Ring.pointsTo_blocks (ℓ := (c : Thread nD τ).loc cc0_scratch2) sgI (rows_disjoint sgI sgI_mem) (rows_cover sgI sgI_mem) f,
    bigSep_univ_eq_bigSepL [0, 1, 2] (by decide) (by decide)]; rfl

theorem join_sg (c : Dev nD) (fs : Fin 3 → Buf (Elt F) ((c : Thread nD τ).loc cc0_scratch2)) :
    iprop((sg0.view.loc (c : Thread nD τ) ↦[sg0.view.set]{fullShare} (fs 0)) ∗ (sg1.view.loc (c : Thread nD τ) ↦[sg1.view.set]{fullShare} (fs 1)) ∗ (sg2.view.loc (c : Thread nD τ) ↦[sg2.view.set]{fullShare} (fs 2))) ⊢ (iprop(∃ f, ((c : Thread nD τ).loc cc0_scratch2) ↦{fullShare} f) : sProp 𝕄) := by
  refine Entails.trans (Entails.of_eq ?_) (Ring.pointsTo_blocks_join (ℓ := (c : Thread nD τ).loc cc0_scratch2) sgI (rows_disjoint sgI sgI_mem) (rows_cover sgI sgI_mem) fs (fs 0))
  rw [bigSep_univ_eq_bigSepL [0, 1, 2] (by decide) (by decide)]; rfl

/-- The slots of the sums that arrive. -/
def rvI (h : Fin 3) : Finset rvM.view.ty.Idx := match h with | 0 => rv0.view.set | 1 => rv1.view.set | 2 => rv2.view.set

theorem rvI_mem (h : Fin 3) (i : rvM.view.ty.Idx) : i ∈ rvI h ↔ (i 0).val = h.val := by
  fin_cases h
  · show i ∈ rv0.view.set ↔ _; exact (Finset.ext_iff.mp ((Memref.set_view_squeeze _ _).trans (View.set_slice_whole cc0_scratch3 _)) i).trans (mem_row i)
  · show i ∈ rv1.view.set ↔ _; exact (Finset.ext_iff.mp ((Memref.set_view_squeeze _ _).trans (View.set_slice_whole cc0_scratch3 _)) i).trans (mem_row i)
  · show i ∈ rv2.view.set ↔ _; exact (Finset.ext_iff.mp ((Memref.set_view_squeeze _ _).trans (View.set_slice_whole cc0_scratch3 _)) i).trans (mem_row i)

theorem split_rv (c : Dev nD) (f : Buf (Elt F) ((c : Thread nD τ).loc cc0_scratch3)) :
    (((c : Thread nD τ).loc cc0_scratch3) ↦{fullShare} f : sProp 𝕄)
      = iprop((rv0.view.loc (c : Thread nD τ) ↦[rv0.view.set]{fullShare} f) ∗ (rv1.view.loc (c : Thread nD τ) ↦[rv1.view.set]{fullShare} f) ∗ (rv2.view.loc (c : Thread nD τ) ↦[rv2.view.set]{fullShare} f)) := by
  rw [Ring.pointsTo_blocks (ℓ := (c : Thread nD τ).loc cc0_scratch3) rvI (rows_disjoint rvI rvI_mem) (rows_cover rvI rvI_mem) f,
    bigSep_univ_eq_bigSepL [0, 1, 2] (by decide) (by decide)]; rfl

theorem join_rv (c : Dev nD) (fs : Fin 3 → Buf (Elt F) ((c : Thread nD τ).loc cc0_scratch3)) :
    iprop((rv0.view.loc (c : Thread nD τ) ↦[rv0.view.set]{fullShare} (fs 0)) ∗ (rv1.view.loc (c : Thread nD τ) ↦[rv1.view.set]{fullShare} (fs 1)) ∗ (rv2.view.loc (c : Thread nD τ) ↦[rv2.view.set]{fullShare} (fs 2))) ⊢ (iprop(∃ f, ((c : Thread nD τ).loc cc0_scratch3) ↦{fullShare} f) : sProp 𝕄) := by
  refine Entails.trans (Entails.of_eq ?_) (Ring.pointsTo_blocks_join (ℓ := (c : Thread nD τ).loc cc0_scratch3) rvI (rows_disjoint rvI rvI_mem) (rows_cover rvI rvI_mem) fs (fs 0))
  rw [bigSep_univ_eq_bigSepL [0, 1, 2] (by decide) (by decide)]; rfl

/-- The slots of the arrived heads of the keys. -/
def kI (h : Fin 8) : Finset k32M.view.ty.Idx := match h with | 0 => ks0.view.set | 1 => ks1.view.set | 2 => ks2.view.set | 3 => ks3.view.set | 4 => ks4.view.set | 5 => ks5.view.set | 6 => ks6.view.set | 7 => ks7.view.set

theorem kI_mem (h : Fin 8) (i : k32M.view.ty.Idx) : i ∈ kI h ↔ (i 0).val = h.val := by
  fin_cases h
  · show i ∈ ks0.view.set ↔ _; exact (Finset.ext_iff.mp ((Memref.set_view_squeeze _ _).trans (View.set_slice_whole cc0_scratch5 _)) i).trans (mem_row i)
  · show i ∈ ks1.view.set ↔ _; exact (Finset.ext_iff.mp ((Memref.set_view_squeeze _ _).trans (View.set_slice_whole cc0_scratch5 _)) i).trans (mem_row i)
  · show i ∈ ks2.view.set ↔ _; exact (Finset.ext_iff.mp ((Memref.set_view_squeeze _ _).trans (View.set_slice_whole cc0_scratch5 _)) i).trans (mem_row i)
  · show i ∈ ks3.view.set ↔ _; exact (Finset.ext_iff.mp ((Memref.set_view_squeeze _ _).trans (View.set_slice_whole cc0_scratch5 _)) i).trans (mem_row i)
  · show i ∈ ks4.view.set ↔ _; exact (Finset.ext_iff.mp ((Memref.set_view_squeeze _ _).trans (View.set_slice_whole cc0_scratch5 _)) i).trans (mem_row i)
  · show i ∈ ks5.view.set ↔ _; exact (Finset.ext_iff.mp ((Memref.set_view_squeeze _ _).trans (View.set_slice_whole cc0_scratch5 _)) i).trans (mem_row i)
  · show i ∈ ks6.view.set ↔ _; exact (Finset.ext_iff.mp ((Memref.set_view_squeeze _ _).trans (View.set_slice_whole cc0_scratch5 _)) i).trans (mem_row i)
  · show i ∈ ks7.view.set ↔ _; exact (Finset.ext_iff.mp ((Memref.set_view_squeeze _ _).trans (View.set_slice_whole cc0_scratch5 _)) i).trans (mem_row i)

theorem split_k (c : Dev nD) (f : Buf (Elt F) ((c : Thread nD τ).loc cc0_scratch5)) :
    (((c : Thread nD τ).loc cc0_scratch5) ↦{fullShare} f : sProp 𝕄)
      = iprop((ks0.view.loc (c : Thread nD τ) ↦[ks0.view.set]{fullShare} f) ∗ (ks1.view.loc (c : Thread nD τ) ↦[ks1.view.set]{fullShare} f) ∗ (ks2.view.loc (c : Thread nD τ) ↦[ks2.view.set]{fullShare} f) ∗ (ks3.view.loc (c : Thread nD τ) ↦[ks3.view.set]{fullShare} f) ∗ (ks4.view.loc (c : Thread nD τ) ↦[ks4.view.set]{fullShare} f) ∗ (ks5.view.loc (c : Thread nD τ) ↦[ks5.view.set]{fullShare} f) ∗ (ks6.view.loc (c : Thread nD τ) ↦[ks6.view.set]{fullShare} f) ∗ (ks7.view.loc (c : Thread nD τ) ↦[ks7.view.set]{fullShare} f)) := by
  rw [Ring.pointsTo_blocks (ℓ := (c : Thread nD τ).loc cc0_scratch5) kI (rows_disjoint kI kI_mem) (rows_cover kI kI_mem) f,
    bigSep_univ_eq_bigSepL [0, 1, 2, 3, 4, 5, 6, 7] (by decide) (by decide)]; rfl

theorem join_k (c : Dev nD) (fs : Fin 8 → Buf (Elt F) ((c : Thread nD τ).loc cc0_scratch5)) :
    iprop((ks0.view.loc (c : Thread nD τ) ↦[ks0.view.set]{fullShare} (fs 0)) ∗ (ks1.view.loc (c : Thread nD τ) ↦[ks1.view.set]{fullShare} (fs 1)) ∗ (ks2.view.loc (c : Thread nD τ) ↦[ks2.view.set]{fullShare} (fs 2)) ∗ (ks3.view.loc (c : Thread nD τ) ↦[ks3.view.set]{fullShare} (fs 3)) ∗ (ks4.view.loc (c : Thread nD τ) ↦[ks4.view.set]{fullShare} (fs 4)) ∗ (ks5.view.loc (c : Thread nD τ) ↦[ks5.view.set]{fullShare} (fs 5)) ∗ (ks6.view.loc (c : Thread nD τ) ↦[ks6.view.set]{fullShare} (fs 6)) ∗ (ks7.view.loc (c : Thread nD τ) ↦[ks7.view.set]{fullShare} (fs 7))) ⊢ (iprop(∃ f, ((c : Thread nD τ).loc cc0_scratch5) ↦{fullShare} f) : sProp 𝕄) := by
  refine Entails.trans (Entails.of_eq ?_) (Ring.pointsTo_blocks_join (ℓ := (c : Thread nD τ).loc cc0_scratch5) kI (rows_disjoint kI kI_mem) (rows_cover kI kI_mem) fs (fs 0))
  rw [bigSep_univ_eq_bigSepL [0, 1, 2, 3, 4, 5, 6, 7] (by decide) (by decide)]; rfl

/-- The slots of the arrived heads of the values. -/
def vI (h : Fin 8) : Finset v32M.view.ty.Idx := match h with | 0 => vs0.view.set | 1 => vs1.view.set | 2 => vs2.view.set | 3 => vs3.view.set | 4 => vs4.view.set | 5 => vs5.view.set | 6 => vs6.view.set | 7 => vs7.view.set

theorem vI_mem (h : Fin 8) (i : v32M.view.ty.Idx) : i ∈ vI h ↔ (i 0).val = h.val := by
  fin_cases h
  · show i ∈ vs0.view.set ↔ _; exact (Finset.ext_iff.mp ((Memref.set_view_squeeze _ _).trans (View.set_slice_whole cc0_scratch6 _)) i).trans (mem_row i)
  · show i ∈ vs1.view.set ↔ _; exact (Finset.ext_iff.mp ((Memref.set_view_squeeze _ _).trans (View.set_slice_whole cc0_scratch6 _)) i).trans (mem_row i)
  · show i ∈ vs2.view.set ↔ _; exact (Finset.ext_iff.mp ((Memref.set_view_squeeze _ _).trans (View.set_slice_whole cc0_scratch6 _)) i).trans (mem_row i)
  · show i ∈ vs3.view.set ↔ _; exact (Finset.ext_iff.mp ((Memref.set_view_squeeze _ _).trans (View.set_slice_whole cc0_scratch6 _)) i).trans (mem_row i)
  · show i ∈ vs4.view.set ↔ _; exact (Finset.ext_iff.mp ((Memref.set_view_squeeze _ _).trans (View.set_slice_whole cc0_scratch6 _)) i).trans (mem_row i)
  · show i ∈ vs5.view.set ↔ _; exact (Finset.ext_iff.mp ((Memref.set_view_squeeze _ _).trans (View.set_slice_whole cc0_scratch6 _)) i).trans (mem_row i)
  · show i ∈ vs6.view.set ↔ _; exact (Finset.ext_iff.mp ((Memref.set_view_squeeze _ _).trans (View.set_slice_whole cc0_scratch6 _)) i).trans (mem_row i)
  · show i ∈ vs7.view.set ↔ _; exact (Finset.ext_iff.mp ((Memref.set_view_squeeze _ _).trans (View.set_slice_whole cc0_scratch6 _)) i).trans (mem_row i)

theorem split_v (c : Dev nD) (f : Buf (Elt F) ((c : Thread nD τ).loc cc0_scratch6)) :
    (((c : Thread nD τ).loc cc0_scratch6) ↦{fullShare} f : sProp 𝕄)
      = iprop((vs0.view.loc (c : Thread nD τ) ↦[vs0.view.set]{fullShare} f) ∗ (vs1.view.loc (c : Thread nD τ) ↦[vs1.view.set]{fullShare} f) ∗ (vs2.view.loc (c : Thread nD τ) ↦[vs2.view.set]{fullShare} f) ∗ (vs3.view.loc (c : Thread nD τ) ↦[vs3.view.set]{fullShare} f) ∗ (vs4.view.loc (c : Thread nD τ) ↦[vs4.view.set]{fullShare} f) ∗ (vs5.view.loc (c : Thread nD τ) ↦[vs5.view.set]{fullShare} f) ∗ (vs6.view.loc (c : Thread nD τ) ↦[vs6.view.set]{fullShare} f) ∗ (vs7.view.loc (c : Thread nD τ) ↦[vs7.view.set]{fullShare} f)) := by
  rw [Ring.pointsTo_blocks (ℓ := (c : Thread nD τ).loc cc0_scratch6) vI (rows_disjoint vI vI_mem) (rows_cover vI vI_mem) f,
    bigSep_univ_eq_bigSepL [0, 1, 2, 3, 4, 5, 6, 7] (by decide) (by decide)]; rfl

theorem join_v (c : Dev nD) (fs : Fin 8 → Buf (Elt F) ((c : Thread nD τ).loc cc0_scratch6)) :
    iprop((vs0.view.loc (c : Thread nD τ) ↦[vs0.view.set]{fullShare} (fs 0)) ∗ (vs1.view.loc (c : Thread nD τ) ↦[vs1.view.set]{fullShare} (fs 1)) ∗ (vs2.view.loc (c : Thread nD τ) ↦[vs2.view.set]{fullShare} (fs 2)) ∗ (vs3.view.loc (c : Thread nD τ) ↦[vs3.view.set]{fullShare} (fs 3)) ∗ (vs4.view.loc (c : Thread nD τ) ↦[vs4.view.set]{fullShare} (fs 4)) ∗ (vs5.view.loc (c : Thread nD τ) ↦[vs5.view.set]{fullShare} (fs 5)) ∗ (vs6.view.loc (c : Thread nD τ) ↦[vs6.view.set]{fullShare} (fs 6)) ∗ (vs7.view.loc (c : Thread nD τ) ↦[vs7.view.set]{fullShare} (fs 7))) ⊢ (iprop(∃ f, ((c : Thread nD τ).loc cc0_scratch6) ↦{fullShare} f) : sProp 𝕄) := by
  refine Entails.trans (Entails.of_eq ?_) (Ring.pointsTo_blocks_join (ℓ := (c : Thread nD τ).loc cc0_scratch6) vI (rows_disjoint vI vI_mem) (rows_cover vI vI_mem) fs (fs 0))
  rw [bigSep_univ_eq_bigSepL [0, 1, 2, 3, 4, 5, 6, 7] (by decide) (by decide)]; rfl

end Cert.KernelIdeal.Run

end

end
-- ==== Proof.Body.lean ====
module

public import proofs.«01_k».proof.Proof.Comm
public import proofs.«01_k».proof.Proof.Small
public import proofs.«01_k».proof.Proof.Weights
public import proofs.«01_k».proof.Proof.Heads
public import proofs.«01_k».proof.Proof.Split
public import Idealize.ShloMosaic.Lib.MemrefSat

/-!
The body of one device, symbolic, from what it is launched with to what it leaves: stretch by stretch.

-/

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

/-! ## The values -/

/-- A device's block of `x`, as the pipeline stages it. -/
def xstg (c : Dev nD) : (cc0_stg0_0 : Ref sig .tc).ty.Contents (Elt F) :=
  (win0_0.blk (0 : Fin 1)).view.read (Elt F) (m ((c : Thread nD τ).loc main_arg0))
/-- The same, converted: what the device sends to all. -/
def Xv (c : Dev nD) : FVec F S256x1024 .bf16 :=
  truncf .bf16 (shapeCast S256x1024 (xM.view.read (Elt F) (xstg m c) : FVec F S1x256x1024 .f32) shapeCasts_S1x256x1024_S256x1024)
/-- The weights, converted. -/
def wqV (c : Dev nD) : FVec F S1024x1024 .bf16 := k0_pay2 (wqH.view.read (Elt F) (m (wqH.view.loc (c : Thread nD τ))))
def woV (c : Dev nD) : FVec F S1024x1024 .bf16 := k0_pay21 (woH.view.read (Elt F) (m (woH.view.loc (c : Thread nD τ))))
/-- The heads of the caches, converted. -/
def kbV (c : Dev nD) (h : Fin 8) : Vec F S1x1024x128 .bf16 := kvVal ((kwin c h).view.read (Elt F) (m (kH.view.loc (c : Thread nD τ))))
def vbV (c : Dev nD) (h : Fin 8) : Vec F S1x1024x128 .bf16 := kvVal ((vwin c h).view.read (Elt F) (m (vH.view.loc (c : Thread nD τ))))
/-- Device `c`'s share of the sum for the block at hand, under one of its four masks. -/
def shareV (c : Dev nD) (x : FVec F S256x1024 .bf16) (i : Fin 4) : FVec F S256x1024 .f32 :=
  partVal x (wqV m c) (maskVal c i) (kbV m c) (vbV m c) (woV m c)
/-- What it sends on its three channels of sums. -/
def Yv (i : Fin 3) (c : Dev nD) : FVec F S256x1024 .bf16 := match i with
  | 0 => truncf .bf16 (shareV m c (Xv m (frm 1 c)) 2) bitsLt_bf16_f32
  | 1 => truncf .bf16 (shareV m c (Xv m (frm 0 c)) 1) bitsLt_bf16_f32
  | 2 => truncf .bf16 (shareV m c (Xv m (frm 2 c)) 3) bitsLt_bf16_f32
/-- Its result. -/
def outV (c : Dev nD) : FVec F S256x1024 .bf16 :=
  sumVal (shareV m c (Xv m c) 0) (Yv m 0 (frm 0 c)) (Yv m 1 (frm 1 c)) (Yv m 2 (frm 2 c))

/-! ## What is held -/

/-- A buffer at any contents. -/
def anyAt (c : Dev nD) {sp : Space} {s : Shape} {e : EltTy} (M : Memref sig .tc sp s e) : sProp 𝕄 :=
  iprop(∃ f, (M.view.loc (c : Thread nD τ) ↦[M.view.set]{fullShare} f))

omit [FloatOps F] [Named F] in
theorem anyAt_intro (c : Dev nD) {sp : Space} {s : Shape} {e : EltTy} (M : Memref sig .tc sp s e) (f : Buf (Elt F) (M.view.loc (c : Thread nD τ))) :
    (M.view.loc (c : Thread nD τ) ↦[M.view.set]{fullShare} f : sProp 𝕄) ⊢ anyAt c M := by
  unfold anyAt; iintro H; iexists f; iexact H
omit [FloatOps F] [Named F] in
theorem anyAt_owns (c : Dev nD) {sp : Space} {s : Shape} {e : EltTy} (M : Memref sig .tc sp s e) :
    (anyAt c M : sProp 𝕄) ⊢ iprop(∃ w, owns (c : Thread nD τ) M fullShare w) := by
  unfold anyAt; iintro ⟨%f, H⟩; iexists (M.view.read (Elt F) f); iapply (owns_intro (c : Thread nD τ) M fullShare f); iexact H
omit [FloatOps F] [Named F] in
theorem owns_anyAt (c : Dev nD) {sp : Space} {s : Shape} {e : EltTy} (M : Memref sig .tc sp s e) (w : s.Idx → Elt F e) :
    (owns (c : Thread nD τ) M fullShare w : sProp 𝕄) ⊢ anyAt c M := by
  unfold owns anyAt; iintro ⟨%f, -, H⟩; iexists f; iexact H
omit [FloatOps F] [Named F] in
theorem owns_open (c : Dev nD) {sp : Space} {s : Shape} {e : EltTy} (M : Memref sig .tc sp s e) (q : PosShare TreeShare) (w : s.Idx → Elt F e) :
    (owns (c : Thread nD τ) M q w : sProp 𝕄) ⊢ iprop(∃ f, ⌜M.view.read (Elt F) f = w⌝ ∗ (M.view.loc (c : Thread nD τ) ↦[M.view.set]{q} f)) := .rfl
omit [FloatOps F] [Named F] in
theorem owns_close (c : Dev nD) {sp : Space} {s : Shape} {e : EltTy} (M : Memref sig .tc sp s e) (q : PosShare TreeShare) {w : s.Idx → Elt F e}
    {f : Buf (Elt F) (M.view.loc (c : Thread nD τ))} (h : M.view.read (Elt F) f = w) :
    (M.view.loc (c : Thread nD τ) ↦[M.view.set]{q} f : sProp 𝕄) ⊢ owns (c : Thread nD τ) M q w := by
  rw [← h]; exact owns_intro _ _ _ _

/-- The own block in four shares: one for each channel, one to keep. -/
theorem own_shares (c : Dev nD) (w : FVec F S256x1024 .bf16) :
    (owns (c : Thread nD τ) ag0 fullShare w : sProp 𝕄)
      ⊢ iprop(owns (c : Thread nD τ) ag0 (agQ 0) w ∗ owns (c : Thread nD τ) ag0 (agQ 1) w ∗ owns (c : Thread nD τ) ag0 (agQ 2) w ∗ owns (c : Thread nD τ) ag0 keepQ w) := by
  iintro H
  ihave H := (owns_halves (c : Thread nD τ) ag0 fullShare w).1 $$ H
  icases H with ⟨Hl, Hr⟩
  ihave Hl := (owns_halves (c : Thread nD τ) ag0 fullShare.left w).1 $$ Hl
  ihave Hr := (owns_halves (c : Thread nD τ) ag0 fullShare.right w).1 $$ Hr
  icases Hl with ⟨H0, H1⟩
  icases Hr with ⟨H2, H3⟩
  isplitl [H0]; · iexact H0
  isplitl [H1]; · iexact H1
  isplitl [H2]; · iexact H2
  iexact H3
theorem own_rejoin (c : Dev nD) (w : FVec F S256x1024 .bf16) :
    iprop(owns (c : Thread nD τ) ag0 (agQ 0) w ∗ owns (c : Thread nD τ) ag0 (agQ 1) w ∗ owns (c : Thread nD τ) ag0 (agQ 2) w ∗ owns (c : Thread nD τ) ag0 keepQ w)
      ⊢ (owns (c : Thread nD τ) ag0 fullShare w : sProp 𝕄) := by
  iintro ⟨H0, H1, H2, H3⟩
  iapply (owns_halves (c : Thread nD τ) ag0 fullShare w).2
  isplitl [H0 H1]
  · iapply (owns_halves (c : Thread nD τ) ag0 fullShare.left w).2
    isplitl [H0]; · iexact H0
    iexact H1
  · iapply (owns_halves (c : Thread nD τ) ag0 fullShare.right w).2
    isplitl [H2]; · iexact H2
    iexact H3

/-- A device's positions at its cells' round `r`. -/
def marks (r : ℕ) (c : Dev nD) : sProp 𝕄 :=
  iprop(atPos ER (barCell c) r ∅ 0 ∗ atPos ER (chCell 0 c) r ∅ 0 ∗ atPos ER (chCell 1 c) r ∅ 0 ∗ atPos ER (chCell 2 c) r ∅ 0 ∗ atPos ER (chCell 3 c) r ∅ 0 ∗ atPos ER (chCell 4 c) r ∅ 0 ∗ atPos ER (chCell 5 c) r ∅ 0 ∗ atPos ER (chCell 6 c) r ∅ 0 ∗ atPos ER (chCell 7 c) r ∅ 0 ∗ atPos ER (chCell 8 c) r ∅ 0 ∗ atPos ER (chCell 9 c) r ∅ 0 ∗ atPos ER (chCell 10 c) r ∅ 0 ∗ atPos ER (chCell 11 c) r ∅ 0)
/-- The duties it pays: its peers' barriers, their receiving cells, its own sending cells. -/
def payToks (c : Dev nD) : sProp 𝕄 :=
  iprop(dutyTok ER (barCell (frm 0 c)) 0 0 ∗ dutyTok ER (barCell (frm 1 c)) 0 1 ∗ dutyTok ER (barCell (frm 2 c)) 0 2
    ∗ dutyTok ER (chCell 3 (goto 0 c)) 0 0 ∗ dutyTok ER (chCell 4 (goto 1 c)) 0 0 ∗ dutyTok ER (chCell 5 (goto 2 c)) 0 0
    ∗ dutyTok ER (chCell 9 (goto 0 c)) 0 0 ∗ dutyTok ER (chCell 10 (goto 1 c)) 0 0 ∗ dutyTok ER (chCell 11 (goto 2 c)) 0 0
    ∗ dutyTok ER (chCell 0 c) 0 0 ∗ dutyTok ER (chCell 1 c) 0 0 ∗ dutyTok ER (chCell 2 c) 0 0
    ∗ dutyTok ER (chCell 6 c) 0 0 ∗ dutyTok ER (chCell 7 c) 0 0 ∗ dutyTok ER (chCell 8 c) 0 0)
/-- What it is credited at launch. -/
def launchCreds (c : Dev nD) : sProp 𝕄 :=
  iprop(cred (tallyAt (barCell c) () 3) ∗ cred (tallyAt (chCell 3 c) () N) ∗ cred (tallyAt (chCell 4 c) () N) ∗ cred (tallyAt (chCell 5 c) () N) ∗ cred (tallyAt (chCell 9 c) () N) ∗ cred (tallyAt (chCell 10 c) () N) ∗ cred (tallyAt (chCell 11 c) () N))
/-- Its arguments in main memory, the caches in one share for each copy of a head. -/
def localArgs (c : Dev nD) : sProp 𝕄 :=
  iprop(kSrc c (m (kH.view.loc (c : Thread nD τ))) ∗ vSrc c (m (vH.view.loc (c : Thread nD τ)))
    ∗ (wqH.view.loc (c : Thread nD τ) ↦[wqH.view.set]{fullShare} (m (wqH.view.loc (c : Thread nD τ)))) ∗ (woH.view.loc (c : Thread nD τ) ↦[woH.view.set]{fullShare} (m (woH.view.loc (c : Thread nD τ)))))
/-- The semaphores of its local copies, at zero. -/
def localSems (c : Dev nD) : sProp 𝕄 :=
  iprop(kSems c ∗ vSems c ∗ semVal ((c : Thread nD τ), lsem 30) 0 ∗ semVal ((c : Thread nD τ), lsem 31) 0)
/-- Its buffers that are used slot by slot. -/
def slots (c : Dev nD) : sProp 𝕄 :=
  iprop(anyAt c ag0 ∗ anyAt c ag1 ∗ anyAt c ag2 ∗ anyAt c ag3 ∗ anyAt c rv0 ∗ anyAt c rv1 ∗ anyAt c rv2 ∗ anyAt c sg0 ∗ anyAt c sg1 ∗ anyAt c sg2 ∗ (∃ g, kSlots c g) ∗ (∃ g, vSlots c g))
/-- The others. -/
def bufs (c : Dev nD) : sProp 𝕄 :=
  iprop(anyAt c ptM ∗ anyAt c cxM ∗ anyAt c kbM ∗ anyAt c vbM ∗ anyAt c wq32M ∗ anyAt c wo32M ∗ anyAt c wqM ∗ anyAt c woM ∗ anyAt c bsM)

/-- From what a device starts, -/
def bodyIn (K : Dev nD × Fin 13 → ℕ) (c : Dev nD) : sProp 𝕄 :=
  iprop(records (Xv m) (Yv m) K ∗ levAts L lv ∗ marks 0 c ∗ payToks c ∗ launchCreds c ∗ debt 0 c ∗ localArgs m c ∗ localSems c ∗ slots c ∗ bufs c
    ∗ (xM.view.loc (c : Thread nD τ) ↦[xM.view.set]{fullShare} (xstg m c)) ∗ anyAt c oM)
/-- and what it leaves. -/
def bodyOut (c : Dev nD) : sProp 𝕄 :=
  iprop(marks 1 c ∗ debt 9 c ∗ localArgs m c ∗ localSems c ∗ slots c ∗ bufs c ∗ (xM.view.loc (c : Thread nD τ) ↦[xM.view.set]{fullShare} (xstg m c)) ∗ owns (c : Thread nD τ) oM fullShare (outV m c))

omit [FloatOps F] [Named F] in
theorem mayWait_local (c : Dev nD) (s : Fin 32) (hs : 14 ≤ s.val) :
    (levAts L lv : sProp 𝕄) ⊢ MayWait (c : Thread nD τ) (SemLoc.dma (s : DmaSem sig)) default (owed 5 c) := by
  have h0 : lv ((c : Thread nD τ), SemLoc.dma (s : DmaSem sig)) () = 0 := by
    show (if 5 ≤ s.val ∧ s.val ≤ 7 then 2 else if 11 ≤ s.val ∧ s.val ≤ 13 then 3 else 0) = 0
    rw [if_neg (fun h => by omega), if_neg (fun h => by omega)]
  exact mayWait 5 c _ (by rw [h0]; clear h0; revert c; decide)

set_option maxHeartbeats 4000000 in
set_option maxRecDepth 65536 in
/-- The body. -/
theorem sound_flat (K : Dev nD × Fin 13 → ℕ) (c : Dev nD) (Q : PUnit → sProp 𝕄) :
    iprop(bodyIn m K c ∗ (bodyOut m c -∗ |={Set.univ}=> Q ⟨⟩)) ⊢ wpc c (flat xM (Memref.isWhole_whole _) wqH (Memref.isWhole_whole _) kH (Memref.isWhole_whole _) vH (Memref.isWhole_whole _) woH (Memref.isWhole_whole _) oM (Memref.isWhole_whole _) agM (Memref.isWhole_whole _) ptM (Memref.isWhole_whole _) sgM (Memref.isWhole_whole _) rvM (Memref.isWhole_whole _) cxM (Memref.isWhole_whole _) k32M (Memref.isWhole_whole _) v32M (Memref.isWhole_whole _) kbM (Memref.isWhole_whole _) vbM (Memref.isWhole_whole _) wq32M (Memref.isWhole_whole _) wo32M (Memref.isWhole_whole _) wqM (Memref.isWhole_whole _) woM (Memref.isWhole_whole _) bsM (Memref.isWhole_whole _) cc0_scratch14 cc0_scratch15 cc0_scratch16 cc0_scratch17 cc0_scratch18 cc0_scratch19) Q := by
  unfold bodyIn bodyOut marks payToks launchCreds localArgs localSems slots bufs
  iintro ⟨⟨#Hrec, #Hlev, ⟨AB, A0, A1, A2, A3, A4, A5, A6, A7, A8, A9, A10, A11⟩, ⟨TB0, TB1, TB2, R3, R4, R5, R9, R10, R11, S0, S1, S2, S6, S7, S8⟩, ⟨CB, C3, C4, C5, C9, C10, C11⟩, HO,
    ⟨Hks, Hvs, Hwq, Hwo⟩, ⟨Mk, Mv, M30, M31⟩, ⟨Ag0, Ag1, Ag2, Ag3, Rv0, Rv1, Rv2, Sg0, Sg1, Sg2, ⟨%gk, Gk⟩, ⟨%gv, Gv⟩⟩,
    ⟨Pt, Cx, Kb, Vb, Wq32, Wo32, Wqb, Wob, Bs⟩, Hx, Ho⟩, Hk⟩
  ihave Ag0 := (show anyAt c ag0 ⊢ iprop(∃ f, (ag0.view.loc (c : Thread nD τ) ↦[ag0.view.set]{fullShare} f)) from .rfl) $$ Ag0
  icases Ag0 with ⟨%a0, Ag0⟩
  ihave Sg0 := (show anyAt c sg0 ⊢ iprop(∃ f, (sg0.view.loc (c : Thread nD τ) ↦[sg0.view.set]{fullShare} f)) from .rfl) $$ Sg0
  icases Sg0 with ⟨%s0, Sg0⟩
  ihave Sg1 := (show anyAt c sg1 ⊢ iprop(∃ f, (sg1.view.loc (c : Thread nD τ) ↦[sg1.view.set]{fullShare} f)) from .rfl) $$ Sg1
  icases Sg1 with ⟨%s1, Sg1⟩
  ihave Sg2 := (show anyAt c sg2 ⊢ iprop(∃ f, (sg2.view.loc (c : Thread nD τ) ↦[sg2.view.set]{fullShare} f)) from .rfl) $$ Sg2
  icases Sg2 with ⟨%s2, Sg2⟩
  ihave Pt := (show anyAt c ptM ⊢ iprop(∃ f, (ptM.view.loc (c : Thread nD τ) ↦[ptM.view.set]{fullShare} f)) from .rfl) $$ Pt
  icases Pt with ⟨%p0, Pt⟩
  ihave Cx := (show anyAt c cxM ⊢ iprop(∃ f, (cxM.view.loc (c : Thread nD τ) ↦[cxM.view.set]{fullShare} f)) from .rfl) $$ Cx
  icases Cx with ⟨%c0, Cx⟩
  ihave Kb := (show anyAt c kbM ⊢ iprop(∃ f, (kbM.view.loc (c : Thread nD τ) ↦[kbM.view.set]{fullShare} f)) from .rfl) $$ Kb
  icases Kb with ⟨%kb0, Kb⟩
  ihave Vb := (show anyAt c vbM ⊢ iprop(∃ f, (vbM.view.loc (c : Thread nD τ) ↦[vbM.view.set]{fullShare} f)) from .rfl) $$ Vb
  icases Vb with ⟨%vb0, Vb⟩
  ihave Wq32 := (show anyAt c wq32M ⊢ iprop(∃ f, (wq32M.view.loc (c : Thread nD τ) ↦[wq32M.view.set]{fullShare} f)) from .rfl) $$ Wq32
  icases Wq32 with ⟨%wq0, Wq32⟩
  ihave Wo32 := (show anyAt c wo32M ⊢ iprop(∃ f, (wo32M.view.loc (c : Thread nD τ) ↦[wo32M.view.set]{fullShare} f)) from .rfl) $$ Wo32
  icases Wo32 with ⟨%wo0, Wo32⟩
  ihave Wqb := (show anyAt c wqM ⊢ iprop(∃ f, (wqM.view.loc (c : Thread nD τ) ↦[wqM.view.set]{fullShare} f)) from .rfl) $$ Wqb
  icases Wqb with ⟨%wq1, Wqb⟩
  ihave Wob := (show anyAt c woM ⊢ iprop(∃ f, (woM.view.loc (c : Thread nD τ) ↦[woM.view.set]{fullShare} f)) from .rfl) $$ Wob
  icases Wob with ⟨%wo1, Wob⟩
  ihave Bs := (show anyAt c bsM ⊢ iprop(∃ f, (bsM.view.loc (c : Thread nD τ) ↦[bsM.view.set]{fullShare} f)) from .rfl) $$ Bs
  icases Bs with ⟨%b0, Bs⟩
  ihave Ho := (show anyAt c oM ⊢ iprop(∃ f, (oM.view.loc (c : Thread nD τ) ↦[oM.view.set]{fullShare} f)) from .rfl) $$ Ho
  icases Ho with ⟨%o0, Ho⟩
  rw [st1.eq]
  iapply (starts c _ Q (m (wqH.view.loc (c : Thread nD τ))) (m (kH.view.loc (c : Thread nD τ))) (m (vH.view.loc (c : Thread nD τ))) (m (woH.view.loc (c : Thread nD τ))) wq0 gk gv wo0) $$ [Hks Gk Mk Hvs Gv Mv Hwq Wq32 M30 Hwo Wo32 M31]
  · isplitl [Hks]; · iexact Hks
    isplitl [Gk]; · iexact Gk
    isplitl [Mk]; · iexact Mk
    isplitl [Hvs]; · iexact Hvs
    isplitl [Gv]; · iexact Gv
    isplitl [Mv]; · iexact Mv
    isplitl [Hwq]; · iexact Hwq
    isplitl [Wq32]; · iexact Wq32
    isplitl [M30]; · iexact M30
    isplitl [Hwo]; · iexact Hwo
    isplitl [Wo32]; · iexact Wo32
    iexact M31
  iintro ⟨Uk, Uv, Uq, Uo⟩
  rw [st2.eq]
  ihave Ag1 := (anyAt_owns c ag1) $$ Ag1
  ihave Ag2 := (anyAt_owns c ag2) $$ Ag2
  ihave Ag3 := (anyAt_owns c ag3) $$ Ag3
  ihave Rv0 := (anyAt_owns c rv0) $$ Rv0
  ihave Rv1 := (anyAt_owns c rv1) $$ Rv1
  ihave Rv2 := (anyAt_owns c rv2) $$ Rv2
  iapply (handshake (Xv m) (Yv m) K c _ Q) $$ [Ag3 Ag1 Ag2 Rv0 Rv1 Rv2 HO TB0 TB1 TB2 CB AB]
  · isplitr; · iexact Hrec
    isplitr; · iexact Hlev
    isplitl [Ag3 Ag1 Ag2]
    · isplitl [Ag3]; · iexact Ag3
      isplitl [Ag1]; · iexact Ag1
      iexact Ag2
    isplitl [Rv0 Rv1 Rv2]
    · isplitl [Rv0]; · iexact Rv0
      isplitl [Rv1]; · iexact Rv1
      iexact Rv2
    isplitl [HO]; · iexact HO
    isplitl [TB0 TB1 TB2]
    · isplitl [TB0]; · iexact TB0
      isplitl [TB1]; · iexact TB1
      iexact TB2
    isplitl [CB]; · iexact CB
    iexact AB
  iintro ⟨HO, AB, P0, P1, P2⟩
  ihave P0 := (show (barPay 0 c : sProp 𝕄) ⊢ iprop((∃ w, owns (goto 0 c : Thread nD τ) ag3 fullShare w) ∗ (∃ w, owns (goto 0 c : Thread nD τ) rv0 fullShare w)) from .rfl) $$ P0
  icases P0 with ⟨Da0, Dr0⟩
  ihave P1 := (show (barPay 1 c : sProp 𝕄) ⊢ iprop((∃ w, owns (goto 1 c : Thread nD τ) ag1 fullShare w) ∗ (∃ w, owns (goto 1 c : Thread nD τ) rv1 fullShare w)) from .rfl) $$ P1
  icases P1 with ⟨Da1, Dr1⟩
  ihave P2 := (show (barPay 2 c : sProp 𝕄) ⊢ iprop((∃ w, owns (goto 2 c : Thread nD τ) ag2 fullShare w) ∗ (∃ w, owns (goto 2 c : Thread nD τ) rv2 fullShare w)) from .rfl) $$ P2
  icases P2 with ⟨Da2, Dr2⟩
  rw [st3.eq]
  iapply (load_x c _ Q fullShare (xstg m c) a0) $$ [Hx Ag0]
  · isplitl [Hx]; · iexact Hx
    iexact Ag0
  iintro %a1 ⟨%ha, Hx, Ag0⟩
  ihave Ag0 := (owns_close c ag0 fullShare (w := Xv m c) ha) $$ Ag0
  ihave Ag0 := (own_shares c (Xv m c)) $$ Ag0
  icases Ag0 with ⟨Q0, Q1, Q2, Q3⟩
  rw [st4.eq]
  iapply (send_near (Xv m) (Yv m) K c _ Q) $$ [HO Q0 Da0 S0 R3 Q1 Da1 S1 R4]
  · isplitr; · iexact Hrec
    isplitr; · iexact Hlev
    isplitl [HO]; · iexact HO
    isplitl [Q0 Da0 S0 R3]
    · isplitl [Q0]; · iexact Q0
      isplitl [Da0]; · iexact Da0
      isplitl [S0]; · iexact S0
      iexact R3
    isplitl [Q1]; · iexact Q1
    isplitl [Da1]; · iexact Da1
    isplitl [S1]; · iexact S1
    iexact R4
  iintro ⟨HO, C0, C1⟩
  rw [st5.eq]
  unfold debt
  icases HO with ⟨%W5, HO⟩
  iapply (conv_wq c _ Q (owed 5 c) W5 (levAts L lv) (mayWait_local c) (m (wqH.view.loc (c : Thread nD τ))) wq0 wq1) $$ [Uq Wqb HO]
  · isplitl [Uq]; · iexact Uq
    isplitl [Wqb]; · iexact Wqb
    isplitl [HO]; · iexact HO
    iexact Hlev
  iintro %wq2 %wqf %W6 ⟨%hwq, Hwq, Wq32, M30, Wqb, HO, -⟩
  obtain rfl : wqf = wqV m c := hwq
  rw [st6.eq, st7.eq]
  iapply (heads c _ Q (owed 5 c) W6 (levAts L lv) (mayWait_local c) (m (kH.view.loc (c : Thread nD τ))) (m (vH.view.loc (c : Thread nD τ))) gk gv kb0 vb0) $$ [Uk Uv Kb Vb HO]
  · isplitl [Uk]; · iexact Uk
    isplitl [Uv]; · iexact Uv
    isplitl [Kb]; · iexact Kb
    isplitl [Vb]; · iexact Vb
    isplitl [HO]; · iexact HO
    iexact Hlev
  iintro %gk1 %gv1 %kb1 %vb1 %W7 ⟨%hkv, Hks, Gk, Mk, Hvs, Gv, Mv, Kb, Vb, HO, -⟩
  have hkb : headRd kbM kb1 = kbV m c := funext hkv.1
  have hvb : headRd vbM vb1 = vbV m c := funext hkv.2
  rw [st8.eq]
  iapply (conv_wo c _ Q (owed 5 c) W7 (levAts L lv) (mayWait_local c) (m (woH.view.loc (c : Thread nD τ))) wo0 wo1) $$ [Uo Wob HO]
  · isplitl [Uo]; · iexact Uo
    isplitl [Wob]; · iexact Wob
    isplitl [HO]; · iexact HO
    iexact Hlev
  iintro %wo2 %wof %W8 ⟨%hwo, Hwo, Wo32, M31, Wob, HO, -⟩
  obtain rfl : wof = woV m c := hwo
  rw [st9.eq]
  iapply (masks c _ Q b0) $$ [Bs]
  · iexact Bs
  iintro %b1 ⟨%hb, Bs⟩
  rw [st10.eq]
  ihave HO := (show owes (c : Thread nD τ) (owed 5 c) W8 ⊢ (debt 5 c : sProp 𝕄) from by unfold debt; iintro H; iexists W8; iexact H) $$ HO
  iapply (send_far (Xv m) (Yv m) K c _ Q) $$ [HO Q2 Da2 S2 R5]
  · isplitr; · iexact Hrec
    isplitr; · iexact Hlev
    isplitl [HO]; · iexact HO
    isplitl [Q2]; · iexact Q2
    isplitl [Da2]; · iexact Da2
    isplitl [S2]; · iexact S2
    iexact R5
  iintro ⟨HO, C2⟩
  rw [st11.eq]
  iapply (await_left (Xv m) (Yv m) K c _ Q) $$ [HO C3 A3]
  · isplitr; · iexact Hrec
    isplitr; · iexact Hlev
    isplitl [HO]; · iexact HO
    isplitl [C3]; · iexact C3
    iexact A3
  iintro ⟨HO, A3, Ag3⟩
  ihave RO := (show iprop(_ ∗ _ ∗ _ ∗ _ ∗ _) ⊢ readOnly c (wqV m c) (woV m c) kb1 vb1 b1 from .rfl) $$ [Wqb Wob Kb Vb Bs]
  · isplitl [Wqb]; · iexact Wqb
    isplitl [Wob]; · iexact Wob
    isplitl [Kb]; · iexact Kb
    isplitl [Vb]; · iexact Vb
    iexact Bs
  rw [st12.eq]
  ihave Ag3 := (show chPay (Xv m) (Yv m) 5 c ⊢ (owns (c : Thread nD τ) ag3 fullShare (Xv m (frm 0 c)) : sProp 𝕄) from .rfl) $$ Ag3
  ihave Ag3 := (owns_open c ag3 fullShare (Xv m (frm 0 c))) $$ Ag3
  icases Ag3 with ⟨%f3, %hf3, Ag3⟩
  iapply (chunk3 c _ Q f3 (wqV m c) (woV m c) c0 kb1 vb1 b1 s1) $$ [Ag3 RO Cx Sg1]
  · isplitl [Ag3]; · iexact Ag3
    isplitl [RO]; · iexact RO
    isplitl [Cx]; · iexact Cx
    iexact Sg1
  iintro %c1 %t1 ⟨%ht1, Ag3, RO, Cx, Sg1⟩
  ihave Sg1 := (owns_close c sg1 fullShare (w := Yv m 1 c) (by rw [ht1, hf3, hkb, hvb, hb 1]; rfl)) $$ Sg1
  rw [st13.eq]
  iapply (send_sum1 (Xv m) (Yv m) K c _ Q) $$ [HO Sg1 Dr1 S7 R10 C4 A4]
  · isplitr; · iexact Hrec
    isplitr; · iexact Hlev
    isplitl [HO]; · iexact HO
    isplitl [Sg1 Dr1 S7 R10]
    · isplitl [Sg1]; · iexact Sg1
      isplitl [Dr1]; · iexact Dr1
      isplitl [S7]; · iexact S7
      iexact R10
    isplitl [C4]; · iexact C4
    iexact A4
  iintro ⟨HO, C7, A4, Ag1⟩
  rw [st14.eq]
  ihave Ag1 := (show chPay (Xv m) (Yv m) 6 c ⊢ (owns (c : Thread nD τ) ag1 fullShare (Xv m (frm 1 c)) : sProp 𝕄) from .rfl) $$ Ag1
  ihave Ag1 := (owns_open c ag1 fullShare (Xv m (frm 1 c))) $$ Ag1
  icases Ag1 with ⟨%f1, %hf1, Ag1⟩
  iapply (chunk1 c _ Q f1 (wqV m c) (woV m c) c1 kb1 vb1 b1 s0) $$ [Ag1 RO Cx Sg0]
  · isplitl [Ag1]; · iexact Ag1
    isplitl [RO]; · iexact RO
    isplitl [Cx]; · iexact Cx
    iexact Sg0
  iintro %c2 %t0 ⟨%ht0, Ag1, RO, Cx, Sg0⟩
  ihave Sg0 := (owns_close c sg0 fullShare (w := Yv m 0 c) (by rw [ht0, hf1, hkb, hvb, hb 2]; rfl)) $$ Sg0
  rw [st15.eq]
  iapply (send_sum0 (Xv m) (Yv m) K c _ Q) $$ [HO Sg0 Dr0 S6 R9 C5 A5]
  · isplitr; · iexact Hrec
    isplitr; · iexact Hlev
    isplitl [HO]; · iexact HO
    isplitl [Sg0 Dr0 S6 R9]
    · isplitl [Sg0]; · iexact Sg0
      isplitl [Dr0]; · iexact Dr0
      isplitl [S6]; · iexact S6
      iexact R9
    isplitl [C5]; · iexact C5
    iexact A5
  iintro ⟨HO, C6, A5, Ag2⟩
  rw [st16.eq]
  ihave Ag2 := (show chPay (Xv m) (Yv m) 7 c ⊢ (owns (c : Thread nD τ) ag2 fullShare (Xv m (frm 2 c)) : sProp 𝕄) from .rfl) $$ Ag2
  ihave Ag2 := (owns_open c ag2 fullShare (Xv m (frm 2 c))) $$ Ag2
  icases Ag2 with ⟨%f2, %hf2, Ag2⟩
  iapply (chunk2 c _ Q f2 (wqV m c) (woV m c) c2 kb1 vb1 b1 s2) $$ [Ag2 RO Cx Sg2]
  · isplitl [Ag2]; · iexact Ag2
    isplitl [RO]; · iexact RO
    isplitl [Cx]; · iexact Cx
    iexact Sg2
  iintro %c3 %t2 ⟨%ht2, Ag2, RO, Cx, Sg2⟩
  ihave Sg2 := (owns_close c sg2 fullShare (w := Yv m 2 c) (by rw [ht2, hf2, hkb, hvb, hb 3]; rfl)) $$ Sg2
  rw [st17.eq]
  iapply (send_sum2 (Xv m) (Yv m) K c _ Q) $$ [HO Sg2 Dr2 S8 R11]
  · isplitr; · iexact Hrec
    isplitr; · iexact Hlev
    isplitl [HO]; · iexact HO
    isplitl [Sg2]; · iexact Sg2
    isplitl [Dr2]; · iexact Dr2
    isplitl [S8]; · iexact S8
    iexact R11
  iintro ⟨HO, C8⟩
  rw [st18.eq]
  ihave Q3 := (owns_open c ag0 keepQ (Xv m c)) $$ Q3
  icases Q3 with ⟨%f0, %hf0, Q3⟩
  iapply (chunk0 c _ Q keepQ f0 (wqV m c) (woV m c) c3 kb1 vb1 b1 p0) $$ [Q3 RO Cx Pt]
  · isplitl [Q3]; · iexact Q3
    isplitl [RO]; · iexact RO
    isplitl [Cx]; · iexact Cx
    iexact Pt
  iintro %c4 %p1 ⟨%hp, Q3, RO, Cx, Pt⟩
  ihave Q3 := (owns_close c ag0 keepQ (w := Xv m c) hf0) $$ Q3
  have hp' : ptM.view.read (Elt F) p1 = shareV m c (Xv m c) 0 := by rw [hp, hf0, hkb, hvb, hb 0]; rfl
  rw [st19.eq]
  iapply (await_sums (Xv m) (Yv m) K c _ Q) $$ [HO C9 A9 C10 A10 C11 A11]
  · isplitr; · iexact Hrec
    isplitr; · iexact Hlev
    isplitl [HO]; · iexact HO
    isplitl [C9 A9]
    · isplitl [C9]; · iexact C9
      iexact A9
    isplitl [C10 A10]
    · isplitl [C10]; · iexact C10
      iexact A10
    isplitl [C11]; · iexact C11
    iexact A11
  iintro ⟨HO, ⟨A9, Rv0⟩, ⟨A10, Rv1⟩, ⟨A11, Rv2⟩⟩
  ihave Rv0 := (show chPay (Xv m) (Yv m) 11 c ⊢ (owns (c : Thread nD τ) rv0 fullShare (Yv m 0 (frm 0 c)) : sProp 𝕄) from .rfl) $$ Rv0
  ihave Rv0 := (owns_open c rv0 fullShare (Yv m 0 (frm 0 c))) $$ Rv0
  icases Rv0 with ⟨%r0, %hr0, Rv0⟩
  ihave Rv1 := (show chPay (Xv m) (Yv m) 12 c ⊢ (owns (c : Thread nD τ) rv1 fullShare (Yv m 1 (frm 1 c)) : sProp 𝕄) from .rfl) $$ Rv1
  ihave Rv1 := (owns_open c rv1 fullShare (Yv m 1 (frm 1 c))) $$ Rv1
  icases Rv1 with ⟨%r1, %hr1, Rv1⟩
  ihave Rv2 := (show chPay (Xv m) (Yv m) 13 c ⊢ (owns (c : Thread nD τ) rv2 fullShare (Yv m 2 (frm 2 c)) : sProp 𝕄) from .rfl) $$ Rv2
  ihave Rv2 := (owns_open c rv2 fullShare (Yv m 2 (frm 2 c))) $$ Rv2
  icases Rv2 with ⟨%r2, %hr2, Rv2⟩
  rw [st20.eq]
  iapply (finish c _ Q p1 r0 r1 r2 o0) $$ [Pt Rv0 Rv1 Rv2 Ho]
  · isplitl [Pt]; · iexact Pt
    isplitl [Rv0]; · iexact Rv0
    isplitl [Rv1]; · iexact Rv1
    isplitl [Rv2]; · iexact Rv2
    iexact Ho
  iintro %o1 ⟨%ho, Pt, Rv0, Rv1, Rv2, Ho⟩
  ihave Ho := (owns_close c oM fullShare (w := outV m c) (by rw [ho, hp', hr0, hr1, hr2]; rfl)) $$ Ho
  rw [st21.eq]
  iapply (drain (Xv m) (Yv m) K c _ Q) $$ [HO C0 A0 C1 A1 C2 A2 C6 A6 C7 A7 C8 A8]
  · isplitr; · iexact Hrec
    isplitr; · iexact Hlev
    isplitl [HO]; · iexact HO
    isplitl [C0 A0]
    · isplitl [C0]; · iexact C0
      iexact A0
    isplitl [C1 A1]
    · isplitl [C1]; · iexact C1
      iexact A1
    isplitl [C2 A2]
    · isplitl [C2]; · iexact C2
      iexact A2
    isplitl [C6 A6]
    · isplitl [C6]; · iexact C6
      iexact A6
    isplitl [C7 A7]
    · isplitl [C7]; · iexact C7
      iexact A7
    isplitl [C8]; · iexact C8
    iexact A8
  iintro ⟨HO, ⟨A0, Q0⟩, ⟨A1, Q1⟩, ⟨A2, Q2⟩, ⟨A6, Sg0⟩, ⟨A7, Sg1⟩, ⟨A8, Sg2⟩⟩
  ihave Q0 := (show chPay (Xv m) (Yv m) 2 c ⊢ (owns (c : Thread nD τ) ag0 (agQ 0) (Xv m c) : sProp 𝕄) from .rfl) $$ Q0
  ihave Sg0 := (show chPay (Xv m) (Yv m) 8 c ⊢ (owns (c : Thread nD τ) sg0 fullShare (Yv m 0 c) : sProp 𝕄) from .rfl) $$ Sg0
  ihave Q1 := (show chPay (Xv m) (Yv m) 3 c ⊢ (owns (c : Thread nD τ) ag0 (agQ 1) (Xv m c) : sProp 𝕄) from .rfl) $$ Q1
  ihave Sg1 := (show chPay (Xv m) (Yv m) 9 c ⊢ (owns (c : Thread nD τ) sg1 fullShare (Yv m 1 c) : sProp 𝕄) from .rfl) $$ Sg1
  ihave Q2 := (show chPay (Xv m) (Yv m) 4 c ⊢ (owns (c : Thread nD τ) ag0 (agQ 2) (Xv m c) : sProp 𝕄) from .rfl) $$ Q2
  ihave Sg2 := (show chPay (Xv m) (Yv m) 10 c ⊢ (owns (c : Thread nD τ) sg2 fullShare (Yv m 2 c) : sProp 𝕄) from .rfl) $$ Sg2
  ihave Ag0 := (own_rejoin c (Xv m c)) $$ [Q0 Q1 Q2 Q3]
  · isplitl [Q0]; · iexact Q0
    isplitl [Q1]; · iexact Q1
    isplitl [Q2]; · iexact Q2
    iexact Q3
  unfold st21.tail
  rw [Prog.pure_eq_ret]; unfold wpc; rw [wp_ret]
  iapply Hk
  unfold readOnly
  icases RO with ⟨Wqb, Wob, Kb, Vb, Bs⟩
  isplitl [AB A0 A1 A2 A3 A4 A5 A6 A7 A8 A9 A10 A11]
  · isplitl [AB]; · iexact AB
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    iexact A11
  isplitl [HO]
  · unfold debt; iexact HO
  isplitl [Hks Hvs Hwq Hwo]
  · isplitl [Hks]; · iexact Hks
    isplitl [Hvs]; · iexact Hvs
    isplitl [Hwq]; · iexact Hwq
    iexact Hwo
  isplitl [Mk Mv M30 M31]
  · isplitl [Mk]; · iexact Mk
    isplitl [Mv]; · iexact Mv
    isplitl [M30]; · iexact M30
    iexact M31
  isplitl [Ag0 Ag1 Ag2 Ag3 Rv0 Rv1 Rv2 Sg0 Sg1 Sg2 Gk Gv]
  · isplitl [Ag0]; · (iapply (owns_anyAt c ag0 (Xv m c)); iexact Ag0)
    isplitl [Ag1]; · (iapply (anyAt_intro c ag1); iexact Ag1)
    isplitl [Ag2]; · (iapply (anyAt_intro c ag2); iexact Ag2)
    isplitl [Ag3]; · (iapply (anyAt_intro c ag3); iexact Ag3)
    isplitl [Rv0]; · (iapply (anyAt_intro c rv0); iexact Rv0)
    isplitl [Rv1]; · (iapply (anyAt_intro c rv1); iexact Rv1)
    isplitl [Rv2]; · (iapply (anyAt_intro c rv2); iexact Rv2)
    isplitl [Sg0]; · (iapply (owns_anyAt c sg0 (Yv m 0 c)); iexact Sg0)
    isplitl [Sg1]; · (iapply (owns_anyAt c sg1 (Yv m 1 c)); iexact Sg1)
    isplitl [Sg2]; · (iapply (owns_anyAt c sg2 (Yv m 2 c)); iexact Sg2)
    isplitl [Gk]; · (iexists gk1; iexact Gk)
    (iexists gv1; iexact Gv)
  isplitl [Pt Cx Kb Vb Wq32 Wo32 Wqb Wob Bs]
  · isplitl [Pt]; · (iapply (anyAt_intro c ptM); iexact Pt)
    isplitl [Cx]; · (iapply (anyAt_intro c cxM); iexact Cx)
    isplitl [Kb]; · (iapply (anyAt_intro c kbM); iexact Kb)
    isplitl [Vb]; · (iapply (anyAt_intro c vbM); iexact Vb)
    isplitl [Wq32]; · (iapply (anyAt_intro c wq32M); iexact Wq32)
    isplitl [Wo32]; · (iapply (anyAt_intro c wo32M); iexact Wo32)
    isplitl [Wqb]; · (iapply (anyAt_intro c wqM); iexact Wqb)
    isplitl [Wob]; · (iapply (anyAt_intro c woM); iexact Wob)
    (iapply (anyAt_intro c bsM); iexact Bs)
  isplitl [Hx]
  · iexact Hx
  iexact Ho

end Cert.KernelIdeal.Run

end

end
-- ==== Proof.Held.lean ====
module

public import proofs.«01_k».proof.Proof.Body
public import Idealize.ShloMosaic.Lib.Pipeline.Launch
public import Idealize.ShloMosaic.Lib.Pipeline.Kit

/-!
What the launch holds of a device, cut as the body uses it and put together again.

-/

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

/-! ## The arguments -/

/-- The arguments that no window stages. -/
def argsAll (c : Dev nD) : sProp 𝕄 :=
  iprop((((c : Thread nD τ).loc main_arg1) ↦{fullShare} m ((c : Thread nD τ).loc main_arg1)) ∗ (((c : Thread nD τ).loc main_arg2) ↦{fullShare} m ((c : Thread nD τ).loc main_arg2)) ∗ (((c : Thread nD τ).loc main_arg3) ↦{fullShare} m ((c : Thread nD τ).loc main_arg3)) ∗ (((c : Thread nD τ).loc main_arg4) ↦{fullShare} m ((c : Thread nD τ).loc main_arg4)))
/-- What is left of the caches once each copy has its share. -/
def rests (c : Dev nD) : sProp 𝕄 :=
  iprop((((c : Thread nD τ).loc main_arg2) ↦{Transfers.shareDrop fullShare 8} m ((c : Thread nD τ).loc main_arg2)) ∗ (((c : Thread nD τ).loc main_arg3) ↦{Transfers.shareDrop fullShare 8} m ((c : Thread nD τ).loc main_arg3)))

theorem kSrc_eq (c : Dev nD) (f : Buf (Elt F) ((c : Thread nD τ).loc main_arg2)) :
    (kSrc c f : sProp 𝕄) = bigSep Finset.univ (fun i : Fin 8 => (((c : Thread nD τ).loc main_arg2) ↦{Transfers.shareTok fullShare 8 i} f : sProp 𝕄)) := by
  rw [bigSep_univ_eq_bigSepL [0, 1, 2, 3, 4, 5, 6, 7] (by decide) (by decide)]
  unfold kSrc
  rw [show (kH.view.set : Finset _) = Finset.univ from View.set_whole _]
  rfl
theorem kSrc_split (c : Dev nD) (f : Buf (Elt F) ((c : Thread nD τ).loc main_arg2)) :
    ((((c : Thread nD τ).loc main_arg2) ↦{fullShare} f) : sProp 𝕄) ⊢ iprop(kSrc c f ∗ (((c : Thread nD τ).loc main_arg2) ↦{Transfers.shareDrop fullShare 8} f)) := by
  rw [kSrc_eq]
  iintro H
  ihave H := (Transfers.pointsTo_toks_split fullShare 8) $$ H
  icases H with ⟨Hd, Ht⟩
  isplitl [Ht]; · iexact Ht
  iexact Hd
theorem kSrc_join (c : Dev nD) (f : Buf (Elt F) ((c : Thread nD τ).loc main_arg2)) :
    (iprop(kSrc c f ∗ (((c : Thread nD τ).loc main_arg2) ↦{Transfers.shareDrop fullShare 8} f)) : sProp 𝕄) ⊢ (((c : Thread nD τ).loc main_arg2) ↦{fullShare} f) := by
  rw [kSrc_eq]
  iintro ⟨Ht, Hd⟩
  iapply (Transfers.pointsTo_toks_join fullShare 8)
  isplitl [Hd]; · iexact Hd
  iexact Ht

theorem vSrc_eq (c : Dev nD) (f : Buf (Elt F) ((c : Thread nD τ).loc main_arg3)) :
    (vSrc c f : sProp 𝕄) = bigSep Finset.univ (fun i : Fin 8 => (((c : Thread nD τ).loc main_arg3) ↦{Transfers.shareTok fullShare 8 i} f : sProp 𝕄)) := by
  rw [bigSep_univ_eq_bigSepL [0, 1, 2, 3, 4, 5, 6, 7] (by decide) (by decide)]
  unfold vSrc
  rw [show (vH.view.set : Finset _) = Finset.univ from View.set_whole _]
  rfl
theorem vSrc_split (c : Dev nD) (f : Buf (Elt F) ((c : Thread nD τ).loc main_arg3)) :
    ((((c : Thread nD τ).loc main_arg3) ↦{fullShare} f) : sProp 𝕄) ⊢ iprop(vSrc c f ∗ (((c : Thread nD τ).loc main_arg3) ↦{Transfers.shareDrop fullShare 8} f)) := by
  rw [vSrc_eq]
  iintro H
  ihave H := (Transfers.pointsTo_toks_split fullShare 8) $$ H
  icases H with ⟨Hd, Ht⟩
  isplitl [Ht]; · iexact Ht
  iexact Hd
theorem vSrc_join (c : Dev nD) (f : Buf (Elt F) ((c : Thread nD τ).loc main_arg3)) :
    (iprop(vSrc c f ∗ (((c : Thread nD τ).loc main_arg3) ↦{Transfers.shareDrop fullShare 8} f)) : sProp 𝕄) ⊢ (((c : Thread nD τ).loc main_arg3) ↦{fullShare} f) := by
  rw [vSrc_eq]
  iintro ⟨Ht, Hd⟩
  iapply (Transfers.pointsTo_toks_join fullShare 8)
  isplitl [Hd]; · iexact Hd
  iexact Ht

theorem whole_pts (c : Dev nD) (b : Ref sig .tc) (q : PosShare TreeShare) (f : Buf (Elt F) ((c : Thread nD τ).loc b)) :
    ((Memref.whole b).view.loc (c : Thread nD τ) ↦[(Memref.whole b).view.set]{q} f : sProp 𝕄) = (((c : Thread nD τ).loc b) ↦{q} f) := by
  rw [show ((Memref.whole b).view.set : Finset _) = Finset.univ from View.set_whole _]

theorem args_split (c : Dev nD) : (argsAll m c : sProp 𝕄) ⊢ iprop(localArgs m c ∗ rests m c) := by
  unfold argsAll localArgs rests
  rw [whole_pts c main_arg1, whole_pts c main_arg4]
  iintro ⟨H1, H2, H3, H4⟩
  ihave H2 := (kSrc_split c _) $$ H2
  ihave H3 := (vSrc_split c _) $$ H3
  icases H2 with ⟨H2, R2⟩
  icases H3 with ⟨H3, R3⟩
  isplitl [H1 H2 H3 H4]
  · isplitl [H2]; · iexact H2
    isplitl [H3]; · iexact H3
    isplitl [H1]; · iexact H1
    iexact H4
  · isplitl [R2]; · iexact R2
    iexact R3
theorem args_join (c : Dev nD) : (iprop(localArgs m c ∗ rests m c) : sProp 𝕄) ⊢ argsAll m c := by
  unfold argsAll localArgs rests
  rw [whole_pts c main_arg1, whole_pts c main_arg4]
  iintro ⟨⟨H2, H3, H1, H4⟩, R2, R3⟩
  isplitl [H1]; · iexact H1
  isplitl [H2 R2]
  · iapply (kSrc_join c _); isplitl [H2]; · iexact H2
    iexact R2
  isplitl [H3 R3]
  · iapply (vSrc_join c _); isplitl [H3]; · iexact H3
    iexact R3
  iexact H4

/-! ## The scratch -/

theorem anyAt_whole (c : Dev nD) (b : Ref sig .tc) :
    (anyAt c (Memref.whole b) : sProp 𝕄) = iprop(∃ f : Buf (Elt F) ((c : Thread nD τ).loc b), ((c : Thread nD τ).loc b) ↦{fullShare} f) := by
  unfold anyAt; rw [show ((Memref.whole b).view.set : Finset _) = Finset.univ from View.set_whole _]

theorem cut_ag (c : Dev nD) : (iprop(∃ f : Buf (Elt F) ((c : Thread nD τ).loc cc0_scratch0), ((c : Thread nD τ).loc cc0_scratch0) ↦{fullShare} f) : sProp 𝕄) ⊢ iprop(anyAt c ag0 ∗ anyAt c ag1 ∗ anyAt c ag2 ∗ anyAt c ag3) := by
  iintro ⟨%f, H⟩
  ihave H := (Entails.of_eq (split_ag c f)) $$ H
  icases H with ⟨H0, H1, H2, H3⟩
  isplitl [H0]; · (iapply (anyAt_intro c ag0); iexact H0)
  isplitl [H1]; · (iapply (anyAt_intro c ag1); iexact H1)
  isplitl [H2]; · (iapply (anyAt_intro c ag2); iexact H2)
  iapply (anyAt_intro c ag3); iexact H3
theorem mend_ag (c : Dev nD) : (iprop(anyAt c ag0 ∗ anyAt c ag1 ∗ anyAt c ag2 ∗ anyAt c ag3) : sProp 𝕄) ⊢ iprop(∃ f : Buf (Elt F) ((c : Thread nD τ).loc cc0_scratch0), ((c : Thread nD τ).loc cc0_scratch0) ↦{fullShare} f) := by
  unfold anyAt
  iintro ⟨⟨%f0, H0⟩, ⟨%f1, H1⟩, ⟨%f2, H2⟩, ⟨%f3, H3⟩⟩
  iapply (join_ag c ![f0, f1, f2, f3])
  isplitl [H0]; · iexact H0
  isplitl [H1]; · iexact H1
  isplitl [H2]; · iexact H2
  iexact H3

theorem cut_sg (c : Dev nD) : (iprop(∃ f : Buf (Elt F) ((c : Thread nD τ).loc cc0_scratch2), ((c : Thread nD τ).loc cc0_scratch2) ↦{fullShare} f) : sProp 𝕄) ⊢ iprop(anyAt c sg0 ∗ anyAt c sg1 ∗ anyAt c sg2) := by
  iintro ⟨%f, H⟩
  ihave H := (Entails.of_eq (split_sg c f)) $$ H
  icases H with ⟨H0, H1, H2⟩
  isplitl [H0]; · (iapply (anyAt_intro c sg0); iexact H0)
  isplitl [H1]; · (iapply (anyAt_intro c sg1); iexact H1)
  iapply (anyAt_intro c sg2); iexact H2
theorem mend_sg (c : Dev nD) : (iprop(anyAt c sg0 ∗ anyAt c sg1 ∗ anyAt c sg2) : sProp 𝕄) ⊢ iprop(∃ f : Buf (Elt F) ((c : Thread nD τ).loc cc0_scratch2), ((c : Thread nD τ).loc cc0_scratch2) ↦{fullShare} f) := by
  unfold anyAt
  iintro ⟨⟨%f0, H0⟩, ⟨%f1, H1⟩, ⟨%f2, H2⟩⟩
  iapply (join_sg c ![f0, f1, f2])
  isplitl [H0]; · iexact H0
  isplitl [H1]; · iexact H1
  iexact H2

theorem cut_rv (c : Dev nD) : (iprop(∃ f : Buf (Elt F) ((c : Thread nD τ).loc cc0_scratch3), ((c : Thread nD τ).loc cc0_scratch3) ↦{fullShare} f) : sProp 𝕄) ⊢ iprop(anyAt c rv0 ∗ anyAt c rv1 ∗ anyAt c rv2) := by
  iintro ⟨%f, H⟩
  ihave H := (Entails.of_eq (split_rv c f)) $$ H
  icases H with ⟨H0, H1, H2⟩
  isplitl [H0]; · (iapply (anyAt_intro c rv0); iexact H0)
  isplitl [H1]; · (iapply (anyAt_intro c rv1); iexact H1)
  iapply (anyAt_intro c rv2); iexact H2
theorem mend_rv (c : Dev nD) : (iprop(anyAt c rv0 ∗ anyAt c rv1 ∗ anyAt c rv2) : sProp 𝕄) ⊢ iprop(∃ f : Buf (Elt F) ((c : Thread nD τ).loc cc0_scratch3), ((c : Thread nD τ).loc cc0_scratch3) ↦{fullShare} f) := by
  unfold anyAt
  iintro ⟨⟨%f0, H0⟩, ⟨%f1, H1⟩, ⟨%f2, H2⟩⟩
  iapply (join_rv c ![f0, f1, f2])
  isplitl [H0]; · iexact H0
  isplitl [H1]; · iexact H1
  iexact H2

theorem cut_k (c : Dev nD) : (iprop(∃ f : Buf (Elt F) ((c : Thread nD τ).loc cc0_scratch5), ((c : Thread nD τ).loc cc0_scratch5) ↦{fullShare} f) : sProp 𝕄) ⊢ iprop(∃ g, kSlots c g) := by
  iintro ⟨%f, H⟩
  iexists (fun _ => f)
  unfold kSlots
  iapply (Entails.of_eq (split_k c f)); iexact H
theorem mend_k (c : Dev nD) : (iprop(∃ g, kSlots c g) : sProp 𝕄) ⊢ iprop(∃ f : Buf (Elt F) ((c : Thread nD τ).loc cc0_scratch5), ((c : Thread nD τ).loc cc0_scratch5) ↦{fullShare} f) := by
  iintro ⟨%g, H⟩
  unfold kSlots
  iapply (join_k c g); iexact H

theorem cut_v (c : Dev nD) : (iprop(∃ f : Buf (Elt F) ((c : Thread nD τ).loc cc0_scratch6), ((c : Thread nD τ).loc cc0_scratch6) ↦{fullShare} f) : sProp 𝕄) ⊢ iprop(∃ g, vSlots c g) := by
  iintro ⟨%f, H⟩
  iexists (fun _ => f)
  unfold vSlots
  iapply (Entails.of_eq (split_v c f)); iexact H
theorem mend_v (c : Dev nD) : (iprop(∃ g, vSlots c g) : sProp 𝕄) ⊢ iprop(∃ f : Buf (Elt F) ((c : Thread nD τ).loc cc0_scratch6), ((c : Thread nD τ).loc cc0_scratch6) ↦{fullShare} f) := by
  iintro ⟨%g, H⟩
  unfold vSlots
  iapply (join_v c g); iexact H

theorem scratch_split (c : Dev nD) : (Pipeline.scopedRest (Ix := Unit) (Name := ℕ) (U := UU) (Lvl := ℕ) (Val := Elt F) spec0 c : sProp 𝕄) ⊢ iprop(slots c ∗ bufs c) := by
  rw [scopedRest0_eq]
  unfold slots bufs
  simp only [anyAt_whole]
  iintro ⟨H0, H1, H2, H3, H4, H5, H6, H7, H8, H9, H10, H11, H12, H13⟩
  ihave H0 := (cut_ag c) $$ H0
  ihave H2 := (cut_sg c) $$ H2
  ihave H3 := (cut_rv c) $$ H3
  ihave H5 := (cut_k c) $$ H5
  ihave H6 := (cut_v c) $$ H6
  icases H0 with ⟨Ag0, Ag1, Ag2, Ag3⟩
  icases H2 with ⟨Sg0, Sg1, Sg2⟩
  icases H3 with ⟨Rv0, Rv1, Rv2⟩
  isplitl [Ag0 Ag1 Ag2 Ag3 Rv0 Rv1 Rv2 Sg0 Sg1 Sg2 H5 H6]
  · skip
    isplitl [Ag0]; · iexact Ag0
    isplitl [Ag1]; · iexact Ag1
    isplitl [Ag2]; · iexact Ag2
    isplitl [Ag3]; · iexact Ag3
    isplitl [Rv0]; · iexact Rv0
    isplitl [Rv1]; · iexact Rv1
    isplitl [Rv2]; · iexact Rv2
    isplitl [Sg0]; · iexact Sg0
    isplitl [Sg1]; · iexact Sg1
    isplitl [Sg2]; · iexact Sg2
    isplitl [H5]; · iexact H5
    iexact H6
  isplitl [H1]; · iexact H1
  isplitl [H4]; · iexact H4
  isplitl [H7]; · iexact H7
  isplitl [H8]; · iexact H8
  isplitl [H9]; · iexact H9
  isplitl [H10]; · iexact H10
  isplitl [H11]; · iexact H11
  isplitl [H12]; · iexact H12
  iexact H13
theorem scratch_join (c : Dev nD) : (iprop(slots c ∗ bufs c) : sProp 𝕄) ⊢ Pipeline.scopedRest (Ix := Unit) (Name := ℕ) (U := UU) (Lvl := ℕ) (Val := Elt F) spec0 c := by
  rw [scopedRest0_eq]
  unfold slots bufs
  simp only [anyAt_whole]
  iintro ⟨⟨Ag0, Ag1, Ag2, Ag3, Rv0, Rv1, Rv2, Sg0, Sg1, Sg2, H5, H6⟩, H1, H4, H7, H8, H9, H10, H11, H12, H13⟩
  ihave H0 := (mend_ag c) $$ [Ag0 Ag1 Ag2 Ag3]
  · isplitl [Ag0]; · iexact Ag0
    isplitl [Ag1]; · iexact Ag1
    isplitl [Ag2]; · iexact Ag2
    iexact Ag3
  ihave H2 := (mend_sg c) $$ [Sg0 Sg1 Sg2]
  · isplitl [Sg0]; · iexact Sg0
    isplitl [Sg1]; · iexact Sg1
    iexact Sg2
  ihave H3 := (mend_rv c) $$ [Rv0 Rv1 Rv2]
  · isplitl [Rv0]; · iexact Rv0
    isplitl [Rv1]; · iexact Rv1
    iexact Rv2
  ihave H5 := (mend_k c) $$ H5
  ihave H6 := (mend_v c) $$ H6
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-! ## The semaphores -/

/-- The kernel's own semaphores. -/
abbrev osem : Fin 30 → SemLoc sig := fun i => .dma (⟨i.val + 2, by have := i.isLt; show _ < 32; omega⟩ : Fin 32)
/-- A device's thirteen shared semaphores at zero. -/
def cells0 (c : Dev nD) : sProp 𝕄 := bigSep Finset.univ fun j : Fin 13 => semVal (kcell (c, j)) 0

theorem bigSep13 (Φ : Fin 13 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12) :=
  bigSep_univ_eq_bigSepL [0, 1, 2, 3, 4, 5, 6, 7, 8, 9, 10, 11, 12] (by decide) (by decide) Φ
theorem ownSems_eq (c : Dev nD) : (Pipeline.ownSems0 (Ix := Unit) (Name := ℕ) (U := UU) (Lvl := ℕ) (Val := Elt F) (τ := τ) osem c : sProp 𝕄)
    = iprop(semVal ((c : Thread nD τ), osem 0) 0 ∗ semVal ((c : Thread nD τ), osem 1) 0 ∗ semVal ((c : Thread nD τ), osem 2) 0 ∗ semVal ((c : Thread nD τ), osem 3) 0 ∗ semVal ((c : Thread nD τ), osem 4) 0 ∗ semVal ((c : Thread nD τ), osem 5) 0 ∗ semVal ((c : Thread nD τ), osem 6) 0 ∗ semVal ((c : Thread nD τ), osem 7) 0 ∗ semVal ((c : Thread nD τ), osem 8) 0 ∗ semVal ((c : Thread nD τ), osem 9) 0 ∗ semVal ((c : Thread nD τ), osem 10) 0 ∗ semVal ((c : Thread nD τ), osem 11) 0 ∗ semVal ((c : Thread nD τ), osem 12) 0 ∗ semVal ((c : Thread nD τ), osem 13) 0 ∗ semVal ((c : Thread nD τ), osem 14) 0 ∗ semVal ((c : Thread nD τ), osem 15) 0 ∗ semVal ((c : Thread nD τ), osem 16) 0 ∗ semVal ((c : Thread nD τ), osem 17) 0 ∗ semVal ((c : Thread nD τ), osem 18) 0 ∗ semVal ((c : Thread nD τ), osem 19) 0 ∗ semVal ((c : Thread nD τ), osem 20) 0 ∗ semVal ((c : Thread nD τ), osem 21) 0 ∗ semVal ((c : Thread nD τ), osem 22) 0 ∗ semVal ((c : Thread nD τ), osem 23) 0 ∗ semVal ((c : Thread nD τ), osem 24) 0 ∗ semVal ((c : Thread nD τ), osem 25) 0 ∗ semVal ((c : Thread nD τ), osem 26) 0 ∗ semVal ((c : Thread nD τ), osem 27) 0 ∗ semVal ((c : Thread nD τ), osem 28) 0 ∗ semVal ((c : Thread nD τ), osem 29) 0) := by
  rw [Pipeline.ownSems0_eq_of_list c osem [0, 1, 2, 3, 4, 5, 6, 7, 8, 9, 10, 11, 12, 13, 14, 15, 16, 17, 18, 19, 20, 21, 22, 23, 24, 25, 26, 27, 28, 29] (by decide) (by decide)]; rfl
theorem barSem_eq (c : Dev nD) : (unscopedSems0 c : sProp 𝕄) = semVal (barCell c) 0 := by
  unfold unscopedSems0; rw [bigSep_eq_bigSepL_of_eq [SemLoc.reg barS] (by decide) (by decide)]; rfl
set_option maxRecDepth 8000 in
theorem sems_split (c : Dev nD) :
    iprop(Pipeline.ownSems0 (Ix := Unit) (Name := ℕ) (U := UU) (Lvl := ℕ) (Val := Elt F) (τ := τ) osem c ∗ unscopedSems0 c)
      ⊢ (iprop(cells0 c ∗ localSems c) : sProp 𝕄) := by
  unfold cells0 localSems kSems vSems
  rw [ownSems_eq, barSem_eq, bigSep13]
  iintro ⟨⟨H0, H1, H2, H3, H4, H5, H6, H7, H8, H9, H10, H11, H12, H13, H14, H15, H16, H17, H18, H19, H20, H21, H22, H23, H24, H25, H26, H27, H28, H29⟩, HB⟩
  isplitl [HB H0 H1 H2 H3 H4 H5 H6 H7 H8 H9 H10 H11]
  · isplitl [HB]; · iexact HB
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  isplitl [H12 H13 H14 H15 H16 H17 H18 H19]
  · skip
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19
  isplitl [H20 H21 H22 H23 H24 H25 H26 H27]
  · skip
    isplitl [H20]; · iexact H20
    isplitl [H21]; · iexact H21
    isplitl [H22]; · iexact H22
    isplitl [H23]; · iexact H23
    isplitl [H24]; · iexact H24
    isplitl [H25]; · iexact H25
    isplitl [H26]; · iexact H26
    iexact H27
  isplitl [H28]; · iexact H28
  iexact H29
set_option maxRecDepth 8000 in
theorem sems_join (c : Dev nD) : (iprop(cells0 c ∗ localSems c) : sProp 𝕄)
      ⊢ iprop(Pipeline.ownSems0 (Ix := Unit) (Name := ℕ) (U := UU) (Lvl := ℕ) (Val := Elt F) (τ := τ) osem c ∗ unscopedSems0 c) := by
  unfold cells0 localSems kSems vSems
  rw [ownSems_eq, barSem_eq, bigSep13]
  iintro ⟨⟨HB, H0, H1, H2, H3, H4, H5, H6, H7, H8, H9, H10, H11⟩, ⟨H12, H13, H14, H15, H16, H17, H18, H19⟩, ⟨H20, H21, H22, H23, H24, H25, H26, H27⟩, H28, H29⟩
  isplitr [HB]
  · skip
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    iexact H29
  iexact HB

end Cert.KernelIdeal.Run

end

end
-- ==== Proof.Launch.lean ====
module

public import proofs.«01_k».proof.Proof.Held
public import Idealize.ShloMosaic.Lib.Pipeline.CollectiveSegs

/-!
The launch: the ghost state dealt to the devices, the credits, the body obligation, and the run of the program.

-/

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The ghost state -/

/-- Every device's cells. -/
def allCells : Finset (GSem nD τ sig) := Finset.univ.map ⟨kcell, kcell_inj⟩
/-- The duties of a device's cells: three of its barrier, one of each channel's. -/
def tokOf (x : Dev nD × Fin 15) : GSem nD τ sig × ℕ × Fin 3 :=
  if h : x.2.val < 3 then (barCell x.1, 0, ⟨x.2.val, h⟩) else (chCell ⟨x.2.val - 3, by have := x.2.isLt; omega⟩ x.1, 0, 0)
theorem tokOf_inj : Function.Injective tokOf := by
  rintro ⟨c, j⟩ ⟨c', j'⟩ h
  have h1 : c = c' := by
    have := congrArg (fun t : GSem nD τ sig × ℕ × Fin 3 => t.1.1.1) h
    unfold tokOf at this
    split at this <;> split at this <;> exact this
  subst h1
  have h2 : j = j' := by
    unfold tokOf at h
    split at h <;> split at h
    · exact Fin.ext (congrArg (fun t : GSem nD τ sig × ℕ × Fin 3 => t.2.2.val) h)
    · exact absurd (congrArg (fun t : GSem nD τ sig × ℕ × Fin 3 => t.1.2) h) (by intro e; cases e)
    · exact absurd (congrArg (fun t : GSem nD τ sig × ℕ × Fin 3 => t.1.2) h) (by intro e; cases e)
    · rename_i a b
      have e := congrArg Fin.val (ds_inj (SemLoc.dma.inj (congrArg (fun t : GSem nD τ sig × ℕ × Fin 3 => t.1.2) h)))
      simp only at e a b
      exact Fin.ext (by omega)
  rw [h2]
def allToks : Finset (GSem nD τ sig × ℕ × Fin 3) := Finset.univ.map ⟨tokOf, tokOf_inj⟩

/-- The launch element. -/
def u₀ : UU := (initOf (Pipeline.cells cfgs cellOf_inj) (Pipeline.launchToks cfgs cellOf_inj), (initOf allCells allToks, 1))

theorem own_right (b : UB) : (BI.own (embR ((b, (1 : Counters)) : UB × Counters)) : sProp 𝕄) ⊢ BI.own (ER b) := .rfl

/-- The duties of a device's own cells. -/
def toks (c : Dev nD) : sProp 𝕄 :=
  iprop(dutyTok ER (barCell c) 0 0 ∗ dutyTok ER (barCell c) 0 1 ∗ dutyTok ER (barCell c) 0 2 ∗ dutyTok ER (chCell 0 c) 0 0 ∗ dutyTok ER (chCell 1 c) 0 0 ∗ dutyTok ER (chCell 2 c) 0 0 ∗ dutyTok ER (chCell 3 c) 0 0 ∗ dutyTok ER (chCell 4 c) 0 0 ∗ dutyTok ER (chCell 5 c) 0 0 ∗ dutyTok ER (chCell 6 c) 0 0 ∗ dutyTok ER (chCell 7 c) 0 0 ∗ dutyTok ER (chCell 8 c) 0 0 ∗ dutyTok ER (chCell 9 c) 0 0 ∗ dutyTok ER (chCell 10 c) 0 0 ∗ dutyTok ER (chCell 11 c) 0 0)
theorem toks_eq (c : Dev nD) : (bigSep Finset.univ fun j : Fin 15 => (dutyTok ER (tokOf (c, j)).1 (tokOf (c, j)).2.1 (tokOf (c, j)).2.2 : sProp 𝕄)) = toks c := by
  rw [bigSep_univ_eq_bigSepL [0, 1, 2, 3, 4, 5, 6, 7, 8, 9, 10, 11, 12, 13, 14] (by decide) (by decide)]; rfl

/-- What the launch element deals a device. -/
def G (c : Dev nD) : sProp 𝕄 :=
  iprop((bigSep Finset.univ fun j : Fin 13 => roundState ER (rd (Xv m) (Yv m)) (kcell (c, j)) 0)
    ∗ (bigSep Finset.univ fun j : Fin 13 => iprop(atPos ER (kcell (c, j)) 0 ∅ 0 ∗ reached ER (kcell (c, j)) 0)) ∗ toks c)
/-- What it then holds: the records, its marks, the duties it pays, and its local semaphores. -/
def G' (c : Dev nD) : sProp 𝕄 := iprop(∃ K, records (Xv m) (Yv m) K ∗ (marks 0 c ∗ payToks c) ∗ localSems c)

theorem fund : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun j : Fin 13 => Φ (kcell (c, j)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => toks_eq c
  iintro H
  imod (Rounds.fund ER (rd (Xv m) (Yv m)) allCells allToks) $$ H with ⟨Hst, Hr, Hat, Htok⟩
  imodintro
  ihave Hst := (Entails.of_eq (hX fun g => roundState ER (rd (Xv m) (Yv m)) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat]; · iexact Hat
    iexact Hr
  iexact Htok

/-- One device's invariants allocated. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop(((bigSep Finset.univ fun j => iprop(∃ κ : ℕ, cellInv ER (rd (Xv m) (Yv m)) κ (kcell (c, j))))
          ∗ (bigSep Finset.univ fun j => iprop(atPos ER (kcell (c, j)) 0 ∅ 0 ∗ reached ER (kcell (c, j)) 0)) ∗ toks c) ∗ localSems c) := by
  unfold G
  iintro ⟨Hos, Hus, Hst, Hat, Htok⟩
  ihave Hv := (sems_split c) $$ [Hos Hus]
  · isplitl [Hos] <;> iassumption
  unfold cells0
  icases Hv with ⟨Hv, Hl⟩
  imod (show iprop((bigSep Finset.univ fun j : Fin 13 => semVal (kcell (c, j)) 0) ∗ bigSep Finset.univ fun j : Fin 13 => roundState ER (rd (Xv m) (Yv m)) (kcell (c, j)) 0)
      ⊢ (|={Set.univ}=> bigSep Finset.univ fun j => iprop(∃ κ : ℕ, cellInv ER (rd (Xv m) (Yv m)) κ (kcell (c, j))) : sProp 𝕄) from by
        rw [← bigSep_sep']
        exact (bigSep_mono fun j _ => (Rounds.body_intro ER (rd (Xv m) (Yv m)) (kcell (c, j))).trans inv_alloc).trans (bigSep_fupd _ _)) $$ [Hv Hst] with Hinv
  · isplitl [Hv] <;> iassumption
  imodintro
  isplitr [Hl]
  · isplitl [Hinv]; · iexact Hinv
    isplitl [Hat]; · iexact Hat
    iexact Htok
  iexact Hl

/-- The duties dealt to those who pay them. -/
theorem toks_around : (bigSep Finset.univ fun c : Dev nD => (toks c : sProp 𝕄)) ⊢ bigSep Finset.univ fun c : Dev nD => payToks c := by
  unfold toks payToks
  simp only [bigSep_sep']
  rw [bigSep_univ_equiv (along 0).symm (fun c : Dev nD => (dutyTok ER (barCell c) 0 0 : sProp 𝕄)),
    bigSep_univ_equiv (along 1).symm (fun c : Dev nD => (dutyTok ER (barCell c) 0 1 : sProp 𝕄)),
    bigSep_univ_equiv (along 2).symm (fun c : Dev nD => (dutyTok ER (barCell c) 0 2 : sProp 𝕄)),
    bigSep_univ_equiv (along 0) (fun c : Dev nD => (dutyTok ER (chCell 3 c) 0 0 : sProp 𝕄)),
    bigSep_univ_equiv (along 1) (fun c : Dev nD => (dutyTok ER (chCell 4 c) 0 0 : sProp 𝕄)),
    bigSep_univ_equiv (along 2) (fun c : Dev nD => (dutyTok ER (chCell 5 c) 0 0 : sProp 𝕄)),
    bigSep_univ_equiv (along 0) (fun c : Dev nD => (dutyTok ER (chCell 9 c) 0 0 : sProp 𝕄)),
    bigSep_univ_equiv (along 1) (fun c : Dev nD => (dutyTok ER (chCell 10 c) 0 0 : sProp 𝕄)),
    bigSep_univ_equiv (along 2) (fun c : Dev nD => (dutyTok ER (chCell 11 c) 0 0 : sProp 𝕄))]
  iintro ⟨T0, T1, T2, T3, T4, T5, T6, T7, T8, T9, T10, T11, T12, T13, T14⟩
  isplitl [T0]; · iexact T0
  isplitl [T1]; · iexact T1
  isplitl [T2]; · iexact T2
  isplitl [T6]; · iexact T6
  isplitl [T7]; · iexact T7
  isplitl [T8]; · iexact T8
  isplitl [T12]; · iexact T12
  isplitl [T13]; · iexact T13
  isplitl [T14]; · iexact T14
  isplitl [T3]; · iexact T3
  isplitl [T4]; · iexact T4
  isplitl [T5]; · iexact T5
  isplitl [T9]; · iexact T9
  isplitl [T10]; · iexact T10
  iexact T11

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem marks_eq (r : ℕ) (c : Dev nD) : (bigSep Finset.univ fun j : Fin 13 => (atPos ER (kcell (c, j)) r ∅ 0 : sProp 𝕄)) = marks r c := by
  rw [bigSep13]; rfl

theorem regroup :
    (bigSep Finset.univ fun c : Dev nD => iprop(((bigSep Finset.univ fun j => iprop(∃ κ : ℕ, cellInv ER (rd (Xv m) (Yv m)) κ (kcell (c, j))))
          ∗ (bigSep Finset.univ fun j => iprop(atPos ER (kcell (c, j)) 0 ∅ 0 ∗ reached ER (kcell (c, j)) 0)) ∗ toks c) ∗ localSems c) : sProp 𝕄)
      ⊢ bigSep Finset.univ (G' m) := by
  rw [bigSep_sep', bigSep_sep', bigSep_sep', ← bigSep_univ_prod (fun x : Dev nD × Fin 13 => iprop(∃ κ : ℕ, cellInv ER (rd (Xv m) (Yv m)) κ (kcell x))),
    bigSep_congr (s := Finset.univ) (fun (c : Dev nD) _ => bigSep_sep' Finset.univ (fun j : Fin 13 => (atPos ER (kcell (c, j)) 0 ∅ 0 : sProp 𝕄)) (fun j => reached ER (kcell (c, j)) 0)),
    bigSep_sep', ← bigSep_univ_prod (fun x : Dev nD × Fin 13 => (reached ER (kcell x) 0 : sProp 𝕄))]
  iintro ⟨⟨HI, ⟨Hat, #HR⟩, Htok⟩, Hl⟩
  ihave HK := (BI.bigSep_exists_pi Finset.univ (fun (x : Dev nD × Fin 13) (κ : ℕ) => (cellInv ER (rd (Xv m) (Yv m)) κ (kcell x) : sProp 𝕄))) $$ HI
  icases HK with ⟨%K, #HI⟩
  ihave Htk := (toks_around (F := F)) $$ Htok
  iapply (with_persistent (R := records (Xv m) (Yv m) K) (Φ := fun c => iprop((marks 0 c ∗ payToks c) ∗ localSems c)) fun c _ => by
    unfold G'
    iintro ⟨H1, H2⟩
    iexists K
    isplitl [H1]; · iexact H1
    iexact H2)
  isplitr
  · unfold records; isplitl; · iexact HI
    iexact HR
  · iapply (Entails.of_eq (bigSep_sep' Finset.univ (fun c : Dev nD => iprop(marks 0 c ∗ payToks c)) localSems).symm)
    isplitr [Hl]
    · iapply (Entails.of_eq (bigSep_sep' Finset.univ (fun c : Dev nD => marks 0 c) payToks).symm)
      isplitl [Hat]
      · iapply (Entails.of_eq (bigSep_congr (s := Finset.univ) fun (c : Dev nD) _ => marks_eq (F := F) 0 c)); iexact Hat
      iexact Htk
    iexact Hl

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch's credit -/

theorem owe_apply (l : List (GSem nD τ sig × ℕ)) (g : GSem nD τ sig) : owe l g () = (l.map fun p => if g = p.1 then p.2 else 0).sum := by
  induction l with
  | nil => rfl
  | cons p l ih =>
    unfold owe
    rw [Pi.add_apply, Finsupp.add_apply, tallyAt_apply, ih, List.map_cons, List.sum_cons, Nat.add_comm]
    congr 1
    by_cases h : g = p.1
    · rw [if_pos ⟨h, rfl⟩, if_pos h]
    · rw [if_neg (fun h' => h h'.1), if_neg h]

/-- What all devices owe device `c`'s cell `j`. -/
theorem owed_all (c : Dev nD) (j : Fin 13) :
    (∑ d : Dev nD, ((debts d).map fun p => if kcell (c, j) = p.1 then p.2 else 0).sum)
      = (![3, 0, 0, 0, N, N, N, 0, 0, 0, N, N, N] : Fin 13 → ℕ) j := by
  revert c j; decide +kernel

theorem launch_cell (c : Dev nD) (j : Fin 13) :
    tallyOn (kcell (c, j)) (launchCredit (Pipeline.owing (owed 0)) 0 (kcell (c, j)))
      = (tallyAt (kcell (c, j)) () ((![3, 0, 0, 0, N, N, N, 0, 0, 0, N, N, N] : Fin 13 → ℕ) j) : CellTallies nD τ sig Unit) := by
  unfold tallyAt; refine congrArg _ (Finsupp.ext fun u => ?_); cases u
  rw [Pipeline.launchCredit_owing, Finsupp.single_eq_same, ← owed_all c j]
  exact Finset.sum_congr rfl fun d _ => owe_apply (debts d) _

theorem creds (c : Dev nD) : (Pipeline.launchCred (owed 0) c : sProp 𝕄) ⊢ launchCreds c := by
  have h : (Pipeline.launchCred (owed 0) c : sProp 𝕄)
      ⊢ bigSep Finset.univ fun j : Fin 13 => cred (tallyOn (kcell (c, j)) (launchCredit (Pipeline.owing (owed 0)) 0 (kcell (c, j)))) := by
    unfold Pipeline.launchCred
    exact (bigSep_subset (Finset.subset_univ (Finset.univ.map ⟨cs, cs_inj⟩))).trans (Entails.of_eq (bigSep_map _))
  rw [bigSep13] at h
  iintro H
  ihave H := h $$ H
  icases H with ⟨CB, -, -, -, C3, C4, C5, -, -, -, C9, C10, C11⟩
  unfold launchCreds
  isplitl [CB]; · iapply (Entails.of_eq (congrArg cred (launch_cell c 0))); iexact CB
  isplitl [C3]; · iapply (Entails.of_eq (congrArg cred (launch_cell c 4))); iexact C3
  isplitl [C4]; · iapply (Entails.of_eq (congrArg cred (launch_cell c 5))); iexact C4
  isplitl [C5]; · iapply (Entails.of_eq (congrArg cred (launch_cell c 6))); iexact C5
  isplitl [C9]; · iapply (Entails.of_eq (congrArg cred (launch_cell c 10))); iexact C9
  isplitl [C10]; · iapply (Entails.of_eq (congrArg cred (launch_cell c 11))); iexact C10
  iapply (Entails.of_eq (congrArg cred (launch_cell c 12))); iexact C11

/-! ## The pipeline's data and the body's obligation -/

/-- What a device starts from, but for its scratch. -/
def start (c : Dev nD) : sProp 𝕄 := iprop(G' m c ∗ launchCreds c ∗ levAts L lv ∗ localArgs m c ∗ rests m c)
def Φ₀ (c : Dev nD) : sProp 𝕄 := iprop(start m c ∗ slots c ∗ bufs c)
def Φ₁ (c : Dev nD) : sProp 𝕄 := iprop((cells0 c ∗ localSems c) ∗ (localArgs m c ∗ rests m c) ∗ slots c ∗ bufs c)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outV m c
  Φ t := match t with
    | ⟨0, _⟩ => Φ₀ m c
    | ⟨_ + 1, _⟩ => Φ₁ m c
  q _ := fullShare
  owed t := match t with
    | ⟨0, _⟩ => owed 0 c
    | ⟨_ + 1, _⟩ => 0

theorem fetch_0 (t : Fin cfg0.N) : (cfg0.win (0 : Fin 2)).fetch t = true := by rw [show t = t0_0 from fin_N0 t]; rfl

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))
/-- The obligation's two sides. -/
def bodyPre (c : Dev nD) : sProp 𝕄 :=
  iprop(Φ₀ m c ∗ (dats m 0 c).owesAt () t0_0.castSucc
    ∗ (∃ d, stg c cc0_stg0_0 ((dats m 0 c).before (0 : Fin 2) t0_0 d))
    ∗ (∃ d, stg c cc0_stg1_0 ((dats m 0 c).before (1 : Fin 2) t0_0 d)))
def bodyPost (c : Dev nD) : sProp 𝕄 :=
  iprop(Φ₁ m c ∗ (dats m 0 c).owesAt () t0_0.succ ∗ stg c cc0_stg0_0 (xstg m c) ∗ stg c cc0_stg1_0 (outV m c))

/-- The thirteen cells closed. -/
theorem close_all (K : Dev nD × Fin 13 → ℕ) (c : Dev nD) :
    (iprop(records (Xv m) (Yv m) K ∗ marks 1 c) : sProp 𝕄) ⊢ |={Set.univ}=> cells0 c := by
  rw [← marks_eq]
  unfold cells0
  refine (with_persistent fun j _ => ?_).trans (Rounds.cells_close ER (rd (Xv m) (Yv m)) Finset.univ (fun j : Fin 13 => kcell (c, j)) (fun j => K (c, j))
    (fun _ _ => Set.mem_univ _) (fun _ _ h => h) (fun _ => 1) (fun _ _ => duties_later (Xv m) (Yv m) _))
  iintro ⟨#H, A⟩
  isplitr
  · iapply (rec_inv (Xv m) (Yv m) K (c, j)); iexact H
  iexact A

set_option maxHeartbeats 1000000 in
set_option maxRecDepth 8000 in
/-- The body from the one side to the other. -/
theorem sound_body (c : Dev nD) : bodyPre m c ⊢ wpc c (cc0__body xM (Memref.isWhole_whole _) wqH (Memref.isWhole_whole _) kH (Memref.isWhole_whole _) vH (Memref.isWhole_whole _) woH (Memref.isWhole_whole _) oM (Memref.isWhole_whole _) agM (Memref.isWhole_whole _) ptM (Memref.isWhole_whole _) sgM (Memref.isWhole_whole _) rvM (Memref.isWhole_whole _) cxM (Memref.isWhole_whole _) k32M (Memref.isWhole_whole _) v32M (Memref.isWhole_whole _) kbM (Memref.isWhole_whole _) vbM (Memref.isWhole_whole _) wq32M (Memref.isWhole_whole _) wo32M (Memref.isWhole_whole _) wqM (Memref.isWhole_whole _) woM (Memref.isWhole_whole _) bsM (Memref.isWhole_whole _) cc0_scratch14 cc0_scratch15 cc0_scratch16 cc0_scratch17 cc0_scratch18 cc0_scratch19) (fun _ => bodyPost m c) := by
  rw [flat.eq]
  unfold bodyPre Φ₀ start G' Dat.owesAt Pipeline.owesWithin
  iintro ⟨⟨⟨⟨%K, #Hrec, ⟨Hmk, Hpt⟩, Hls⟩, Hcr, #Hlev, Hla, Hre⟩, Hsl, Hbu⟩, ⟨%W, %hW, HO⟩, ⟨%d0, %g0, %hg0, Hx⟩, ⟨%d1, %g1, %hg1, Ho⟩⟩
  have hx : g0 = xstg m c := by rw [hg0]; unfold Dat.before; rw [if_pos (fetch_0 t0_0)]; rfl
  subst hx
  iapply (sound_flat m K c fun _ => bodyPost m c)
  isplitr [Hre]
  · unfold bodyIn
    isplitr; · iexact Hrec
    isplitr; · iexact Hlev
    isplitl [Hmk]; · iexact Hmk
    isplitl [Hpt]; · iexact Hpt
    isplitl [Hcr]; · iexact Hcr
    isplitl [HO]; · unfold debt; iexists W; iexact HO
    isplitl [Hla]; · iexact Hla
    isplitl [Hls]; · iexact Hls
    isplitl [Hsl]; · iexact Hsl
    isplitl [Hbu]; · iexact Hbu
    isplitl [Hx]; · iapply (Entails.of_eq (whole_pts c cc0_stg0_0 fullShare _).symm); iexact Hx
    iapply (Entails.of_eq (anyAt_whole c cc0_stg1_0).symm); iexists g1; iexact Ho
  · unfold bodyOut
    iintro ⟨Hmk, HO, Hla, Hls, Hsl, Hbu, Hx, Ho⟩
    imod (close_all m K c) $$ [Hmk] with Hz
    · isplitr; · iexact Hrec
      iexact Hmk
    imodintro
    unfold bodyPost Φ₁ Dat.owesAt Pipeline.owesWithin
    isplitl [Hz Hls Hla Hre Hsl Hbu]
    · isplitl [Hz Hls]
      · isplitl [Hz]; · iexact Hz
        iexact Hls
      isplitl [Hla Hre]
      · isplitl [Hla]; · iexact Hla
        iexact Hre
      isplitl [Hsl]; · iexact Hsl
      iexact Hbu
    isplitl [HO]
    · unfold debt
      icases HO with ⟨%W9, HO⟩
      iexists W9
      isplitr; · ipureintro; exact fun _ _ => Or.inl trivial
      iexact HO
    isplitl [Hx]
    · iexists _; isplitr; · (ipureintro; rfl)
      iapply (Entails.of_eq (whole_pts c cc0_stg0_0 fullShare _)); iexact Hx
    iexists _; isplitr; · (ipureintro; rfl)
    iapply (Entails.of_eq (owns_whole (c : Thread nD τ) cc0_stg1_0 fullShare _)); iexact Ho

theorem bigSep_W (Φ : Fin cfg0.W → sProp 𝕄) : bigSep Finset.univ Φ = iprop(Φ (0 : Fin 2) ∗ Φ (1 : Fin 2)) := bigSep_W0 Φ

set_option maxRecDepth 65536 in
theorem body_obligation (c : Dev nD) : BodyObligation (dats (F := F) m 0 c) (defs₀ (F := F)) 𝒱₀ () Set.univ := fun t => by
  rw [show t = t0_0 from fin_N0 t]
  rw [bigSep_W, bigSep_W]
  simp only [owns_whole_eq]
  exact sound_body m c

/-! ## The side conditions -/

theorem ownSemFacts : Pipeline.OwnSemFacts cfg0.spec osem := by decide
theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (owed 0) c ∗ prngReg c (ρ c) ∗ G' m c)
      ⊢ |={Set.univ}=> iprop(start m c ∗ emp) := by
  rw [Pipeline.unscopedRestP_none, show (Pipeline.unscopedRest cfg0.spec c (fun b => m ((c : Thread nD τ).loc b)) : sProp 𝕄) = argsAll m c from unscopedRest0_eq c _]
  iintro ⟨Ha, Hlev, Hcr, -, HG⟩
  ihave Hc := (creds (F := F) c) $$ Hcr
  ihave Ha := (args_split m c) $$ Ha
  imodintro
  unfold start
  isplitl
  · isplitl [HG]; · iexact HG
    isplitl [Hc]; · iexact Hc
    isplitl [Hlev]; · iexact Hlev
    iexact Ha
  · iempintro

theorem phi_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs]; · iexact Hs
  iapply (scratch_split c); iexact Hr

theorem phi_exit (c : Dev nD) :
    (dats m 0 c).Φ (Fin.last cfg0.N) ⊢ iprop((unscopedSems0 c ∗ argsAll m c) ∗ Pipeline.ownSems0 osem c ∗ Pipeline.scopedRest cfg0.spec c) := by
  rw [show (dats m 0 c).Φ (Fin.last cfg0.N) = Φ₁ m c from rfl]
  unfold Φ₁
  iintro ⟨Hz, Ha, Hs⟩
  ihave Hz := (sems_join c) $$ Hz
  icases Hz with ⟨Hz, Hb⟩
  isplitl [Hb Ha]
  · isplitl [Hb]; · iexact Hb
    iapply (args_join m c); iexact Ha
  isplitl [Hz]; · iexact Hz
  iapply (scratch_join c); iexact Hs

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · refine mayWait 0 c _ ?_
      fin_cases w <;> fin_cases s <;> (clear ht; revert c; decide)
    · show _ ⊢ MayWait _ _ _ (0 : CellTallies nD τ sig Unit)
      rw [MayWait_zero]; iintro -; iempintro

/-! ## The run -/

/-- A window's array at the end. -/
def finalA (c : Dev nD) (w : Fin cfg0.W) : Buf (Elt F) ((cfg0.win w).arr.view.loc (c : Thread nD τ)) := (dats m 0 c).arrAt w cfg0.N

/-- The final memory: the windows' arrays, the other arguments as they were. -/
def QC (r : PUnit × MemSt nD τ sig (Elt F)) : Prop := ∀ c : Dev nD,
  (∀ w : Fin cfg0.W, r.2.mem ((cfg0.win w).arr.view.loc (c : Thread nD τ)) = finalA m c w)
  ∧ r.2.mem ((c : Thread nD τ).loc main_arg1) = m ((c : Thread nD τ).loc main_arg1)
  ∧ r.2.mem ((c : Thread nD τ).loc main_arg2) = m ((c : Thread nD τ).loc main_arg2)
  ∧ r.2.mem ((c : Thread nD τ).loc main_arg3) = m ((c : Thread nD τ).loc main_arg3)
  ∧ r.2.mem ((c : Thread nD τ).loc main_arg4) = m ((c : Thread nD τ).loc main_arg4)

set_option maxRecDepth 65536 in
set_option maxHeartbeats 2000000 in
/-- The run of the program on the four devices, over any numbers. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := owed 0) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave HX := (own_right (F := F) _) $$ HX
      imod (fund m) $$ HX with HG
      imodintro
      isplitl [HP] <;> iassumption)
    (hglob := glob m)
    (hA := fun _ _ => rfl) (hpf := fun _ k => k.elim0)
    (X := start m) (Y := fun c => iprop(unscopedSems0 c ∗ argsAll m c)) (Z := fun _ => iprop(emp))
    (hX := start_intro m ρ) (hin := phi_intro m) (hout := phi_exit m)
    (QY := fun c s => (∀ sm : SemLoc sig, sm.isScoped .tc = false → s.sem ((c.tc : Thread nD τ), sm) = 0)
      ∧ s.mem ((c : Thread nD τ).loc main_arg1) = m ((c : Thread nD τ).loc main_arg1)
      ∧ s.mem ((c : Thread nD τ).loc main_arg2) = m ((c : Thread nD τ).loc main_arg2)
      ∧ s.mem ((c : Thread nD τ).loc main_arg3) = m ((c : Thread nD τ).loc main_arg3)
      ∧ s.mem ((c : Thread nD τ).loc main_arg4) = m ((c : Thread nD τ).loc main_arg4))
    (hY := fun c s' => by
      unfold argsAll
      iintro ⟨⟨Hu, H1, H2, H3, H4⟩, -, HSI⟩
      icombine HSI H1 gives %h1
      icombine HSI H2 gives %h2
      icombine HSI H3 gives %h3
      icombine HSI H4 gives %h4
      imod (Pipeline.unscopedSems0_read (X := unscopedSems0 c) (c := c) fupd_intro s') $$ [Hu HSI] with ⟨%h0, HSI⟩
      · isplitl [Hu] <;> iassumption
      imodintro
      isplitr
      · ipureintro
        exact ⟨h0, Buf.eq_of_forall_mem_univ h1, Buf.eq_of_forall_mem_univ h2, Buf.eq_of_forall_mem_univ h3, Buf.eq_of_forall_mem_univ h4⟩
      iexact HSI)
    (hQ := fun _ h hs => ⟨fun c => ⟨(h c).1, (h c).2.2.2⟩, sem_eq_zero hs fun c => (h c).2.2.1⟩)

/-- `x` ends as it was. -/
theorem finalA_x (c : Dev nD) : finalA m c (0 : Fin 2) = m (win0_0.arr.view.loc (c : Thread nD τ)) :=
  (dats (F := F) m 0 c).arrAt_in (0 : Fin 2) rfl _

end Cert.KernelIdeal.Run

end

end
-- ==== Proof.Frames.lean ====
module

public import proofs.«01_k».proof.Defs
public import proofs.«01_k».proof.Proof.Launch
public import proofs.«01_k».proof.Proof.Gen.Kernel

/-!
The frames of the kernel as printed and of its ideal reading, both from the one run of Launch.lean.
-/

@[expose] public section

noncomputable section

namespace Cert.Proof

open Idealize.ShloMosaic Idealize.SL.Sem

/-- The ideal program's frame. -/
theorem frame_ideal : Cert.quiescent_KernelIdeal := fun m ρ _ =>
  (θ_run (Cert.KernelIdeal.defs (F := Ideal)) _ _).mono
    (fun _ h => ⟨fun c => ⟨((h.1 c).1 0).trans (KernelIdeal.Run.finalA_x m c), (h.1 c).2⟩, h.2⟩)
    (KernelIdeal.Run.run_main (F := Ideal) m ρ)

/-- A named constant, as the bits that stand for it. -/
local instance namedBits : Named Bits where
  named _ _ _ bits := Scalar.ofBits _ bits

set_option maxRecDepth 65536 in
set_option maxHeartbeats 4000000 in
/-- The two programs' kernels are the same, label by label. -/
theorem bodies_eq : (Cert.Kernel.defs₀ (F := Bits)) = (Cert.KernelIdeal.defs₀ (F := Bits)) := by
  funext p ℓ x
  match p, ℓ, x with
  | .tc, ⟨0, _⟩, (t, s) => rfl
  | .tc, ⟨n + 1, h⟩, _ => exact absurd h (Nat.not_lt.2 (Nat.le_add_left _ _))
  | .scScalar _, _, _ => rfl
  | .scVector _ _, _, _ => rfl

set_option maxRecDepth 65536 in
set_option maxHeartbeats 4000000 in
theorem tables_eq : (Cert.Kernel.defs (F := Bits)) = (Cert.KernelIdeal.defs (F := Bits)) :=
  congrArg (Pipeline.defs (Cert.KernelIdeal.pcfgs (F := Bits))) bodies_eq

set_option maxRecDepth 65536 in
set_option maxHeartbeats 2000000 in
/-- The printed program is the ideal one with each named constant read as its bits. -/
theorem frame_kernel : Cert.quiescent_Kernel := fun m ρ _ => by
  rw [tables_eq]
  exact (θ_run (Cert.KernelIdeal.defs (F := Bits)) _ _).mono
    (fun _ h => ⟨fun c => ⟨((h.1 c).1 0).trans (KernelIdeal.Run.finalA_x m c), (h.1 c).2⟩, h.2⟩)
    (KernelIdeal.Run.run_main (F := Bits) m ρ)

end Cert.Proof

end

end
-- ==== Proof.Refs.lean ====
module

public import proofs.«01_k».proof.Defs
public import proofs.«01_k».proof.Proof.Gen.ReferenceIdeal
public import proofs.«01_k».proof.Proof.Gen.ReferenceIdeal.Run
public import Idealize.ShloMosaic.Lib.Quiescent

/-!
The frame of the reference, and the constant that the ideal kernel names.
-/

@[expose] public section

noncomputable section

namespace Cert.Proof

open Idealize.ShloMosaic Idealize.SL.Sem

/-- The reference's frame. -/
theorem frame_reference : Cert.quiescent_ReferenceIdeal := fun m ρ _ =>
  (θ_run (Cert.ReferenceIdeal.defs (F := Ideal)) _ _).mono
    (fun r h => ⟨fun c => (h c).2, sem_eq_zero_of_no_sems (by decide) r.2⟩) (Cert.ReferenceIdeal.Value.run (F := Ideal) m ρ)

/-- The mask's constant stands for minus infinity. -/
theorem preserves : Cert.preserves_Kernel_KernelIdeal :=
  IdealRules.named_const.statement Cert.KernelIdeal.κ "mask" .f32 0xCE6E6B28#32 ⊥ rfl

end Cert.Proof

end

end
-- ==== Proof.Consts.lean ====
module

public import Idealize.ShloMosaic.PureOps.Ideal
public import Idealize.ShloMosaic.PureOps.Ideal.Laws
public import Idealize.ShloMosaic.Lib.IdealHost

/-!
The float constants of the two programs, over the extended reals.
-/

@[expose] public section

noncomputable section

namespace Cert.Proof

open Idealize.ShloMosaic

/-- The pattern of minus infinity. -/
theorem ofBits_bottom : Ideal.ofBits .f32 0xFF800000#32 = ⊥ := by
  simp [Ideal.ofBits, Ideal.ieee, -EReal.coe_mul]

/-- The pattern of plus infinity. -/
theorem ofBits_top : Ideal.ofBits .f32 0x7F800000#32 = ⊤ := by
  simp [Ideal.ofBits, Ideal.ieee, -EReal.coe_mul]

/-- The scale of the scores is a real number. -/
theorem ofBits_scale : ∃ s : ℝ, Ideal.ofBits .f32 0x3DB504F3#32 = (s : EReal) := by
  simp [Ideal.ofBits, Ideal.ieee, -EReal.coe_mul]

end Cert.Proof

end

end
-- ==== Proof.Finite.lean ====
module

public import proofs.«01_k».proof.Defs
public import proofs.«01_k».proof.Proof.Consts
public import Idealize.ShloMosaic.Lib.Pointwise
public import Idealize.ShloMosaic.Lib.ReduceAll

/-!
What the precondition says: the operands of the scores are real numbers.
-/

@[expose] public section

noncomputable section

namespace Cert.Proof

open Idealize.ShloMosaic

/-- The shapes that the precondition's operations meet. -/
instance preKer : Cert.Pre_finite_scores_KernelIdeal.Facts where
  bcast_S_S1x256x1024 := by decide
  reducesTo_S1x256x1024_S_d0_1_2 := by decide
  h_S_ := by decide
  bcast_S_S1024x1024 := by decide
  reducesTo_S1024x1024_S_d0_1 := by decide
  bcast_S_S1x4096x32x128 := by decide
  reducesTo_S1x4096x32x128_S_d0_1_2_3 := by decide

instance preRef : Cert.Pre_finite_scores_ReferenceIdeal.Facts where
  bcast_S_S1x1024x1024 := by decide
  reducesTo_S1x1024x1024_S_d0_1_2 := by decide
  h_S_ := by decide
  bcast_S_S1024x4096 := by decide
  reducesTo_S1024x4096_S_d0_1 := by decide
  bcast_S_S1x4096x32x128 := by decide
  reducesTo_S1x4096x32x128_S_d0_1_2_3 := by decide

/-- A number whose absolute value is below plus infinity is real. -/
theorem real_of_lt (x : EReal) (h : max x (-x) < ⊤) : ∃ r : ℝ, x = (r : EReal) := by
  refine ⟨x.toReal, (EReal.coe_toReal ?_ ?_).symm⟩
  · rintro rfl; simp at h
  · rintro rfl; simp at h

/-- The same, from the comparison that the precondition makes. -/
theorem real_of_cmp (x : EReal) (h : Ideal.cmp .olt (max x (-x)) (Ideal.ofBits .f32 0x7F800000#32) = 1#1) :
    ∃ r : ℝ, x = (r : EReal) := by
  rw [ofBits_top] at h
  refine real_of_lt x ?_
  by_contra hn
  simp [Ideal.cmp, hn] at h

open Cert.Pre_finite_scores_KernelIdeal Cert.Pre_finite_scores_KernelIdeal.Facts in
/-- The precondition makes every element of the activations, the query weights and the keys real. -/
theorem finite_of_pre (x : FVec Ideal S1x256x1024 .f32) (wq : FVec Ideal S1024x1024 .f32) (k v : FVec Ideal S1x4096x32x128 .f32)
    (wo : FVec Ideal S1024x1024 .f32) (h : Cert.Pre_finite_scores_KernelIdeal.fn (F := Ideal) x wq k v wo = fun _ => 1#1) :
    (∀ i, ∃ r : ℝ, x i = (r : EReal)) ∧ (∀ i, ∃ r : ℝ, wq i = (r : EReal)) ∧ (∀ i, ∃ r : ℝ, k i = (r : EReal)) := by
  have h0 := congrFun h (fun a => a.elim0)
  dsimp only [Cert.Pre_finite_scores_KernelIdeal.fn] at h0
  obtain ⟨h1, hk⟩ := IntOp.andi_eq_one.1 h0
  obtain ⟨hx, hw⟩ := IntOp.andi_eq_one.1 h1
  haveI : Subsingleton S_.Idx := ⟨fun a b => funext fun z => z.elim0⟩
  refine ⟨fun i => ?_, fun i => ?_, fun i => ?_⟩
  · exact real_of_cmp _ (Host.reduce_andi_all _ _ _ _ _ hx i)
  · exact real_of_cmp _ (Host.reduce_andi_all _ _ _ _ _ hw i)
  · exact real_of_cmp _ (Host.reduce_andi_all _ _ _ _ _ hk i)

end Cert.Proof

end

end
-- ==== Proof.Soft.lean ====
module

public import proofs.«01_k».proof.Proof.Consts

/-!
The mathematics between the two programs: a softmax shifted by its greatest score, over all keys, equals the plain
exponentials over their sum, over the keys that can be seen; and sums of products of real numbers, among the extended reals.
-/

@[expose] public section

noncomputable section

namespace Cert.Proof

open Idealize.ShloMosaic

/-! ## Sums -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real factor that is not negative goes into a sum. -/
theorem sum_mul_coe {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih, mul_comm, mul_comm (f a), mul_comm (∑ i ∈ s, f i)]
    exact EReal.left_distrib_of_nonneg_of_ne_top (by exact_mod_cast hc) (EReal.coe_ne_top c) _ _

/-- The greatest of some real numbers and minus infinities, one of them real, is real. -/
theorem fold_real {ι : Type} (s : Finset ι) (f : ι → EReal) (ht : ∀ i, f i ≠ ⊤) (a : ι) (ha : a ∈ s) (hb : f a ≠ ⊥) :
    ∃ μ : ℝ, Finset.fold max ⊥ f s = (μ : EReal) := by
  have h1 : Finset.fold max ⊥ f s ≠ ⊤ := by
    refine ne_of_lt ?_
    rw [Finset.fold_max_lt]
    exact ⟨bot_lt_top, fun i _ => lt_top_iff_ne_top.2 (ht i)⟩
  have h2 : Finset.fold max ⊥ f s ≠ ⊥ := by
    refine ne_of_gt ?_
    rw [Finset.lt_fold_max]
    exact Or.inr ⟨a, ha, bot_lt_iff_ne_bot.2 hb⟩
  exact ⟨_, (EReal.coe_toReal h1 h2).symm⟩

/-- A sum over all keys of terms that vanish after the first 1024. -/
theorem sum_head (f : Fin 4096 → EReal) (h : ∀ j : Fin 4096, 1024 ≤ j.val → f j = 0) :
    ∑ j, f j = ∑ j : Fin 1024, f ⟨j.val, by omega⟩ := by
  have h1 : ∑ j, f j = ∑ i : Fin (1024 + 3072), f i := rfl
  rw [h1, Fin.sum_univ_add]
  have h2 : ∀ i : Fin 3072, f (Fin.natAdd 1024 i) = 0 := fun i => h _ (Nat.le_add_right _ _)
  rw [Finset.sum_congr rfl fun i _ => h2 i]
  simp only [Finset.sum_const_zero, add_zero]
  rfl

/-! ## The softmax -/

section
variable (t : Fin 4096 → ℝ) (B : ℕ)

/-- The plain exponential of a key that is seen, and zero of the others. -/
def plain (j : Fin 4096) : ℝ := if j.val / 64 ≤ B then Real.exp (t j) else 0

theorem plain_nonneg (j : Fin 4096) : 0 ≤ plain t B j := by
  unfold plain; split
  · exact (Real.exp_pos _).le
  · exact le_refl _

theorem plain_far (hB : B ≤ 15) (j : Fin 4096) (hj : 1024 ≤ j.val) : plain t B j = 0 := if_neg (by omega)

theorem total_pos : 0 < ∑ j, plain t B j := by
  refine Finset.sum_pos' (fun j _ => plain_nonneg t B j) ⟨0, Finset.mem_univ _, ?_⟩
  unfold plain; rw [if_pos (by simp)]; exact Real.exp_pos _

/-- The exponential with the mask added. -/
theorem exp_add (j : Fin 4096) : Ideal.exp ((t j : EReal) + (if j.val / 64 ≤ B then (0 : EReal) else ⊥)) = (plain t B j : EReal) := by
  unfold plain; split
  · rw [add_zero]; rfl
  · rw [EReal.add_bot]; rfl

/-- The exponential with the mask selected, shifted. -/
theorem exp_sub (μ : ℝ) (j : Fin 4096) :
    Ideal.exp ((if j.val / 64 ≤ B then (t j : EReal) else ⊥) - (μ : EReal)) = ((plain t B j * Real.exp (-μ) : ℝ) : EReal) := by
  unfold plain; split
  · rw [← EReal.coe_sub, Ideal.exp_coe, sub_eq_add_neg, Real.exp_add]
  · rw [EReal.bot_sub, Ideal.exp_bot, zero_mul]; rfl

/-- The shifted softmax over all keys and the plain one over those of the first 1024, of any values. -/
theorem attend (hB : B ≤ 15) (v : Fin 4096 → EReal) :
    (∑ j : Fin 1024, Ideal.exp ((t ⟨j.val, by omega⟩ : EReal) + (if j.val / 64 ≤ B then (0 : EReal) else ⊥)) * v ⟨j.val, by omega⟩)
        * Ideal.div 1 (∑ j : Fin 1024, Ideal.exp ((t ⟨j.val, by omega⟩ : EReal) + (if j.val / 64 ≤ B then (0 : EReal) else ⊥)))
      = ∑ j : Fin 4096, v j * Ideal.div
          (Ideal.exp ((if j.val / 64 ≤ B then (t j : EReal) else ⊥)
            - Finset.fold max ⊥ (fun j : Fin 4096 => if j.val / 64 ≤ B then (t j : EReal) else ⊥) Finset.univ))
          (∑ j : Fin 4096, Ideal.exp ((if j.val / 64 ≤ B then (t j : EReal) else ⊥)
            - Finset.fold max ⊥ (fun j : Fin 4096 => if j.val / 64 ≤ B then (t j : EReal) else ⊥) Finset.univ)) := by
  obtain ⟨μ, hμ⟩ := fold_real Finset.univ (fun j : Fin 4096 => if j.val / 64 ≤ B then (t j : EReal) else ⊥)
    (fun j => by split <;> simp) 0 (Finset.mem_univ _) (by rw [if_pos (by simp)]; simp)
  rw [hμ]
  have hA : 0 < ∑ j, plain t B j := total_pos t B
  generalize hAe : ∑ j, plain t B j = A at hA
  have hc : 0 < Real.exp (-μ) := Real.exp_pos _
  have e1 : ∀ j : Fin 1024, Ideal.exp ((t ⟨j.val, by omega⟩ : EReal) + (if j.val / 64 ≤ B then (0 : EReal) else ⊥))
      = (plain t B ⟨j.val, by omega⟩ : EReal) := fun j => exp_add t B ⟨j.val, by omega⟩
  have s1 : ∑ j : Fin 1024, (plain t B ⟨j.val, by omega⟩ : EReal) = (A : EReal) := by
    rw [← hAe, coe_sum]
    exact (sum_head (fun j => (plain t B j : EReal)) (fun j hj => by rw [plain_far t B hB j hj]; rfl)).symm
  have s2 : ∑ j : Fin 4096, Ideal.exp ((if j.val / 64 ≤ B then (t j : EReal) else ⊥) - (μ : EReal)) = ((A * Real.exp (-μ) : ℝ) : EReal) := by
    rw [Finset.sum_congr rfl fun j _ => exp_sub t B μ j, ← coe_sum, ← Finset.sum_mul, hAe]
  rw [s2, Finset.sum_congr rfl fun j _ => e1 j, Finset.sum_congr rfl fun j _ => congrArg (· * v _) (e1 j),
    Finset.sum_congr rfl fun j _ => congrArg (fun y => v j * Ideal.div y _) (exp_sub t B μ j)]
  rw [s1, Ideal.div_coe hA.ne', one_mul, sum_mul_coe _ _ _ (by positivity)]
  refine Eq.trans ?_ (sum_head (fun j => v j * Ideal.div ((plain t B j * Real.exp (-μ) : ℝ) : EReal) ((A * Real.exp (-μ) : ℝ) : EReal)) (fun j hj => by
    rw [plain_far t B hB j hj, Ideal.div_coe (mul_pos hA hc).ne', zero_mul, EReal.coe_zero, zero_mul, mul_zero])).symm
  refine Finset.sum_congr rfl fun j _ => ?_
  rw [Ideal.div_coe (mul_pos hA hc).ne', ← EReal.coe_mul, mul_comm (plain t B ⟨j.val, by omega⟩ : EReal), mul_assoc, ← EReal.coe_mul]
  refine congrArg (fun y : ℝ => v ⟨j.val, by omega⟩ * (y : EReal)) ?_
  generalize plain t B ⟨j.val, by omega⟩ = a
  field_simp
end

/-! ## The scores -/

/-- The scale taken into the weights or out of the scores. -/
theorem score_scale {ι κ : Type} [Fintype ι] [Fintype κ] (x : ι → ℝ) (w : ι → κ → ℝ) (k : κ → ℝ) (s : ℝ) :
    ∑ d, (∑ a, (x a : EReal) * ((w a d : EReal) * (s : EReal))) * (k d : EReal) = (((∑ d, (∑ a, x a * w a d) * k d) * s : ℝ) : EReal) := by
  have h : ∀ d, (∑ a, (x a : EReal) * ((w a d : EReal) * (s : EReal))) * (k d : EReal) = (((∑ a, x a * w a d) * k d * s : ℝ) : EReal) := fun d => by
    simp only [← EReal.coe_mul, ← coe_sum]
    have e : ∑ a, x a * (w a d * s) = (∑ a, x a * w a d) * s := by
      rw [Finset.sum_mul]; exact Finset.sum_congr rfl fun a _ => (mul_assoc (x a) (w a d) s).symm
    rw [e, mul_right_comm]
  rw [Finset.sum_congr rfl fun d _ => h d, ← coe_sum, Finset.sum_mul]

theorem score_plain {ι κ : Type} [Fintype ι] [Fintype κ] (x : ι → ℝ) (w : ι → κ → ℝ) (k : κ → ℝ) (s : ℝ) :
    (∑ d, (∑ a, (x a : EReal) * (w a d : EReal)) * (k d : EReal)) * (s : EReal) = (((∑ d, (∑ a, x a * w a d) * k d) * s : ℝ) : EReal) := by
  simp only [← EReal.coe_mul, ← coe_sum]

/-- A sum over 4096 columns, device by device. -/
theorem sum_devices (f : Fin 4096 → EReal) :
    ∑ n, f n = ∑ d : Fin 4, ∑ n : Fin 1024, f ⟨1024 * d.val + n.val, by omega⟩ := by
  rw [← Fintype.sum_prod_type']
  refine (Fintype.sum_equiv (finProdFinEquiv (m := 4) (n := 1024)) _ _ fun p => ?_).symm
  congr 1
  exact Fin.ext (Nat.add_comm _ _)

end Cert.Proof

end

end
-- ==== Proof.RefVal.lean ====
module

public import proofs.«01_k».proof.Proof.Refs
public import proofs.«01_k».proof.Proof.Consts
public import Idealize.ShloMosaic.Lib.Pointwise
public import Idealize.ShloMosaic.Lib.Routing.OpsOrder

/-!
The reference's result over the extended reals, stage by stage: the mask of the causal blocks, the masked scores, the weights,
the context and the output.
-/

@[expose] public section

noncomputable section

namespace Cert.ReferenceIdeal.Value

open Cert.ReferenceIdeal Cert.ReferenceIdeal.Gen
open Idealize.ShloMosaic

set_option maxRecDepth 16384
set_option maxHeartbeats 4000000

/-- The block number of every place along the keys. -/
def keyBlk : IVec S4096 32 :=
  select (andi (cmpi .ne (signi (iotaInDim S4096 32 0)) (broadcastInDim S4096 ![] bcast_S_S4096 (signi (constantI S_ 32 64#32))))
      (cmpi .ne (Host.remsi (iotaInDim S4096 32 0) (broadcastInDim S4096 ![] bcast_S_S4096 (constantI S_ 32 64#32)))
        (broadcastInDim S4096 ![] bcast_S_S4096 (constantI S_ 32 0#32))))
    (subi (Host.divsi (iotaInDim S4096 32 0) (broadcastInDim S4096 ![] bcast_S_S4096 (constantI S_ 32 64#32)))
      (broadcastInDim S4096 ![] bcast_S_S4096 (constantI S_ 32 1#32)))
    (Host.divsi (iotaInDim S4096 32 0) (broadcastInDim S4096 ![] bcast_S_S4096 (constantI S_ 32 64#32)))

/-- The same along the queries. -/
def rowBlk : IVec S1024 32 :=
  select (andi (cmpi .ne (signi (iotaInDim S1024 32 0)) (broadcastInDim S1024 ![] bcast_S_S1024 (signi (constantI S_ 32 64#32))))
      (cmpi .ne (Host.remsi (iotaInDim S1024 32 0) (broadcastInDim S1024 ![] bcast_S_S1024 (constantI S_ 32 64#32)))
        (broadcastInDim S1024 ![] bcast_S_S1024 (constantI S_ 32 0#32))))
    (subi (Host.divsi (iotaInDim S1024 32 0) (broadcastInDim S1024 ![] bcast_S_S1024 (constantI S_ 32 64#32)))
      (broadcastInDim S1024 ![] bcast_S_S1024 (constantI S_ 32 1#32)))
    (Host.divsi (iotaInDim S1024 32 0) (broadcastInDim S1024 ![] bcast_S_S1024 (constantI S_ 32 64#32)))

/-- The keys that a query may see. -/
def seen : IVec S1024x4096 1 :=
  cmpi .sle (broadcastInDim S1024x4096 ![0, 1] bcast_S1x4096_S1024x4096_0_1 (broadcastInDim S1x4096 ![1] bcast_S4096_S1x4096_1 keyBlk))
    (broadcastInDim S1024x4096 ![0, 1] bcast_S1024x1_S1024x4096_0_1 (broadcastInDim S1024x1 ![0] bcast_S1024_S1024x1_0 rowBlk))

/-- The queries that see some key. -/
def rowSees : IVec S1024 1 :=
  Host.reduce IntOp.ori seen (constantI S_ 1 0#1) reducesTo_S1024x4096_S1024_d1 h_S_

/-- The scores of all heads, masked. -/
def scores (x : FVec Ideal S1x1024x1024 .f32) (wq : FVec Ideal S1024x4096 .f32) (k : FVec Ideal S1x4096x32x128 .f32) :
    FVec Ideal S1x32x1024x4096 .f32 :=
  select (broadcastInDim S1x32x1024x4096 ![0, 1, 2, 3] bcast_S1x1x1024x4096_S1x32x1024x4096_0_1_2_3
      (broadcastInDim S1x1x1024x4096 ![2, 3] bcast_S1024x4096_S1x1x1024x4096_2_3 seen))
    (mulf (Host.dotGeneral dot_S1x1024x32x128_S1x4096x32x128_S1x32x1024x4096_3_3_1_1_02_02 none
        (shapeCast _ (Host.dotGeneral dot_S1x1024x1024_S1024x4096_S1x1024x4096_2_0_01_1_n_n none x wq) shapeCasts_S1x1024x4096_S1x1024x32x128) k)
      (broadcastInDim S1x32x1024x4096 ![] bcast_S_S1x32x1024x4096 (constant S_ .f32 0x3DB504F3#32)))
    (broadcastInDim S1x32x1024x4096 ![] bcast_S_S1x32x1024x4096 (constant S_ .f32 0xFF800000#32))

/-- Each row's greatest score. -/
def tops (s : FVec Ideal S1x32x1024x4096 .f32) : FVec Ideal S1x32x1024 .f32 :=
  Host.reduce FloatOps.maximumf s (constant S_ .f32 0xFF800000#32) reducesTo_S1x32x1024x4096_S1x32x1024_d3 h_S_

/-- The exponentials, shifted by the row's greatest score. -/
def expos (s : FVec Ideal S1x32x1024x4096 .f32) : FVec Ideal S1x32x1024x4096 .f32 :=
  Host.exp (subf s (broadcastInDim S1x32x1024x4096 ![0, 1, 2, 3] bcast_S1x32x1024x1_S1x32x1024x4096_0_1_2_3
    (broadcastInDim S1x32x1024x1 ![0, 1, 2] bcast_S1x32x1024_S1x32x1024x1_0_1_2 (tops s))))

/-- The row sums of the exponentials, and one in a row that sees no key. -/
def denoms (b : IVec S1024 1) (w : FVec Ideal S1x32x1024x4096 .f32) : FVec Ideal S1x32x1024x1 .f32 :=
  select (broadcastInDim S1x32x1024x1 ![0, 1, 2, 3] bcast_S1x1x1024x1_S1x32x1024x1_0_1_2_3
      (broadcastInDim S1x1x1024x1 ![2] bcast_S1024_S1x1x1024x1_2 b))
    (broadcastInDim S1x32x1024x1 ![0, 1, 2] bcast_S1x32x1024_S1x32x1024x1_0_1_2
      (Host.reduceAdd w (constant S_ .f32 0x00000000#32) reducesTo_S1x32x1024x4096_S1x32x1024_d3 h_S_))
    (broadcastInDim S1x32x1024x1 ![] bcast_S_S1x32x1024x1 (constant S_ .f32 0x3F800000#32))

/-- The weights: the exponentials over their sum, and nothing in a row that sees no key. -/
def weights (b : IVec S1024 1) (w : FVec Ideal S1x32x1024x4096 .f32) (d : FVec Ideal S1x32x1024x1 .f32) : FVec Ideal S1x32x1024x4096 .f32 :=
  select (broadcastInDim S1x32x1024x4096 ![0, 1, 2, 3] bcast_S1x1x1024x1_S1x32x1024x4096_0_1_2_3
      (broadcastInDim S1x1x1024x1 ![2] bcast_S1024_S1x1x1024x1_2 b))
    (Host.divf w (broadcastInDim S1x32x1024x4096 ![0, 1, 2, 3] bcast_S1x32x1024x1_S1x32x1024x4096_0_1_2_3 d))
    (broadcastInDim S1x32x1024x4096 ![] bcast_S_S1x32x1024x4096 (constant S_ .f32 0x00000000#32))

/-- The weights of the masked scores. -/
def attn (s : FVec Ideal S1x32x1024x4096 .f32) : FVec Ideal S1x32x1024x4096 .f32 :=
  weights rowSees (expos s) (denoms rowSees (expos s))

/-- The output of the weights. -/
def output (p : FVec Ideal S1x32x1024x4096 .f32) (v : FVec Ideal S1x4096x32x128 .f32) (wo : FVec Ideal S4096x1024 .f32) :
    FVec Ideal S1024x1024 .bf16 :=
  truncf .bf16 (shapeCast _ (Host.dotGeneral dot_S1x1024x4096_S4096x1024_S1x1024x1024_2_0_01_1_n_n none
    (shapeCast _ (transpose S1x1024x32x128 [0, 3, 1, 2]
        (Host.dotGeneral dot_S1x4096x32x128_S1x32x1024x4096_S1x32x128x1024_1_3_3_2_02_01 none v p) transposes_S1x32x128x1024_S1x1024x32x128_0_3_1_2)
      shapeCasts_S1x1024x32x128_S1x1024x4096) wo) shapeCasts_S1x1024x1024_S1024x1024) bitsLt_bf16_f32

/-- The result is the output of the weights of the scores. -/
theorem res_eq (m : (ℓ : Loc nD τ sig) → Buf (Elt Ideal) ℓ) (c : Dev nD) :
    res_main_v35 m c = output (attn (scores (m ((c.tc : Thread nD τ).loc main_arg0)) (m ((c.tc : Thread nD τ).loc main_arg1))
      (m ((c.tc : Thread nD τ).loc main_arg2)))) (m ((c.tc : Thread nD τ).loc main_arg3)) (m ((c.tc : Thread nD τ).loc main_arg4)) := rfl

/-- A floor division of a small number by 64, at one word: as the host code spells it out. -/
theorem floor64 : ∀ n : Fin 4096,
    Scalar.select
      (IntOp.andi
        (IntOp.cmpi .ne (if BitVec.ofNat 32 n.val = 0 then (0 : BitVec 32) else if (BitVec.ofNat 32 n.val).msb then -1 else 1) (if 64#32 = 0 then (0 : BitVec 32) else if (64#32).msb then -1 else 1))
        (IntOp.cmpi .ne (IntOp.remsi .host (BitVec.ofNat 32 n.val) 64#32) 0#32))
      (IntOp.subi (IntOp.divsi .host (BitVec.ofNat 32 n.val) 64#32) 1#32)
      (IntOp.divsi .host (BitVec.ofNat 32 n.val) 64#32) = BitVec.ofNat 32 (n.val / 64) := by decide +kernel

theorem keyBlk_apply (j : Fin 4096) : keyBlk (ix1 j) = BitVec.ofNat 32 (j.val / 64) := floor64 j

theorem rowBlk_apply (i : Fin 1024) : rowBlk (ix1 i) = BitVec.ofNat 32 (i.val / 64) := floor64 ⟨i.val, by omega⟩

theorem sle_blocks : ∀ (a : Fin 64) (b : Fin 16), IntOp.cmpi .sle (BitVec.ofNat 32 a.val) (BitVec.ofNat 32 b.val)
    = if a.val ≤ b.val then 1#1 else 0#1 := by decide +kernel

theorem seen_apply (i : Fin 1024) (j : Fin 4096) : seen (ix2 i j) = if j.val / 64 ≤ i.val / 64 then 1#1 else 0#1 := by
  pointwise [seen]
  rw [keyBlk_apply, rowBlk_apply]
  exact sle_blocks ⟨j.val / 64, by omega⟩ ⟨i.val / 64, by omega⟩

theorem scores_apply (x : FVec Ideal S1x1024x1024 .f32) (wq : FVec Ideal S1024x4096 .f32) (k : FVec Ideal S1x4096x32x128 .f32)
    (H : Fin 32) (i : Fin 1024) (j : Fin 4096) : scores x wq k (ix4 0 H i j) = if j.val / 64 ≤ i.val / 64 then
      (∑ d : Fin 128, (∑ a : Fin 1024, x (ix3 0 i a) * wq (ix2 a ⟨H.val * 128 + d.val, by omega⟩)) * k (ix4 0 j H d)) * Ideal.ofBits .f32 0x3DB504F3#32
      else ⊥ := by
  pointwise [scores]
  rw [seen_apply]
  split
  · rfl
  · exact Cert.Proof.ofBits_bottom

theorem tops_apply (s : FVec Ideal S1x32x1024x4096 .f32) (H : Fin 32) (i : Fin 1024) :
    tops s (ix3 0 H i) = Finset.fold max (Ideal.ofBits .f32 0xFF800000#32) (fun j => s (ix4 0 H i j)) Finset.univ := by
  pointwise [tops]

theorem expos_apply (s : FVec Ideal S1x32x1024x4096 .f32) (H : Fin 32) (i : Fin 1024) (j : Fin 4096) :
    expos s (ix4 0 H i j) = Ideal.exp (s (ix4 0 H i j) - tops s (ix3 0 H i)) := by
  pointwise [expos]

theorem rowSees_apply (i : Fin 1024) : rowSees (ix1 i) = 1#1 := by
  pointwise [rowSees]
  refine (Routing.fold_ori _ _).2 ⟨0, Finset.mem_univ _, ?_⟩
  rw [seen_apply]; exact if_pos (by simp)

theorem denoms_apply (b : IVec S1024 1) (w : FVec Ideal S1x32x1024x4096 .f32) (H : Fin 32) (i : Fin 1024) (hb : b (ix1 i) = 1#1) :
    denoms b w (ix4 0 H i 0) = ∑ j, w (ix4 0 H i j) := by
  pointwise [denoms]
  rw [hb]; rfl

theorem weights_apply (b : IVec S1024 1) (w : FVec Ideal S1x32x1024x4096 .f32) (d : FVec Ideal S1x32x1024x1 .f32)
    (H : Fin 32) (i : Fin 1024) (j : Fin 4096) (hb : b (ix1 i) = 1#1) :
    weights b w d (ix4 0 H i j) = Ideal.div (w (ix4 0 H i j)) (d (ix4 0 H i 0)) := by
  pointwise [weights]
  rw [hb]; rfl

theorem attn_apply (s : FVec Ideal S1x32x1024x4096 .f32) (H : Fin 32) (i : Fin 1024) (j : Fin 4096) :
    attn s (ix4 0 H i j) = Ideal.div (expos s (ix4 0 H i j)) (∑ j, expos s (ix4 0 H i j)) := by
  unfold attn
  rw [weights_apply _ _ _ _ _ _ (rowSees_apply i), denoms_apply _ _ _ _ (rowSees_apply i)]

theorem output_apply (p : FVec Ideal S1x32x1024x4096 .f32) (v : FVec Ideal S1x4096x32x128 .f32) (wo : FVec Ideal S4096x1024 .f32)
    (i y : Fin 1024) : output p v wo (ix2 i y) =
      ∑ n : Fin 4096, (∑ j : Fin 4096, v (ix4 0 j ⟨n.val / 128, by omega⟩ ⟨n.val % 128, by omega⟩) * p (ix4 0 ⟨n.val / 128, by omega⟩ i j)) * wo (ix2 n y) := by
  pointwise [output]

end Cert.ReferenceIdeal.Value

end

end
-- ==== Proof.KerVal.lean ====
module

public import proofs.«01_k».proof.Proof.Body
public import proofs.«01_k».proof.Proof.Consts
public import Idealize.ShloMosaic.Lib.Pointwise

/-!
The kernel's values over the extended reals, place by place: one head, the queries, the partial sums and the four masks.
-/

@[expose] public section

noncomputable section

namespace Cert.KernelIdeal.Run

open Cert.KernelIdeal Cert.KernelIdeal.Gen
open Idealize.ShloMosaic

set_option maxRecDepth 16384
set_option maxHeartbeats 4000000

/-- The exponential of a score, at a query and a key of one head. -/
def wAt (q b : FVec Ideal S256x1024 .f32) (h : Fin 8) (kb : Vec Ideal S1x1024x128 .bf16) (r : Fin 256) (j : Fin 1024) : EReal :=
  Ideal.exp ((∑ d : Fin 128, q (ix2 r ⟨128 * h.val + d.val, by omega⟩) * kb (ix3 0 j d)) + b (ix2 r j))

/-- One head at a place. -/
theorem headVal_apply (q b : FVec Ideal S256x1024 .f32) (h : Fin 8) (kb vb : Vec Ideal S1x1024x128 .bf16) (r : Fin 256) (e : Fin 128) :
    headVal q b h kb vb (ix2 r e) =
      (∑ j, wAt q b h kb r j * vb (ix3 0 j e)) * Ideal.div 1 (∑ j, wAt q b h kb r j) := by
  pointwise [headVal]
  rfl

theorem queryVal_apply (xa : FVec Ideal S256x1024 .bf16) (wq : Vec Ideal S1024x1024 .bf16) (r : Fin 256) (n : Fin 1024) :
    queryVal xa wq (ix2 r n) = ∑ a : Fin 1024, xa (ix2 r a) * wq (ix2 a n) := by
  pointwise [queryVal]

theorem outMul_apply (cx : Vec Ideal S256x1024 .bf16) (wo : Vec Ideal S1024x1024 .bf16) (r : Fin 256) (n : Fin 1024) :
    outMul cx wo (ix2 r n) = ∑ a : Fin 1024, cx (ix2 r a) * wo (ix2 a n) := by
  pointwise [outMul]

theorem pay2_apply (v : Vec Ideal S1024x1024 .f32) (r : Fin 1024) (n : Fin 1024) :
    k0_pay2 v (ix2 r n) = v (ix2 r n) * Ideal.ofBits .f32 0x3DB504F3#32 := by
  pointwise [k0_pay2]

theorem pay21_apply (v : Vec Ideal S1024x1024 .f32) (r : Fin 1024) (n : Fin 1024) : k0_pay21 v (ix2 r n) = v (ix2 r n) := by
  pointwise [k0_pay21]

theorem sumVal_apply (p : FVec Ideal S256x1024 .f32) (a b d : FVec Ideal S256x1024 .bf16) (r : Fin 256) (n : Fin 1024) :
    sumVal p a b d (ix2 r n) = (p (ix2 r n) + a (ix2 r n)) + (b (ix2 r n) + d (ix2 r n)) := by
  pointwise [sumVal]

theorem ctxVal_apply (q b : FVec Ideal S256x1024 .f32) (kb vb : Fin 8 → Vec Ideal S1x1024x128 .bf16) (r : Fin 256) (n : Fin 1024) :
    ctxVal q b kb vb (ix2 r n) = headVal q b ⟨n.val / 128, by omega⟩ (kb ⟨n.val / 128, by omega⟩) (vb ⟨n.val / 128, by omega⟩)
      (ix2 r ⟨n.val % 128, by omega⟩) := by
  have hi : inHead (ix2 r n) = ix2 r ⟨n.val % 128, by omega⟩ := by
    funext a
    refine Fin.cases ?_ (fun a => Fin.cases ?_ (fun a => a.elim0) a) a <;> rfl
  unfold ctxVal; rw [hi]; rfl

/-! ## The masks -/

theorem select_of {α : Type} {b : BitVec 1} {P : Prop} [Decidable P] (h : b = if P then 1#1 else 0#1) (x y : α) :
    Scalar.select b x y = if P then x else y := by
  subst h; by_cases hP : P
  · rw [if_pos hP, if_pos hP]; rfl
  · rw [if_neg hP, if_neg hP]; rfl

theorem rowK (r : Fin 256) (n : Fin 1024) : k0_pay22 (ix2 r n) = BitVec.ofNat 32 (r.val / 64) := by
  pointwise [k0_pay22]
  clear n
  revert r; decide +kernel

theorem colK (r : Fin 256) (n : Fin 1024) : k0_pay25 k0_pay23 k0_pay24 (ix2 r n) = BitVec.ofNat 32 (n.val / 64) := by
  pointwise [k0_pay25, k0_pay23, k0_pay24]
  clear r
  revert n; decide +kernel

theorem maskBot : (Named.named (F := Ideal) (φ := .f32) κ "mask" 0xCE6E6B28#32) = (⊥ : EReal) := rfl

/-- Where a mask's block comes from. -/
def orig (i : Fin 4) (c : Dev nD) : Fin 4 := ⟨(c.val + (![0, 3, 1, 2] : Fin 4 → ℕ) i) % 4, Nat.mod_lt _ (by decide)⟩

theorem mask0 (c : Dev nD) (r : Fin 256) (n : Fin 1024) :
    maskVal (F := Ideal) c 0 (ix2 r n) = if n.val / 64 ≤ r.val / 64 + 4 * (orig 0 c).val then 0 else ⊥ := by
  pointwise [maskVal, k0_pay26]
  rw [rowK, colK]
  refine select_of ?_ _ _
  have hr : r.val / 64 < 4 := by omega
  have hn : n.val / 64 < 16 := by omega
  generalize r.val / 64 = a at hr ⊢
  generalize n.val / 64 = b at hn ⊢
  revert c b a; decide +kernel

theorem mask1 (c : Dev nD) (r : Fin 256) (n : Fin 1024) :
    maskVal (F := Ideal) c 1 (ix2 r n) = if n.val / 64 ≤ r.val / 64 + 4 * (orig 1 c).val then 0 else ⊥ := by
  pointwise [maskVal, k0_pay28, k0_pay27]
  rw [rowK, colK]
  refine select_of ?_ _ _
  have hr : r.val / 64 < 4 := by omega
  have hn : n.val / 64 < 16 := by omega
  generalize r.val / 64 = a at hr ⊢
  generalize n.val / 64 = b at hn ⊢
  revert c b a; decide +kernel

theorem mask2 (c : Dev nD) (r : Fin 256) (n : Fin 1024) :
    maskVal (F := Ideal) c 2 (ix2 r n) = if n.val / 64 ≤ r.val / 64 + 4 * (orig 2 c).val then 0 else ⊥ := by
  pointwise [maskVal, k0_pay29]
  rw [rowK, colK]
  refine select_of ?_ _ _
  have hr : r.val / 64 < 4 := by omega
  have hn : n.val / 64 < 16 := by omega
  generalize r.val / 64 = a at hr ⊢
  generalize n.val / 64 = b at hn ⊢
  revert c b a; decide +kernel

theorem mask3 (c : Dev nD) (r : Fin 256) (n : Fin 1024) :
    maskVal (F := Ideal) c 3 (ix2 r n) = if n.val / 64 ≤ r.val / 64 + 4 * (orig 3 c).val then 0 else ⊥ := by
  pointwise [maskVal, k0_pay30]
  rw [rowK, colK]
  refine select_of ?_ _ _
  have hr : r.val / 64 < 4 := by omega
  have hn : n.val / 64 < 16 := by omega
  generalize r.val / 64 = a at hr ⊢
  generalize n.val / 64 = b at hn ⊢
  revert c b a; decide +kernel

theorem mask_apply (c : Dev nD) (i : Fin 4) (r : Fin 256) (n : Fin 1024) :
    maskVal (F := Ideal) c i (ix2 r n) = if n.val / 64 ≤ r.val / 64 + 4 * (orig i c).val then 0 else ⊥ := by
  match i with
  | 0 => exact mask0 c r n
  | 1 => exact mask1 c r n
  | 2 => exact mask2 c r n
  | 3 => exact mask3 c r n

end Cert.KernelIdeal.Run

end

end
-- ==== Proof.KerMem.lean ====
module

public import proofs.«01_k».proof.Proof.Launch
public import proofs.«01_k».proof.Proof.KerVal
public import Idealize.ShloMosaic.Lib.Pipeline.ValueKit

/-!
What the kernel's values read of its arguments, place by place, and its result array at the end of the run.
-/

@[expose] public section

noncomputable section

namespace Cert.KernelIdeal.Run

open Cert.KernelIdeal Cert.KernelIdeal.Gen
open Idealize.ShloMosaic
open Idealize.ShloMosaic.TcCoe

set_option maxRecDepth 16384
set_option maxHeartbeats 4000000

variable (m : (ℓ : Loc nD τ sig) → Buf (Elt Ideal) ℓ)

/-- A device's arguments, as arrays. -/
abbrev argX (c : Dev nD) : S1x256x1024.Idx → EReal := m ((c.tc : Thread nD τ).loc main_arg0)
abbrev argWq (c : Dev nD) : S1024x1024.Idx → EReal := m ((c.tc : Thread nD τ).loc main_arg1)
abbrev argK (c : Dev nD) : S1x4096x32x128.Idx → EReal := m ((c.tc : Thread nD τ).loc main_arg2)
abbrev argV (c : Dev nD) : S1x4096x32x128.Idx → EReal := m ((c.tc : Thread nD τ).loc main_arg3)
abbrev argWo (c : Dev nD) : S1024x1024.Idx → EReal := m ((c.tc : Thread nD τ).loc main_arg4)

theorem xstg_eq (c : Dev nD) : (xstg m c : S1x256x1024.Idx → EReal) = argX m c := by
  unfold xstg
  funext i
  show m ((c.tc : Thread nD τ).loc main_arg0) ((win0_0.blk (0 : Fin 1)).view.emb i) = _
  congr 1
  funext a
  exact Fin.ext (by blk_simp; show 0 * _ + _ = _; rw [Nat.zero_mul, Nat.zero_add])

theorem Xv_apply (c : Dev nD) (r : Fin 256) (n : Fin 1024) : Xv m c (ix2 r n) = argX m c (ix3 0 r n) := by
  unfold Xv
  rw [show (xM.view.read (Elt Ideal) (xstg m c) : FVec Ideal S1x256x1024 .f32) = argX m c from xstg_eq m c]
  pointwise

theorem wqV_apply (c : Dev nD) (a n : Fin 1024) : wqV m c (ix2 a n) = argWq m c (ix2 a n) * Ideal.ofBits .f32 0x3DB504F3#32 := by
  unfold wqV
  rw [pay2_apply]; rfl

theorem woV_apply (c : Dev nD) (a n : Fin 1024) : woV m c (ix2 a n) = argWo m c (ix2 a n) := by
  unfold woV
  rw [pay21_apply]; rfl

/-- The heads of device `c` start at head `8c`. -/
theorem off_head : ∀ (c : Dev nD) (h : Fin 8), k0_off1 c (BitVec.ofNat 32 h.val) 2 = 8 * c.val + h.val := by decide +kernel

theorem headLt (c : Dev nD) (h : Fin 8) : 8 * c.val + h.val < 32 := by have := c.isLt; change c.val < 4 at this; omega

theorem squeezed : S1x1024x1x128.ShapeCasts S1024x128 := by decide

theorem cast_apply (g : S1x1024x1x128.Idx → EReal) (j : Fin 1024) (d : Fin 128) :
    (shapeCast S1024x128 (g : FVec Ideal S1x1024x1x128 .f32) squeezed : FVec Ideal S1024x128 .f32) (ix2 j d) = g (ix4 0 j 0 d) := by
  pointwise

theorem kwin_apply (f : S1x4096x32x128.Idx → EReal) (c : Dev nD) (h : Fin 8) (j : Fin 1024) (d : Fin 128) :
    (kwin c h).view.read (Elt Ideal) f (ix2 j d) = f (ix4 0 ⟨j.val, by omega⟩ ⟨8 * c.val + h.val, headLt c h⟩ d) := by
  show shapeCast S1024x128 ((kH.slice (Rect.unit (s := S1x4096x32x128) (k0_off1 c (BitVec.ofNat 32 h.val)) S1x1024x1x128.size
      (k0_off1_inb c h)) (fun _ => rfl)).view.read (Elt Ideal) f) squeezed (ix2 j d) = _
  refine (cast_apply _ j d).trans ?_
  refine congrArg f (funext fun a => Fin.ext ?_)
  show k0_off1 c (BitVec.ofNat 32 h.val) a + 1 * ((ix4 0 j 0 d : S1x1024x1x128.Idx) a).val = _
  fin_cases a
  · rfl
  · show 0 + 1 * j.val = j.val
    omega
  · show k0_off1 c (BitVec.ofNat 32 h.val) 2 + 1 * 0 = _
    rw [off_head]
    rfl
  · show 0 + 1 * d.val = d.val
    omega

theorem kbV_apply (c : Dev nD) (h : Fin 8) (j : Fin 1024) (d : Fin 128) :
    kbV m c h (ix3 0 j d) = argK m c (ix4 0 ⟨j.val, by omega⟩ ⟨8 * c.val + h.val, headLt c h⟩ d) := by
  unfold kbV
  rw [← kwin_apply (argK m c) c h j d]
  pointwise

theorem vwin_apply (f : S1x4096x32x128.Idx → EReal) (c : Dev nD) (h : Fin 8) (j : Fin 1024) (d : Fin 128) :
    (vwin c h).view.read (Elt Ideal) f (ix2 j d) = f (ix4 0 ⟨j.val, by omega⟩ ⟨8 * c.val + h.val, headLt c h⟩ d) := by
  show shapeCast S1024x128 ((vH.slice (Rect.unit (s := S1x4096x32x128) (k0_off1 c (BitVec.ofNat 32 h.val)) S1x1024x1x128.size
      (k0_off1_inb c h)) (fun _ => rfl)).view.read (Elt Ideal) f) squeezed (ix2 j d) = _
  refine (cast_apply _ j d).trans ?_
  refine congrArg f (funext fun a => Fin.ext ?_)
  show k0_off1 c (BitVec.ofNat 32 h.val) a + 1 * ((ix4 0 j 0 d : S1x1024x1x128.Idx) a).val = _
  fin_cases a
  · rfl
  · show 0 + 1 * j.val = j.val
    omega
  · show k0_off1 c (BitVec.ofNat 32 h.val) 2 + 1 * 0 = _
    rw [off_head]
    rfl
  · show 0 + 1 * d.val = d.val
    omega

theorem vbV_apply (c : Dev nD) (h : Fin 8) (j : Fin 1024) (d : Fin 128) :
    vbV m c h (ix3 0 j d) = argV m c (ix4 0 ⟨j.val, by omega⟩ ⟨8 * c.val + h.val, headLt c h⟩ d) := by
  unfold vbV
  rw [← vwin_apply (argV m c) c h j d]
  pointwise

theorem finalA_out (c : Dev nD) : (finalA m c (1 : Fin 2) : S256x1024.Idx → EReal) = outV m c := by
  have h : (win0_1.blk (0 : Fin 1)).view.read (Elt Ideal) (finalA m c (1 : Fin 2)) = outV m c := by
    unfold finalA
    rw [show cfg0.N = ((0 : Fin 1) : Fin cfg0.N).val + 1 from rfl, (dats m 0 c).arrAt_succ (1 : Fin 2) (0 : Fin 1),
      show (cfg0.win (1 : Fin 2)).flush (0 : Fin 1) = true from by decide, if_pos rfl]
    exact View.read_write_univ _ _
  rw [← h]
  funext i
  show _ = finalA m c (1 : Fin 2) ((win0_1.blk (0 : Fin 1)).view.emb i)
  congr 1
  funext a
  exact Fin.ext (by blk_simp; show _ = 0 * _ + _; rw [Nat.zero_mul, Nat.zero_add])

end Cert.KernelIdeal.Run

end

end
-- ==== Proof.Value.lean ====
module

public import proofs.«01_k».proof.Proof.Finite
public import proofs.«01_k».proof.Proof.Soft
public import proofs.«01_k».proof.Proof.RefVal
public import proofs.«01_k».proof.Proof.KerMem

/-!
The value of the kernel: each device's share of a block of the result is the part of the reference's sum over that device's heads,
the four shares together are the reference's rows.
-/

@[expose] public section

noncomputable section

namespace Cert.Proof

open Cert.KernelIdeal Cert.KernelIdeal.Gen Cert.KernelIdeal.Run
open Idealize.ShloMosaic Idealize.SL.Sem
open Cert.ReferenceIdeal.Value (scores attn output expos tops scores_apply attn_apply expos_apply tops_apply output_apply)

set_option maxRecDepth 16384
set_option maxHeartbeats 2000000

theorem devLt (c : Dev nD) : c.val < 4 := c.isLt

/-- Row `r` of device `c`'s block, in the whole array. -/
def rowOf (c : Dev nD) (r : Fin 256) : Fin 1024 := ⟨c.val * 256 + r.val, by have := devLt c; omega⟩
/-- Column `n` of device `c`'s block, in the whole array. -/
def colOf (c : Dev nD) (n : Fin 1024) : Fin 4096 := ⟨c.val * 1024 + n.val, by have := devLt c; omega⟩
/-- Head `h` of device `c`, among all. -/
def headOf (c : Dev nD) (h : Fin 8) : Fin 32 := ⟨8 * c.val + h.val, headLt c h⟩

variable (m : (ℓ : Loc nD τ sig) → Buf (Elt Ideal) ℓ)

/-- The devices hold the blocks of five whole arrays, of which the first three are real. -/
structure Holds (X : FVec Ideal ⟨3, ![1, 1024, 1024]⟩ .f32) (WQ : FVec Ideal ⟨2, ![1024, 4096]⟩ .f32)
    (K V : FVec Ideal ⟨4, ![1, 4096, 32, 128]⟩ .f32) (WO : FVec Ideal ⟨2, ![4096, 1024]⟩ .f32) : Prop where
  x : ∀ c r a, argX m c (ix3 0 r a) = X (ix3 0 (rowOf c r) a)
  wq : ∀ c a n, argWq m c (ix2 a n) = WQ (ix2 a (colOf c n))
  k : ∀ c, argK m c = K
  v : ∀ c, argV m c = V
  wo : ∀ c n p, argWo m c (ix2 n p) = WO (ix2 (colOf c n) p)
  xReal : ∀ c r a, ∃ t : ℝ, argX m c (ix3 0 r a) = (t : EReal)
  wqReal : ∀ c a n, ∃ t : ℝ, argWq m c (ix2 a n) = (t : EReal)
  kReal : ∀ j h d, ∃ t : ℝ, K (ix4 0 j h d) = (t : EReal)

variable {m} {X : FVec Ideal ⟨3, ![1, 1024, 1024]⟩ .f32} {WQ : FVec Ideal ⟨2, ![1024, 4096]⟩ .f32}
  {K V : FVec Ideal ⟨4, ![1, 4096, 32, 128]⟩ .f32} {WO : FVec Ideal ⟨2, ![4096, 1024]⟩ .f32}

/-- One head on device `d`, for the rows of device `o`: the reference's context there. -/
theorem head_eq (H : Holds m X WQ K V WO) (d o : Dev nD) (i : Fin 4) (ho : (orig i d).val = o.val) (h : Fin 8) (r : Fin 256) (e : Fin 128) :
    headVal (queryVal (Xv m o) (wqV m d)) (maskVal d i) h (kbV m d h) (vbV m d h) (ix2 r e)
      = ∑ j : Fin 4096, V (ix4 0 j (headOf d h) e) * attn (scores X WQ K) (ix4 0 (headOf d h) (rowOf o r) j) := by
  obtain ⟨s, hs⟩ := ofBits_scale
  choose xr hxr using H.xReal o r
  choose wr hwr using fun a (dd : Fin 128) => H.wqReal d a ⟨128 * h.val + dd.val, by omega⟩
  choose kr hkr using fun j => H.kReal j (headOf d h)
  have hB : r.val / 64 + 4 * o.val ≤ 15 := by have := devLt o; omega
  have hrow : (rowOf o r).val / 64 = r.val / 64 + 4 * o.val := by unfold rowOf; dsimp only; omega
  have hw : ∀ j : Fin 1024, wAt (queryVal (Xv m o) (wqV m d)) (maskVal d i) h (kbV m d h) r j
      = Ideal.exp ((((∑ dd, (∑ a, xr a * wr a dd) * kr ⟨j.val, by omega⟩ dd) * s : ℝ) : EReal)
        + (if j.val / 64 ≤ r.val / 64 + 4 * o.val then (0 : EReal) else ⊥)) := fun j => by
    unfold wAt
    rw [mask_apply, ho, ← score_scale]
    simp only [queryVal_apply, Xv_apply, wqV_apply, kbV_apply, H.k, hxr, hwr, hs]
    simp only [← hkr]
    rfl
  have hsc : ∀ j : Fin 4096, scores X WQ K (ix4 0 (headOf d h) (rowOf o r) j)
      = if j.val / 64 ≤ r.val / 64 + 4 * o.val then (((∑ dd, (∑ a, xr a * wr a dd) * kr j dd) * s : ℝ) : EReal) else ⊥ := fun j => by
    rw [scores_apply, hrow, ← score_plain, hs]
    have hx : ∀ a, X (ix3 0 (rowOf o r) a) = (xr a : EReal) := fun a => (H.x o r a).symm.trans (hxr a)
    have hq : ∀ a (dd : Fin 128), WQ (ix2 a ⟨(headOf d h).val * 128 + dd.val, by omega⟩) = (wr a dd : EReal) := fun a dd => by
      rw [← hwr, H.wq]
      refine congrArg WQ (congrArg (ix2 a) (Fin.ext ?_))
      show (8 * d.val + h.val) * 128 + dd.val = d.val * 1024 + (128 * h.val + dd.val)
      omega
    simp only [hx, hq, hkr]
  rw [headVal_apply]
  simp only [hw, vbV_apply, H.v, attn_apply, expos_apply, tops_apply, ofBits_bottom, hsc]
  exact attend (fun j => (∑ dd, (∑ a, xr a * wr a dd) * kr j dd) * s) (r.val / 64 + 4 * o.val) hB (fun j => V (ix4 0 j (headOf d h) e))

/-- A device's share for the rows of device `o`: the reference's sum over that device's columns. -/
theorem share_eq_part (H : Holds m X WQ K V WO) (d o : Dev nD) (i : Fin 4) (ho : (orig i d).val = o.val) (r : Fin 256) (p : Fin 1024) :
    shareV m d (Xv m o) i (ix2 r p) = ∑ n : Fin 1024, (∑ j : Fin 4096, V (ix4 0 j ⟨(colOf d n).val / 128, by omega⟩ ⟨(colOf d n).val % 128, by omega⟩)
      * attn (scores X WQ K) (ix4 0 ⟨(colOf d n).val / 128, by omega⟩ (rowOf o r) j)) * WO (ix2 (colOf d n) p) := by
  unfold shareV partVal
  rw [outMul_apply]
  refine Finset.sum_congr rfl fun n _ => ?_
  rw [ctxVal_apply, head_eq H d o i ho, woV_apply, H.wo]
  have h1 : headOf d ⟨n.val / 128, by omega⟩ = ⟨(colOf d n).val / 128, by omega⟩ := Fin.ext (by unfold headOf colOf; dsimp only; omega)
  have h2 : (⟨n.val % 128, by omega⟩ : Fin 128) = ⟨(colOf d n).val % 128, by omega⟩ := Fin.ext (by unfold colOf; dsimp only; omega)
  rw [h1, h2]

/-- The four shares, in the order the kernel adds them. -/
theorem four (c : Dev nD) (f : Fin 4 → EReal) : (f c + f (frm 0 c)) + (f (frm 1 c) + f (frm 2 c)) = ∑ d, f d := by
  have h : ∀ c : Dev nD, ({c, frm 0 c, frm 1 c, frm 2 c} : Finset (Fin 4)) = Finset.univ ∧ c ∉ ({frm 0 c, frm 1 c, frm 2 c} : Finset (Fin 4))
      ∧ frm 0 c ∉ ({frm 1 c, frm 2 c} : Finset (Fin 4)) ∧ frm 1 c ∉ ({frm 2 c} : Finset (Fin 4)) := by decide
  obtain ⟨h0, h1, h2, h3⟩ := h c
  rw [← h0, Finset.sum_insert h1, Finset.sum_insert h2, Finset.sum_insert h3, Finset.sum_singleton, add_assoc]

theorem back0 : ∀ c : Dev nD, frm 1 (frm 0 c) = c := by decide
theorem back1 : ∀ c : Dev nD, frm 0 (frm 1 c) = c := by decide
theorem back2 : ∀ c : Dev nD, frm 2 (frm 2 c) = c := by decide
theorem from0 : ∀ c : Dev nD, (orig 2 (frm 0 c)).val = c.val := by decide
theorem from1 : ∀ c : Dev nD, (orig 1 (frm 1 c)).val = c.val := by decide
theorem from2 : ∀ c : Dev nD, (orig 3 (frm 2 c)).val = c.val := by decide
theorem fromSelf : ∀ c : Dev nD, (orig 0 c).val = c.val := by decide

/-- A device's result is its rows of the reference's. -/
theorem out_eq (H : Holds m X WQ K V WO) (c : Dev nD) (r : Fin 256) (p : Fin 1024) :
    outV m c (ix2 r p) = output (attn (scores X WQ K)) V WO (ix2 (rowOf c r) p) := by
  have y0 : (Yv m 0 (frm 0 c) : S256x1024.Idx → EReal) (ix2 r p) = shareV m (frm 0 c) (Xv m c) 2 (ix2 r p) := by
    show shareV m (frm 0 c) (Xv m (frm 1 (frm 0 c))) 2 (ix2 r p) = _
    rw [back0]
  have y1 : (Yv m 1 (frm 1 c) : S256x1024.Idx → EReal) (ix2 r p) = shareV m (frm 1 c) (Xv m c) 1 (ix2 r p) := by
    show shareV m (frm 1 c) (Xv m (frm 0 (frm 1 c))) 1 (ix2 r p) = _
    rw [back1]
  have y2 : (Yv m 2 (frm 2 c) : S256x1024.Idx → EReal) (ix2 r p) = shareV m (frm 2 c) (Xv m c) 3 (ix2 r p) := by
    show shareV m (frm 2 c) (Xv m (frm 2 (frm 2 c))) 3 (ix2 r p) = _
    rw [back2]
  unfold outV
  rw [sumVal_apply, y0, y1, y2, share_eq_part H c c 0 (fromSelf c), share_eq_part H (frm 0 c) c 2 (from0 c),
    share_eq_part H (frm 1 c) c 1 (from1 c), share_eq_part H (frm 2 c) c 3 (from2 c), output_apply, sum_devices]
  refine (four c fun d => ∑ n : Fin 1024, (∑ j : Fin 4096, V (ix4 0 j ⟨(colOf d n).val / 128, by omega⟩ ⟨(colOf d n).val % 128, by omega⟩)
      * attn (scores X WQ K) (ix4 0 ⟨(colOf d n).val / 128, by omega⟩ (rowOf c r) j)) * WO (ix2 (colOf d n) p)).trans ?_
  refine Finset.sum_congr rfl fun d _ => Finset.sum_congr rfl fun n _ => ?_
  have h1 : (⟨1024 * d.val + n.val, by omega⟩ : Fin 4096) = colOf d n := Fin.ext (by unfold colOf; dsimp only; omega)
  rw [h1]

end Cert.Proof

end

end
-- ==== Proof.Algebraic.lean ====
module

public import proofs.«01_k».proof.Proof.Value
public import proofs.«01_k».proof.Proof.Frames

/-!
The value claim: run on blocks of the reference's arguments, the four devices end with the blocks of the reference's result.
-/

@[expose] public section

noncomputable section

namespace Cert.Proof

open Cert.KernelIdeal Cert.KernelIdeal.Gen Cert.KernelIdeal.Run
open Idealize.ShloMosaic Idealize.SL.Sem

set_option maxRecDepth 16384
set_option maxHeartbeats 2000000

/-- A block of rows, at a place. -/
theorem rows_apply (v : (⟨2, ![1024, 1024]⟩ : Shape).Idx → EReal) (c : Fin 4) (r : Fin 256) (p : Fin 1024) :
    Layout.block ⟨2, ![256, 1024]⟩ ⟨2, ![1024, 1024]⟩ 0 4 c v (by decide) (ix2 r p) = v (ix2 (rowOf c r) p) := by
  refine congrArg v (funext fun a => ?_)
  fin_cases a <;> rfl

theorem x_apply (v : (⟨3, ![1, 1024, 1024]⟩ : Shape).Idx → EReal) (c : Fin 4) (r : Fin 256) (p : Fin 1024) :
    Layout.block ⟨3, ![1, 256, 1024]⟩ ⟨3, ![1, 1024, 1024]⟩ 1 4 c v (by decide) (ix3 0 r p) = v (ix3 0 (rowOf c r) p) := by
  refine congrArg v (funext fun a => ?_)
  fin_cases a <;> rfl

theorem wq_apply (v : (⟨2, ![1024, 4096]⟩ : Shape).Idx → EReal) (c : Fin 4) (a n : Fin 1024) :
    Layout.block ⟨2, ![1024, 1024]⟩ ⟨2, ![1024, 4096]⟩ 1 4 c v (by decide) (ix2 a n) = v (ix2 a (colOf c n)) := by
  refine congrArg v (funext fun a => ?_)
  fin_cases a <;> rfl

theorem wo_apply (v : (⟨2, ![4096, 1024]⟩ : Shape).Idx → EReal) (c : Fin 4) (n p : Fin 1024) :
    Layout.block ⟨2, ![1024, 1024]⟩ ⟨2, ![4096, 1024]⟩ 0 4 c v (by decide) (ix2 n p) = v (ix2 (colOf c n) p) := by
  refine congrArg v (funext fun a => ?_)
  fin_cases a <;> rfl

/-- Every index of a device's block of the result is a row and a column. -/
theorem idx_rows (i : S256x1024.Idx) : i = ix2 (i 0) (i 1) := by
  funext a
  fin_cases a <;> rfl

/-- The value claim. -/
theorem algebraic : Cert.algebraic_KernelIdeal_ReferenceIdeal_pre_finite_scores_KernelIdeal := fun m g m' g' hpre hargs => by
  have hfin := fun c => finite_of_pre _ _ _ _ _ (hpre c)
  have H : Holds m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) :=
    { x := fun c r a => (congrFun (hargs c).1 (ix3 0 r a)).trans (x_apply _ c r a)
      wq := fun c a n => (congrFun (hargs c).2.1 (ix2 a n)).trans (wq_apply _ c a n)
      k := fun c => (hargs c).2.2.1
      v := fun c => (hargs c).2.2.2.1
      wo := fun c n p => (congrFun (hargs c).2.2.2.2 (ix2 n p)).trans (wo_apply _ c n p)
      xReal := fun c r a => (hfin c).1 _
      wqReal := fun c a n => (hfin c).2.1 _
      kReal := fun j h d => by
        have := (hfin (0 : Dev nD)).2.2 (ix4 0 j h d)
        rwa [(hargs 0).2.2.1] at this }
  refine ⟨Cert.ReferenceIdeal.Value.res_main_v35 (F := Ideal) m' 0, ?_, ?_⟩
  · refine (θ_run (Cert.KernelIdeal.defs (F := Ideal)) _ _).mono (fun r h c => ⟨?_, ((h.1 c).1 0).trans (finalA_x m c), (h.1 c).2⟩)
      (run_main (F := Ideal) m g)
    refine ((h.1 c).1 1).trans ((finalA_out m c).trans (funext fun i => ?_))
    rw [idx_rows i, Cert.ReferenceIdeal.Value.res_eq]
    exact (out_eq H c (i 0) (i 1)).trans (rows_apply _ c (i 0) (i 1)).symm
  · exact (θ_run (Cert.ReferenceIdeal.defs (F := Ideal)) _ _).mono (fun r h => h 0) (Cert.ReferenceIdeal.Value.run (F := Ideal) m' g')

end Cert.Proof

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Refs
public import proofs.«01_k».proof.Proof.Algebraic
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    preKer, preRef, frame_kernel, frame_ideal, fun m ρ _ => frame_ideal m ρ trivial, frame_reference,
    fun m ρ _ => frame_reference m ρ trivial, preserves, algebraic⟩

end Cert.Proof

end
